-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v39_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x2048x4x64 : Shape := ⟨4, ![8, 2048, 4, 64]⟩
abbrev S8x2304x4x64 : Shape := ⟨4, ![8, 2304, 4, 64]⟩
abbrev S8x2304x4x128 : Shape := ⟨4, ![8, 2304, 4, 128]⟩
abbrev S8x2048x8x64 : Shape := ⟨4, ![8, 2048, 8, 64]⟩
abbrev S8x2304x2x64 : Shape := ⟨4, ![8, 2304, 2, 64]⟩
abbrev S64 : Shape := ⟨1, ![64]⟩
abbrev S128 : Shape := ⟨1, ![128]⟩
abbrev S1024x1024 : Shape := ⟨2, ![1024, 1024]⟩
abbrev S1024x5632 : Shape := ⟨2, ![1024, 5632]⟩
abbrev S2816x1024 : Shape := ⟨2, ![2816, 1024]⟩
abbrev S_ : Shape := ⟨0, ![]⟩

class Facts : Prop where
  bcast_S_S8x2048x4x64 : S_.BroadcastsInDim S8x2048x4x64 (![] : Fin 0 → Fin S8x2048x4x64.rank)
  reducesTo_S8x2048x4x64_S_d0_1_2_3 : S8x2048x4x64.ReducesTo [0, 1, 2, 3] S_
  h_S_ : 0 < S_.numel
  bcast_S_S8x2304x4x64 : S_.BroadcastsInDim S8x2304x4x64 (![] : Fin 0 → Fin S8x2304x4x64.rank)
  reducesTo_S8x2304x4x64_S_d0_1_2_3 : S8x2304x4x64.ReducesTo [0, 1, 2, 3] S_
  bcast_S_S8x2304x4x128 : S_.BroadcastsInDim S8x2304x4x128 (![] : Fin 0 → Fin S8x2304x4x128.rank)
  reducesTo_S8x2304x4x128_S_d0_1_2_3 : S8x2304x4x128.ReducesTo [0, 1, 2, 3] S_
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_
  bcast_S_S8x2304x2x64 : S_.BroadcastsInDim S8x2304x2x64 (![] : Fin 0 → Fin S8x2304x2x64.rank)
  reducesTo_S8x2304x2x64_S_d0_1_2_3 : S8x2304x2x64.ReducesTo [0, 1, 2, 3] S_
  bcast_S_S64 : S_.BroadcastsInDim S64 (![] : Fin 0 → Fin S64.rank)
  reducesTo_S64_S_d0 : S64.ReducesTo [0] S_

variable [Facts]

def fn_part3 {F : FTy → Type} [FloatOps F] (main_arg11 : FVec F S64 .f32) (main_v49 : IVec S_ 1) (main_v50 : FVec F S64 .f32) : IVec S_ 1 :=
  let main_cst_19 : FVec F S_ .f32 := constant S_ .f32 0x7F800000#32
  let main_v51 : FVec F S64 .f32 := broadcastInDim S64 ![] bcast_S_S64 main_cst_19
  let main_v52 : IVec S64 1 := cmpf .olt main_v50 main_v51
  let main_c_20 : IVec S_ 1 := constantI S_ 1 1#1
  let main_v53 : IVec S_ 1 := (fun x v => Host.reduce IntOp.andi x v reducesTo_S64_S_d0 h_S_) main_v52 main_c_20
  let main_v54 : IVec S_ 1 := andi main_v49 main_v53
  let main_v55 : FVec F S64 .f32 := Host.absf main_arg11
  let main_cst_21 : FVec F S_ .f32 := constant S_ .f32 0x7F800000#32
  let main_v56 : FVec F S64 .f32 := broadcastInDim S64 ![] bcast_S_S64 main_cst_21
  let main_v57 : IVec S64 1 := cmpf .olt main_v55 main_v56
  let main_c_22 : IVec S_ 1 := constantI S_ 1 1#1
  let main_v58 : IVec S_ 1 := (fun x v => Host.reduce IntOp.andi x v reducesTo_S64_S_d0 h_S_) main_v57 main_c_22
  let main_v59 : IVec S_ 1 := andi main_v54 main_v58
  main_v59

def fn_part2 {F : FTy → Type} [FloatOps F] (main_arg7 : FVec F S8x2304x2x64 .f32) (main_arg8 : FVec F S64 .f32) (main_arg9 : FVec F S64 .f32) (main_arg10 : FVec F S64 .f32) (main_arg11 : FVec F S64 .f32) (main_v29 : IVec S_ 1) (main_v32 : IVec S8x2304x2x64 1) (main_c_12 : IVec S_ 1) : IVec S_ 1 :=
  let main_v33 : IVec S_ 1 := (fun x v => Host.reduce IntOp.andi x v reducesTo_S8x2304x2x64_S_d0_1_2_3 h_S_) main_v32 main_c_12
  let main_v34 : IVec S_ 1 := andi main_v29 main_v33
  let main_v35 : FVec F S8x2304x2x64 .f32 := Host.absf main_arg7
  let main_cst_13 : FVec F S_ .f32 := constant S_ .f32 0x7F800000#32
  let main_v36 : FVec F S8x2304x2x64 .f32 := broadcastInDim S8x2304x2x64 ![] bcast_S_S8x2304x2x64 main_cst_13
  let main_v37 : IVec S8x2304x2x64 1 := cmpf .olt main_v35 main_v36
  let main_c_14 : IVec S_ 1 := constantI S_ 1 1#1
  let main_v38 : IVec S_ 1 := (fun x v => Host.reduce IntOp.andi x v reducesTo_S8x2304x2x64_S_d0_1_2_3 h_S_) main_v37 main_c_14
  let main_v39 : IVec S_ 1 := andi main_v34 main_v38
  let main_v40 : FVec F S64 .f32 := Host.absf main_arg8
  let main_cst_15 : FVec F S_ .f32 := constant S_ .f32 0x7F800000#32
  let main_v41 : FVec F S64 .f32 := broadcastInDim S64 ![] bcast_S_S64 main_cst_15
  let main_v42 : IVec S64 1 := cmpf .olt main_v40 main_v41
  let main_c_16 : IVec S_ 1 := constantI S_ 1 1#1
  let main_v43 : IVec S_ 1 := (fun x v => Host.reduce IntOp.andi x v reducesTo_S64_S_d0 h_S_) main_v42 main_c_16
  let main_v44 : IVec S_ 1 := andi main_v39 main_v43
  let main_v45 : FVec F S64 .f32 := Host.absf main_arg9
  let main_cst_17 : FVec F S_ .f32 := constant S_ .f32 0x7F800000#32
  let main_v46 : FVec F S64 .f32 := broadcastInDim S64 ![] bcast_S_S64 main_cst_17
  let main_v47 : IVec S64 1 := cmpf .olt main_v45 main_v46
  let main_c_18 : IVec S_ 1 := constantI S_ 1 1#1
  let main_v48 : IVec S_ 1 := (fun x v => Host.reduce IntOp.andi x v reducesTo_S64_S_d0 h_S_) main_v47 main_c_18
  let main_v49 : IVec S_ 1 := andi main_v44 main_v48
  let main_v50 : FVec F S64 .f32 := Host.absf main_arg10
  fn_part3 (F := F) main_arg11 main_v49 main_v50

def fn_part1 {F : FTy → Type} [FloatOps F] (main_arg4 : FVec F S8x2304x4x128 .f32) (main_arg5 : FVec F S8x2048x8x64 .f32) (main_arg6 : FVec F S8x2304x2x64 .f32) (main_arg7 : FVec F S8x2304x2x64 .f32) (main_arg8 : FVec F S64 .f32) (main_arg9 : FVec F S64 .f32) (main_arg10 : FVec F S64 .f32) (main_arg11 : FVec F S64 .f32) (main_v14 : IVec S_ 1) (main_v15 : FVec F S8x2304x4x64 .f32) (main_cst_5 : FVec F S_ .f32) : IVec S_ 1 :=
  let main_v16 : FVec F S8x2304x4x64 .f32 := broadcastInDim S8x2304x4x64 ![] bcast_S_S8x2304x4x64 main_cst_5
  let main_v17 : IVec S8x2304x4x64 1 := cmpf .olt main_v15 main_v16
  let main_c_6 : IVec S_ 1 := constantI S_ 1 1#1
  let main_v18 : IVec S_ 1 := (fun x v => Host.reduce IntOp.andi x v reducesTo_S8x2304x4x64_S_d0_1_2_3 h_S_) main_v17 main_c_6
  let main_v19 : IVec S_ 1 := andi main_v14 main_v18
  let main_v20 : FVec F S8x2304x4x128 .f32 := Host.absf main_arg4
  let main_cst_7 : FVec F S_ .f32 := constant S_ .f32 0x7F800000#32
  let main_v21 : FVec F S8x2304x4x128 .f32 := broadcastInDim S8x2304x4x128 ![] bcast_S_S8x2304x4x128 main_cst_7
  let main_v22 : IVec S8x2304x4x128 1 := cmpf .olt main_v20 main_v21
  let main_c_8 : IVec S_ 1 := constantI S_ 1 1#1
  let main_v23 : IVec S_ 1 := (fun x v => Host.reduce IntOp.andi x v reducesTo_S8x2304x4x128_S_d0_1_2_3 h_S_) main_v22 main_c_8
  let main_v24 : IVec S_ 1 := andi main_v19 main_v23
  let main_v25 : FVec F S8x2048x8x64 .f32 := Host.absf main_arg5
  let main_cst_9 : FVec F S_ .f32 := constant S_ .f32 0x7F800000#32
  let main_v26 : FVec F S8x2048x8x64 .f32 := broadcastInDim S8x2048x8x64 ![] bcast_S_S8x2048x8x64 main_cst_9
  let main_v27 : IVec S8x2048x8x64 1 := cmpf .olt main_v25 main_v26
  let main_c_10 : IVec S_ 1 := constantI S_ 1 1#1
  let main_v28 : IVec S_ 1 := (fun x v => Host.reduce IntOp.andi x v reducesTo_S8x2048x8x64_S_d0_1_2_3 h_S_) main_v27 main_c_10
  let main_v29 : IVec S_ 1 := andi main_v24 main_v28
  let main_v30 : FVec F S8x2304x2x64 .f32 := Host.absf main_arg6
  let main_cst_11 : FVec F S_ .f32 := constant S_ .f32 0x7F800000#32
  let main_v31 : FVec F S8x2304x2x64 .f32 := broadcastInDim S8x2304x2x64 ![] bcast_S_S8x2304x2x64 main_cst_11
  let main_v32 : IVec S8x2304x2x64 1 := cmpf .olt main_v30 main_v31
  let main_c_12 : IVec S_ 1 := constantI S_ 1 1#1
  fn_part2 (F := F) main_arg7 main_arg8 main_arg9 main_arg10 main_arg11 main_v29 main_v32 main_c_12

def fn {F : FTy → Type} [FloatOps F] (main_arg0 : FVec F S8x2048x4x64 .f32) (main_arg1 : FVec F S8x2048x4x64 .f32) (main_arg2 : FVec F S8x2304x4x64 .f32) (main_arg3 : FVec F S8x2304x4x64 .f32) (main_arg4 : FVec F S8x2304x4x128 .f32) (main_arg5 : FVec F S8x2048x8x64 .f32) (main_arg6 : FVec F S8x2304x2x64 .f32) (main_arg7 : FVec F S8x2304x2x64 .f32) (main_arg8 : FVec F S64 .f32) (main_arg9 : FVec F S64 .f32) (main_arg10 : FVec F S64 .f32) (main_arg11 : FVec F S64 .f32) (main_arg12 : FVec F S128 .f32) (main_arg13 : FVec F S1024x1024 .f32) (main_arg14 : FVec F S1024x5632 .f32) (main_arg15 : FVec F S2816x1024 .f32) (main_arg16 : FVec F S1024x5632 .f32) (main_arg17 : FVec F S2816x1024 .f32) : IVec S_ 1 :=
  let main_v0 : FVec F S8x2048x4x64 .f32 := Host.absf main_arg0
  let main_cst : FVec F S_ .f32 := constant S_ .f32 0x7F800000#32
  let main_v1 : FVec F S8x2048x4x64 .f32 := broadcastInDim S8x2048x4x64 ![] bcast_S_S8x2048x4x64 main_cst
  let main_v2 : IVec S8x2048x4x64 1 := cmpf .olt main_v0 main_v1
  let main_c : IVec S_ 1 := constantI S_ 1 1#1
  let main_v3 : IVec S_ 1 := (fun x v => Host.reduce IntOp.andi x v reducesTo_S8x2048x4x64_S_d0_1_2_3 h_S_) main_v2 main_c
  let main_c_0 : IVec S_ 1 := constantI S_ 1 1#1
  let main_v4 : IVec S_ 1 := andi main_c_0 main_v3
  let main_v5 : FVec F S8x2048x4x64 .f32 := Host.absf main_arg1
  let main_cst_1 : FVec F S_ .f32 := constant S_ .f32 0x7F800000#32
  let main_v6 : FVec F S8x2048x4x64 .f32 := broadcastInDim S8x2048x4x64 ![] bcast_S_S8x2048x4x64 main_cst_1
  let main_v7 : IVec S8x2048x4x64 1 := cmpf .olt main_v5 main_v6
  let main_c_2 : IVec S_ 1 := constantI S_ 1 1#1
  let main_v8 : IVec S_ 1 := (fun x v => Host.reduce IntOp.andi x v reducesTo_S8x2048x4x64_S_d0_1_2_3 h_S_) main_v7 main_c_2
  let main_v9 : IVec S_ 1 := andi main_v4 main_v8
  let main_v10 : FVec F S8x2304x4x64 .f32 := Host.absf main_arg2
  let main_cst_3 : FVec F S_ .f32 := constant S_ .f32 0x7F800000#32
  let main_v11 : FVec F S8x2304x4x64 .f32 := broadcastInDim S8x2304x4x64 ![] bcast_S_S8x2304x4x64 main_cst_3
  let main_v12 : IVec S8x2304x4x64 1 := cmpf .olt main_v10 main_v11
  let main_c_4 : IVec S_ 1 := constantI S_ 1 1#1
  let main_v13 : IVec S_ 1 := (fun x v => Host.reduce IntOp.andi x v reducesTo_S8x2304x4x64_S_d0_1_2_3 h_S_) main_v12 main_c_4
  let main_v14 : IVec S_ 1 := andi main_v9 main_v13
  let main_v15 : FVec F S8x2304x4x64 .f32 := Host.absf main_arg3
  let main_cst_5 : FVec F S_ .f32 := constant S_ .f32 0x7F800000#32
  fn_part1 (F := F) main_arg4 main_arg5 main_arg6 main_arg7 main_arg8 main_arg9 main_arg10 main_arg11 main_v14 main_v15 main_cst_5
-- ==== Kernel.lean ====
abbrev S8x2048x4x64 : Shape := ⟨4, ![8, 2048, 4, 64]⟩
abbrev S8x2304x4x64 : Shape := ⟨4, ![8, 2304, 4, 64]⟩
abbrev S8x2304x4x128 : Shape := ⟨4, ![8, 2304, 4, 128]⟩
abbrev S8x2048x8x64 : Shape := ⟨4, ![8, 2048, 8, 64]⟩
abbrev S8x2304x2x64 : Shape := ⟨4, ![8, 2304, 2, 64]⟩
abbrev S64 : Shape := ⟨1, ![64]⟩
abbrev S128 : Shape := ⟨1, ![128]⟩
abbrev S1024x1024 : Shape := ⟨2, ![1024, 1024]⟩
abbrev S1024x5632 : Shape := ⟨2, ![1024, 5632]⟩
abbrev S2816x1024 : Shape := ⟨2, ![2816, 1024]⟩
abbrev S_ : Shape := ⟨0, ![]⟩
abbrev S8x8x64x2048 : Shape := ⟨4, ![8, 8, 64, 2048]⟩
abbrev S8x8x128x2048 : Shape := ⟨4, ![8, 8, 128, 2048]⟩
abbrev S8x8x128x16x1x128 : Shape := ⟨6, ![8, 8, 128, 16, 1, 128]⟩
abbrev S8x8x128x16x2x128 : Shape := ⟨6, ![8, 8, 128, 16, 2, 128]⟩
abbrev S8x8x128x4096 : Shape := ⟨4, ![8, 8, 128, 4096]⟩
abbrev S8x8x128x512 : Shape := ⟨4, ![8, 8, 128, 512]⟩
abbrev S8x8x128x4608 : Shape := ⟨4, ![8, 8, 128, 4608]⟩
abbrev S8x2304x1x128 : Shape := ⟨4, ![8, 2304, 1, 128]⟩
abbrev S8x2304x5x128 : Shape := ⟨4, ![8, 2304, 5, 128]⟩
abbrev S8x5x2304x128 : Shape := ⟨4, ![8, 5, 2304, 128]⟩
abbrev S8x5x128x2304 : Shape := ⟨4, ![8, 5, 128, 2304]⟩
abbrev S8x5x16x2304 : Shape := ⟨4, ![8, 5, 16, 2304]⟩
abbrev S8x5x144x2304 : Shape := ⟨4, ![8, 5, 144, 2304]⟩
abbrev S1x64 : Shape := ⟨2, ![1, 64]⟩
abbrev S4x64 : Shape := ⟨2, ![4, 64]⟩
abbrev S1x128 : Shape := ⟨2, ![1, 128]⟩
abbrev S8x8x2048x128 : Shape := ⟨4, ![8, 8, 2048, 128]⟩
abbrev S1x8x128x1024 : Shape := ⟨4, ![1, 8, 128, 1024]⟩
abbrev S1x5x2304x128 : Shape := ⟨4, ![1, 5, 2304, 128]⟩
abbrev S1x5x144x2304 : Shape := ⟨4, ![1, 5, 144, 2304]⟩
abbrev S32x1024 : Shape := ⟨2, ![32, 1024]⟩
abbrev S32x5632 : Shape := ⟨2, ![32, 5632]⟩
abbrev S176x1024 : Shape := ⟨2, ![176, 1024]⟩
abbrev S1x8x512x128 : Shape := ⟨4, ![1, 8, 512, 128]⟩
abbrev S2304x256 : Shape := ⟨2, ![2304, 256]⟩
abbrev S128x128 : Shape := ⟨2, ![128, 128]⟩
abbrev S1 : Shape := ⟨1, ![1]⟩
abbrev S1x1 : Shape := ⟨2, ![1, 1]⟩
abbrev S1x1x256x128 : Shape := ⟨4, ![1, 1, 256, 128]⟩
abbrev S256x128 : Shape := ⟨2, ![256, 128]⟩
abbrev S1x1x128x256 : Shape := ⟨4, ![1, 1, 128, 256]⟩
abbrev S128x256 : Shape := ⟨2, ![128, 256]⟩
abbrev S256x256 : Shape := ⟨2, ![256, 256]⟩
abbrev S8x32x256 : Shape := ⟨3, ![8, 32, 256]⟩
abbrev S32x256 : Shape := ⟨2, ![32, 256]⟩
abbrev S256 : Shape := ⟨1, ![256]⟩
abbrev S1x256 : Shape := ⟨2, ![1, 256]⟩
abbrev S1x1x144x256 : Shape := ⟨4, ![1, 1, 144, 256]⟩
abbrev S144x256 : Shape := ⟨2, ![144, 256]⟩
abbrev S1x1x128x128 : Shape := ⟨4, ![1, 1, 128, 128]⟩

abbrev nBuf : Space → Nat
  | .hbm => 68
  | .vmem => 35
  | .smem => 0
  | _ => 0

abbrev bufTy : (tb : Table) → Fin (tcTables nBuf tb) → BufTy
  | .hbm, ⟨0, _⟩ => ⟨S8x2048x4x64, .f32⟩
  | .hbm, ⟨1, _⟩ => ⟨S8x2048x4x64, .f32⟩
  | .hbm, ⟨2, _⟩ => ⟨S8x2304x4x64, .f32⟩
  | .hbm, ⟨3, _⟩ => ⟨S8x2304x4x64, .f32⟩
  | .hbm, ⟨4, _⟩ => ⟨S8x2304x4x128, .f32⟩
  | .hbm, ⟨5, _⟩ => ⟨S8x2048x8x64, .f32⟩
  | .hbm, ⟨6, _⟩ => ⟨S8x2304x2x64, .f32⟩
  | .hbm, ⟨7, _⟩ => ⟨S8x2304x2x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S128, .f32⟩
  | .hbm, ⟨13, _⟩ => ⟨S1024x1024, .f32⟩
  | .hbm, ⟨14, _⟩ => ⟨S1024x5632, .f32⟩
  | .hbm, ⟨15, _⟩ => ⟨S2816x1024, .f32⟩
  | .hbm, ⟨16, _⟩ => ⟨S1024x5632, .f32⟩
  | .hbm, ⟨17, _⟩ => ⟨S2816x1024, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8x2048x4x64, .f32⟩
  | .hbm, ⟨23, _⟩ => ⟨S8x2048x8x64, .f32⟩
  | .hbm, ⟨24, _⟩ => ⟨S8x2048x8x64, .f32⟩
  | .hbm, ⟨25, _⟩ => ⟨S8x2048x8x64, .f32⟩
  | .hbm, ⟨26, _⟩ => ⟨S8x8x64x2048, .f32⟩
  | .hbm, ⟨27, _⟩ => ⟨S8x2048x4x64, .f32⟩
  | .hbm, ⟨28, _⟩ => ⟨S8x2048x8x64, .f32⟩
  | .hbm, ⟨29, _⟩ => ⟨S8x2048x8x64, .f32⟩
  | .hbm, ⟨30, _⟩ => ⟨S8x2048x8x64, .f32⟩
  | .hbm, ⟨31, _⟩ => ⟨S8x8x64x2048, .f32⟩
  | .hbm, ⟨32, _⟩ => ⟨S_, .f32⟩
  | .hbm, ⟨33, _⟩ => ⟨S8x8x64x2048, .f32⟩
  | .hbm, ⟨34, _⟩ => ⟨S8x8x128x2048, .f32⟩
  | .hbm, ⟨35, _⟩ => ⟨S8x8x128x16x1x128, .f32⟩
  | .hbm, ⟨36, _⟩ => ⟨S8x8x128x2048, .f32⟩
  | .hbm, ⟨37, _⟩ => ⟨S8x8x128x16x1x128, .f32⟩
  | .hbm, ⟨38, _⟩ => ⟨S8x8x128x16x2x128, .f32⟩
  | .hbm, ⟨39, _⟩ => ⟨S8x8x128x4096, .f32⟩
  | .hbm, ⟨40, _⟩ => ⟨S_, .f32⟩
  | .hbm, ⟨41, _⟩ => ⟨S8x8x128x512, .f32⟩
  | .hbm, ⟨42, _⟩ => ⟨S8x8x128x4608, .f32⟩
  | .hbm, ⟨43, _⟩ => ⟨S8x8x128x4608, .bf16⟩
  | .hbm, ⟨44, _⟩ => ⟨S8x2304x4x128, .f32⟩
  | .hbm, ⟨45, _⟩ => ⟨S8x2304x1x128, .f32⟩
  | .hbm, ⟨46, _⟩ => ⟨S8x2304x5x128, .f32⟩
  | .hbm, ⟨47, _⟩ => ⟨S8x5x2304x128, .f32⟩
  | .hbm, ⟨48, _⟩ => ⟨S8x5x2304x128, .bf16⟩
  | .hbm, ⟨49, _⟩ => ⟨S8x2304x1x128, .f32⟩
  | .hbm, ⟨50, _⟩ => ⟨S8x2304x5x128, .f32⟩
  | .hbm, ⟨51, _⟩ => ⟨S8x5x128x2304, .f32⟩
  | .hbm, ⟨52, _⟩ => ⟨S_, .f32⟩
  | .hbm, ⟨53, _⟩ => ⟨S8x5x16x2304, .f32⟩
  | .hbm, ⟨54, _⟩ => ⟨S8x5x144x2304, .f32⟩
  | .hbm, ⟨55, _⟩ => ⟨S8x5x144x2304, .bf16⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S1x64, .f32⟩
  | .hbm, ⟨60, _⟩ => ⟨S4x64, .f32⟩
  | .hbm, ⟨61, _⟩ => ⟨S1x128, .f32⟩
  | .hbm, ⟨62, _⟩ => ⟨S8x8x2048x128, .bf16⟩
  | .hbm, ⟨63, _⟩ => ⟨S1024x1024, .bf16⟩
  | .hbm, ⟨64, _⟩ => ⟨S1024x5632, .bf16⟩
  | .hbm, ⟨65, _⟩ => ⟨S2816x1024, .bf16⟩
  | .hbm, ⟨66, _⟩ => ⟨S1024x5632, .bf16⟩
  | .hbm, ⟨67, _⟩ => ⟨S2816x1024, .bf16⟩
  | .local _ .vmem, ⟨0, _⟩ => ⟨S1x8x128x1024, .bf16⟩
  | .local _ .vmem, ⟨1, _⟩ => ⟨S1x8x128x1024, .bf16⟩
  | .local _ .vmem, ⟨2, _⟩ => ⟨S1x5x2304x128, .bf16⟩
  | .local _ .vmem, ⟨3, _⟩ => ⟨S1x5x2304x128, .bf16⟩
  | .local _ .vmem, ⟨4, _⟩ => ⟨S1x5x144x2304, .bf16⟩
  | .local _ .vmem, ⟨5, _⟩ => ⟨S1x5x144x2304, .bf16⟩
  | .local _ .vmem, ⟨6, _⟩ => ⟨S4x64, .f32⟩
  | .local _ .vmem, ⟨7, _⟩ => ⟨S1x128, .f32⟩
  | .local _ .vmem, ⟨8, _⟩ => ⟨S32x1024, .f32⟩
  | .local _ .vmem, ⟨9, _⟩ => ⟨S32x1024, .f32⟩
  | .local _ .vmem, ⟨10, _⟩ => ⟨S32x5632, .f32⟩
  | .local _ .vmem, ⟨11, _⟩ => ⟨S32x5632, .f32⟩
  | .local _ .vmem, ⟨12, _⟩ => ⟨S176x1024, .f32⟩
  | .local _ .vmem, ⟨13, _⟩ => ⟨S176x1024, .f32⟩
  | .local _ .vmem, ⟨14, _⟩ => ⟨S32x5632, .f32⟩
  | .local _ .vmem, ⟨15, _⟩ => ⟨S32x5632, .f32⟩
  | .local _ .vmem, ⟨16, _⟩ => ⟨S176x1024, .f32⟩
  | .local _ .vmem, ⟨17, _⟩ => ⟨S176x1024, .f32⟩
  | .local _ .vmem, ⟨18, _⟩ => ⟨S1x8x512x128, .bf16⟩
  | .local _ .vmem, ⟨19, _⟩ => ⟨S1x8x512x128, .bf16⟩
  | .local _ .vmem, ⟨20, _⟩ => ⟨S32x1024, .bf16⟩
  | .local _ .vmem, ⟨21, _⟩ => ⟨S32x1024, .bf16⟩
  | .local _ .vmem, ⟨22, _⟩ => ⟨S32x5632, .bf16⟩
  | .local _ .vmem, ⟨23, _⟩ => ⟨S32x5632, .bf16⟩
  | .local _ .vmem, ⟨24, _⟩ => ⟨S176x1024, .bf16⟩
  | .local _ .vmem, ⟨25, _⟩ => ⟨S176x1024, .bf16⟩
  | .local _ .vmem, ⟨26, _⟩ => ⟨S32x5632, .bf16⟩
  | .local _ .vmem, ⟨27, _⟩ => ⟨S32x5632, .bf16⟩
  | .local _ .vmem, ⟨28, _⟩ => ⟨S176x1024, .bf16⟩
  | .local _ .vmem, ⟨29, _⟩ => ⟨S176x1024, .bf16⟩
  | .local _ .vmem, ⟨30, _⟩ => ⟨S2304x256, .f32⟩
  | .local _ .vmem, ⟨31, _⟩ => ⟨S2304x256, .f32⟩
  | .local _ .vmem, ⟨32, _⟩ => ⟨S2304x256, .f32⟩
  | .local _ .vmem, ⟨33, _⟩ => ⟨S2304x256, .bf16⟩
  | .local _ .vmem, ⟨34, _⟩ => ⟨S2304x256, .bf16⟩
  | _, _ => ⟨S8x2048x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39_0 : Ref sig .tc := ⟨.hbm, 62, rfl⟩
abbrev main_v39_1 : Ref sig .tc := ⟨.hbm, 63, rfl⟩
abbrev main_v39_2 : Ref sig .tc := ⟨.hbm, 64, rfl⟩
abbrev main_v39_3 : Ref sig .tc := ⟨.hbm, 65, rfl⟩
abbrev main_v39_4 : Ref sig .tc := ⟨.hbm, 66, rfl⟩
abbrev main_v39_5 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

abbrev stage0_0 : Fin 2 → Memref sig .tc .vmem S1x8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x5x144x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S176x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x5632 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S176x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S8x2048x4x64 : Shape := ⟨4, ![8, 2048, 4, 64]⟩
abbrev S8x2304x4x64 : Shape := ⟨4, ![8, 2304, 4, 64]⟩
abbrev S8x2304x4x128 : Shape := ⟨4, ![8, 2304, 4, 128]⟩
abbrev S8x2048x8x64 : Shape := ⟨4, ![8, 2048, 8, 64]⟩
abbrev S8x2304x2x64 : Shape := ⟨4, ![8, 2304, 2, 64]⟩
abbrev S64 : Shape := ⟨1, ![64]⟩
abbrev S128 : Shape := ⟨1, ![128]⟩
abbrev S1024x1024 : Shape := ⟨2, ![1024, 1024]⟩
abbrev S1024x5632 : Shape := ⟨2, ![1024, 5632]⟩
abbrev S2816x1024 : Shape := ⟨2, ![2816, 1024]⟩
abbrev S_ : Shape := ⟨0, ![]⟩
abbrev S8x4x2048x2304 : Shape := ⟨4, ![8, 4, 2048, 2304]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x2048x2x4x64 : Shape := ⟨5, ![8, 2048, 2, 4, 64]⟩
abbrev S8x2x2304x2048x4 : Shape := ⟨5, ![8, 2, 2304, 2048, 4]⟩
abbrev S8x2x4x2048x2304 : Shape := ⟨5, ![8, 2, 4, 2048, 2304]⟩
abbrev S8x2x4x2048 : Shape := ⟨4, ![8, 2, 4, 2048]⟩
abbrev S8x2x4x2048x1 : Shape := ⟨5, ![8, 2, 4, 2048, 1]⟩
abbrev S8x2x64x4x2048 : Shape := ⟨5, ![8, 2, 64, 4, 2048]⟩
abbrev S8x4x2048x128 : Shape := ⟨4, ![8, 4, 2048, 128]⟩
abbrev S8x4x2048x2x64 : Shape := ⟨5, ![8, 4, 2048, 2, 64]⟩
abbrev S8x8x2048x128 : Shape := ⟨4, ![8, 8, 2048, 128]⟩

abbrev nBuf : Space → Nat
  | .hbm => 118
  | .vmem => 0
  | .smem => 0
  | _ => 0

abbrev bufTy : (tb : Table) → Fin (tcTables nBuf tb) → BufTy
  | .hbm, ⟨0, _⟩ => ⟨S8x2048x4x64, .f32⟩
  | .hbm, ⟨1, _⟩ => ⟨S8x2048x4x64, .f32⟩
  | .hbm, ⟨2, _⟩ => ⟨S8x2304x4x64, .f32⟩
  | .hbm, ⟨3, _⟩ => ⟨S8x2304x4x64, .f32⟩
  | .hbm, ⟨4, _⟩ => ⟨S8x2304x4x128, .f32⟩
  | .hbm, ⟨5, _⟩ => ⟨S8x2048x8x64, .f32⟩
  | .hbm, ⟨6, _⟩ => ⟨S8x2304x2x64, .f32⟩
  | .hbm, ⟨7, _⟩ => ⟨S8x2304x2x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S128, .f32⟩
  | .hbm, ⟨13, _⟩ => ⟨S1024x1024, .f32⟩
  | .hbm, ⟨14, _⟩ => ⟨S1024x5632, .f32⟩
  | .hbm, ⟨15, _⟩ => ⟨S2816x1024, .f32⟩
  | .hbm, ⟨16, _⟩ => ⟨S1024x5632, .f32⟩
  | .hbm, ⟨17, _⟩ => ⟨S2816x1024, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8x4x2048x2304, .f32⟩
  | .hbm, ⟨30, _⟩ => ⟨S_, .f32⟩
  | .hbm, ⟨31, _⟩ => ⟨S8x4x2048x2304, .f32⟩
  | .hbm, ⟨32, _⟩ => ⟨S8x4x2048x2304, .f32⟩
  | .hbm, ⟨33, _⟩ => ⟨S8x4x2048x2304, .f32⟩
  | .hbm, ⟨34, _⟩ => ⟨S_, .f32⟩
  | .hbm, ⟨35, _⟩ => ⟨S8x4x2048x2304, .f32⟩
  | .hbm, ⟨36, _⟩ => ⟨S8x4x2048x2304, .f32⟩
  | .hbm, ⟨37, _⟩ => ⟨S_, .f32⟩
  | .hbm, ⟨38, _⟩ => ⟨S8x4x2048, .f32⟩
  | .hbm, ⟨39, _⟩ => ⟨S_, .f32⟩
  | .hbm, ⟨40, _⟩ => ⟨S8x4x2048, .f32⟩
  | .hbm, ⟨41, _⟩ => ⟨S8x4x2048, .f32⟩
  | .hbm, ⟨42, _⟩ => ⟨S8x4x2048x1, .f32⟩
  | .hbm, ⟨43, _⟩ => ⟨S8x4x2048x2304, .f32⟩
  | .hbm, ⟨44, _⟩ => ⟨S8x4x2048x2304, .f32⟩
  | .hbm, ⟨45, _⟩ => ⟨S8x4x2048x2304, .f32⟩
  | .hbm, ⟨46, _⟩ => ⟨S_, .f32⟩
  | .hbm, ⟨47, _⟩ => ⟨S8x4x2048, .f32⟩
  | .hbm, ⟨48, _⟩ => ⟨S8x4x2048x1, .f32⟩
  | .hbm, ⟨49, _⟩ => ⟨S8x4x2048x2304, .f32⟩
  | .hbm, ⟨50, _⟩ => ⟨S8x4x2048x2304, .f32⟩
  | .hbm, ⟨51, _⟩ => ⟨S_, .f32⟩
  | .hbm, ⟨52, _⟩ => ⟨S8x4x2048, .f32⟩
  | .hbm, ⟨53, _⟩ => ⟨S_, .f32⟩
  | .hbm, ⟨54, _⟩ => ⟨S8x4x2048, .f32⟩
  | .hbm, ⟨55, _⟩ => ⟨S8x4x2048, .f32⟩
  | .hbm, ⟨56, _⟩ => ⟨S8x4x2048x1, .f32⟩
  | .hbm, ⟨57, _⟩ => ⟨S8x4x2048x2304, .f32⟩
  | .hbm, ⟨58, _⟩ => ⟨S8x4x2048x2304, .f32⟩
  | .hbm, ⟨59, _⟩ => ⟨S8x4x2048x2304, .f32⟩
  | .hbm, ⟨60, _⟩ => ⟨S_, .f32⟩
  | .hbm, ⟨61, _⟩ => ⟨S8x4x2048, .f32⟩
  | .hbm, ⟨62, _⟩ => ⟨S8x4x2048x1, .f32⟩
  | .hbm, ⟨63, _⟩ => ⟨S8x4x2048x2304, .f32⟩
  | .hbm, ⟨64, _⟩ => ⟨S8x4x2048x2304, .f32⟩
  | .hbm, ⟨65, _⟩ => ⟨S8x4x2048x2304, .f32⟩
  | .hbm, ⟨66, _⟩ => ⟨S8x4x2048x2304, .f32⟩
  | .hbm, ⟨67, _⟩ => ⟨S8x4x2048x2304, .f32⟩
  | .hbm, ⟨68, _⟩ => ⟨S8x4x128x2048, .f32⟩
  | .hbm, ⟨69, _⟩ => ⟨S8x2048x4x128, .f32⟩
  | .hbm, ⟨70, _⟩ => ⟨S8x2048x4x128, .f32⟩
  | .hbm, ⟨71, _⟩ => ⟨S_, .f32⟩
  | .hbm, ⟨72, _⟩ => ⟨S8x2048x4, .f32⟩
  | .hbm, ⟨73, _⟩ => ⟨S8x2048x4x1, .f32⟩
  | .hbm, ⟨74, _⟩ => ⟨S_, .f32⟩
  | .hbm, ⟨75, _⟩ => ⟨S8x2048x4x1, .f32⟩
  | .hbm, ⟨76, _⟩ => ⟨S8x2048x4x1, .f32⟩
  | .hbm, ⟨77, _⟩ => ⟨S_, .f32⟩
  | .hbm, ⟨78, _⟩ => ⟨S8x2048x4x1, .f32⟩
  | .hbm, ⟨79, _⟩ => ⟨S8x2048x4x1, .f32⟩
  | .hbm, ⟨80, _⟩ => ⟨S8x2048x4x1, .f32⟩
  | .hbm, ⟨81, _⟩ => ⟨S8x2048x4x128, .f32⟩
  | .hbm, ⟨82, _⟩ => ⟨S8x2048x4x128, .f32⟩
  | .hbm, ⟨83, _⟩ => ⟨S1x1x1x128, .f32⟩
  | .hbm, ⟨84, _⟩ => ⟨S8x2048x4x128, .f32⟩
  | .hbm, ⟨85, _⟩ => ⟨S8x2048x4x128, .f32⟩
  | .hbm, ⟨86, _⟩ => ⟨S_, .f32⟩
  | .hbm, ⟨87, _⟩ => ⟨S8x2048x4x128, .f32⟩
  | .hbm, ⟨88, _⟩ => ⟨S8x2048x4x128, .f32⟩
  | .hbm, ⟨89, _⟩ => ⟨S8x2048x2x4x64, .f32⟩
  | .hbm, ⟨90, _⟩ => ⟨S8x2x2304x2048x4, .f32⟩
  | .hbm, ⟨91, _⟩ => ⟨S8x2x4x2048x2304, .f32⟩
  | .hbm, ⟨92, _⟩ => ⟨S_, .f32⟩
  | .hbm, ⟨93, _⟩ => ⟨S8x2x4x2048x2304, .f32⟩
  | .hbm, ⟨94, _⟩ => ⟨S8x2x4x2048x2304, .f32⟩
  | .hbm, ⟨95, _⟩ => ⟨S_, .f32⟩
  | .hbm, ⟨96, _⟩ => ⟨S8x2x4x2048, .f32⟩
  | .hbm, ⟨97, _⟩ => ⟨S_, .f32⟩
  | .hbm, ⟨98, _⟩ => ⟨S8x2x4x2048, .f32⟩
  | .hbm, ⟨99, _⟩ => ⟨S8x2x4x2048, .f32⟩
  | .hbm, ⟨100, _⟩ => ⟨S8x2x4x2048x1, .f32⟩
  | .hbm, ⟨101, _⟩ => ⟨S8x2x4x2048x2304, .f32⟩
  | .hbm, ⟨102, _⟩ => ⟨S8x2x4x2048x2304, .f32⟩
  | .hbm, ⟨103, _⟩ => ⟨S8x2x4x2048x2304, .f32⟩
  | .hbm, ⟨104, _⟩ => ⟨S_, .f32⟩
  | .hbm, ⟨105, _⟩ => ⟨S8x2x4x2048, .f32⟩
  | .hbm, ⟨106, _⟩ => ⟨S8x2x4x2048x1, .f32⟩
  | .hbm, ⟨107, _⟩ => ⟨S8x2x4x2048x2304, .f32⟩
  | .hbm, ⟨108, _⟩ => ⟨S8x2x4x2048x2304, .f32⟩
  | .hbm, ⟨109, _⟩ => ⟨S8x2x64x4x2048, .f32⟩
  | .hbm, ⟨110, _⟩ => ⟨S8x2048x2x4x64, .f32⟩
  | .hbm, ⟨111, _⟩ => ⟨S8x2048x8x64, .f32⟩
  | .hbm, ⟨112, _⟩ => ⟨S8x4x2048x128, .f32⟩
  | .hbm, ⟨113, _⟩ => ⟨S8x2048x2x4x64, .f32⟩
  | .hbm, ⟨114, _⟩ => ⟨S8x4x2048x2x64, .f32⟩
  | .hbm, ⟨115, _⟩ => ⟨S8x4x2048x128, .f32⟩
  | .hbm, ⟨116, _⟩ => ⟨S8x8x2048x128, .f32⟩
  | .hbm, ⟨117, _⟩ => ⟨S8x8x2048x128, .bf16⟩
  | _, _ => ⟨S8x2048x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_3 : Ref sig .tc := ⟨.hbm, 34, rfl⟩
abbrev main_v12 : Ref sig .tc := ⟨.hbm, 35, rfl⟩
abbrev main_v13 : Ref sig .tc := ⟨.hbm, 36, rfl⟩
abbrev main_cst_4 : Ref sig .tc := ⟨.hbm, 37, rfl⟩
abbrev main_v14 : Ref sig .tc := ⟨.hbm, 38, rfl⟩
abbrev main_cst_5 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_6 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_7 : Ref sig .tc := ⟨.hbm, 51, rfl⟩
abbrev main_v25 : Ref sig .tc := ⟨.hbm, 52, rfl⟩
abbrev main_cst_8 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_9 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_10 : Ref sig .tc := ⟨.hbm, 71, rfl⟩
abbrev main_v42 : Ref sig .tc := ⟨.hbm, 72, rfl⟩
abbrev main_v43 : Ref sig .tc := ⟨.hbm, 73, rfl⟩
abbrev main_cst_11 : Ref sig .tc := ⟨.hbm, 74, rfl⟩
abbrev main_v44 : Ref sig .tc := ⟨.hbm, 75, rfl⟩
abbrev main_v45 : Ref sig .tc := ⟨.hbm, 76, rfl⟩
abbrev main_cst_12 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_13 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_14 : Ref sig .tc := ⟨.hbm, 92, rfl⟩
abbrev main_v59 : Ref sig .tc := ⟨.hbm, 93, rfl⟩
abbrev main_v60 : Ref sig .tc := ⟨.hbm, 94, rfl⟩
abbrev main_cst_15 : Ref sig .tc := ⟨.hbm, 95, rfl⟩
abbrev main_v61 : Ref sig .tc := ⟨.hbm, 96, rfl⟩
abbrev main_cst_16 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_17 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x6144 : Shape := ⟨2, ![8, 6144]⟩
abbrev S1024 : Shape := ⟨1, ![1024]⟩
abbrev S1024x5632 : Shape := ⟨2, ![1024, 5632]⟩
abbrev S2816x1024 : Shape := ⟨2, ![2816, 1024]⟩
abbrev S8x512x4x1024 : Shape := ⟨4, ![8, 512, 4, 1024]⟩
abbrev S8x4x512x1024 : Shape := ⟨4, ![8, 4, 512, 1024]⟩
abbrev S8x6x1024 : Shape := ⟨3, ![8, 6, 1024]⟩
abbrev S1x1024 : Shape := ⟨2, ![1, 1024]⟩
abbrev S1x4x256x1024 : Shape := ⟨4, ![1, 4, 256, 1024]⟩
abbrev S1x6x1024 : Shape := ⟨3, ![1, 6, 1024]⟩
abbrev S1x1024x1024 : Shape := ⟨3, ![1, 1024, 1024]⟩
abbrev S8x1024x128 : Shape := ⟨3, ![8, 1024, 128]⟩
abbrev S1x1x1024 : Shape := ⟨3, ![1, 1, 1024]⟩
abbrev S1x1x256x128 : Shape := ⟨4, ![1, 1, 256, 128]⟩
abbrev S256x128 : Shape := ⟨2, ![256, 128]⟩
abbrev S1x128 : Shape := ⟨2, ![1, 128]⟩
abbrev S1x256x128 : Shape := ⟨3, ![1, 256, 128]⟩
abbrev S1x1024x128 : Shape := ⟨3, ![1, 1024, 128]⟩
abbrev S1024x128 : Shape := ⟨2, ![1024, 128]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩
abbrev S1024x1 : Shape := ⟨2, ![1024, 1]⟩

abbrev nBuf : Space → Nat
  | .hbm => 18
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x6144, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S8x512x4x1024, .f32⟩
  | .hbm, ⟨8, _⟩ => ⟨S8x4x512x1024, .f32⟩
  | .hbm, ⟨9, _⟩ => ⟨S8x512x4x1024, .f32⟩
  | .hbm, ⟨10, _⟩ => ⟨S8x4x512x1024, .f32⟩
  | .hbm, ⟨11, _⟩ => ⟨S8x4x512x1024, .bf16⟩
  | .hbm, ⟨12, _⟩ => ⟨S8x6x1024, .f32⟩
  | .hbm, ⟨13, _⟩ => ⟨S1x1024, .f32⟩
  | .hbm, ⟨14, _⟩ => ⟨S1024x5632, .bf16⟩
  | .hbm, ⟨15, _⟩ => ⟨S2816x1024, .bf16⟩
  | .hbm, ⟨16, _⟩ => ⟨S1x1024, .f32⟩
  | .hbm, ⟨17, _⟩ => ⟨S8x2048x1024, .f32⟩
  | .local _ .vmem, ⟨0, _⟩ => ⟨S1x4x256x1024, .f32⟩
  | .local _ .vmem, ⟨1, _⟩ => ⟨S1x4x256x1024, .f32⟩
  | .local _ .vmem, ⟨2, _⟩ => ⟨S1x4x256x1024, .bf16⟩
  | .local _ .vmem, ⟨3, _⟩ => ⟨S1x4x256x1024, .bf16⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1024x5632, .bf16⟩
  | .local _ .vmem, ⟨8, _⟩ => ⟨S2816x1024, .bf16⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S8x1024x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8x2048x1024 : Shape := ⟨3, ![8, 2048, 1024]⟩
abbrev S8x6144 : Shape := ⟨2, ![8, 6144]⟩
abbrev S1024 : Shape := ⟨1, ![1024]⟩
abbrev S1024x5632 : Shape := ⟨2, ![1024, 5632]⟩
abbrev S2816x1024 : Shape := ⟨2, ![2816, 1024]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩

abbrev nBuf : Space → Nat
  | .hbm => 78
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x6144, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x1, .f32⟩
  | .hbm, ⟨33, _⟩ => ⟨S8x2048x1024, .f32⟩
  | .hbm, ⟨34, _⟩ => ⟨S8x2048x1024, .f32⟩
  | .hbm, ⟨35, _⟩ => ⟨S1x1x1024, .f32⟩
  | .hbm, ⟨36, _⟩ => ⟨S8x2048x1024, .f32⟩
  | .hbm, ⟨37, _⟩ => ⟨S8x2048x1024, .f32⟩
  | .hbm, ⟨38, _⟩ => ⟨S_, .f32⟩
  | .hbm, ⟨39, _⟩ => ⟨S8x1x1024, .f32⟩
  | .hbm, ⟨40, _⟩ => ⟨S8x1x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S8x2048x5632, .f32⟩
  | .hbm, ⟨46, _⟩ => ⟨S8x2048x2816, .f32⟩
  | .hbm, ⟨47, _⟩ => ⟨S8x2048x2816, .f32⟩
  | .hbm, ⟨48, _⟩ => ⟨S8x2048x2816, .f32⟩
  | .hbm, ⟨49, _⟩ => ⟨S8x2048x2816, .f32⟩
  | .hbm, ⟨50, _⟩ => ⟨S_, .f32⟩
  | .hbm, ⟨51, _⟩ => ⟨S8x2048x2816, .f32⟩
  | .hbm, ⟨52, _⟩ => ⟨S8x2048x2816, .f32⟩
  | .hbm, ⟨53, _⟩ => ⟨S_, .f32⟩
  | .hbm, ⟨54, _⟩ => ⟨S8x2048x2816, .f32⟩
  | .hbm, ⟨55, _⟩ => ⟨S8x2048x2816, .f32⟩
  | .hbm, ⟨56, _⟩ => ⟨S8x2048x2816, .f32⟩
  | .hbm, ⟨57, _⟩ => ⟨S8x2048x2816, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | .hbm, ⟨63, _⟩ => ⟨S_, .f32⟩
  | .hbm, ⟨64, _⟩ => ⟨S8x2048, .f32⟩
  | .hbm, ⟨65, _⟩ => ⟨S8x2048x1, .f32⟩
  | .hbm, ⟨66, _⟩ => ⟨S_, .f32⟩
  | .hbm, ⟨67, _⟩ => ⟨S8x2048x1, .f32⟩
  | .hbm, ⟨68, _⟩ => ⟨S8x2048x1, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S8x2048x1, .f32⟩
  | .hbm, ⟨73, _⟩ => ⟨S8x2048x1024, .f32⟩
  | .hbm, ⟨74, _⟩ => ⟨S8x2048x1024, .f32⟩
  | .hbm, ⟨75, _⟩ => ⟨S1x1x1024, .f32⟩
  | .hbm, ⟨76, _⟩ => ⟨S8x2048x1024, .f32⟩
  | .hbm, ⟨77, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_3 : Ref sig .tc := ⟨.hbm, 63, rfl⟩
abbrev main_v44 : Ref sig .tc := ⟨.hbm, 64, rfl⟩
abbrev main_v45 : Ref sig .tc := ⟨.hbm, 65, rfl⟩
abbrev main_cst_4 : Ref sig .tc := ⟨.hbm, 66, rfl⟩
abbrev main_v46 : Ref sig .tc := ⟨.hbm, 67, rfl⟩
abbrev main_v47 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Kernel3.lean ====
abbrev S8x2048x512 : Shape := ⟨3, ![8, 2048, 512]⟩
abbrev S8x2048x1024 : Shape := ⟨3, ![8, 2048, 1024]⟩
abbrev S8x6144 : Shape := ⟨2, ![8, 6144]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S8x2048x4x128 : Shape := ⟨4, ![8, 2048, 4, 128]⟩
abbrev S8x4x2048x128 : Shape := ⟨4, ![8, 4, 2048, 128]⟩
abbrev S8x2048x2x4x64 : Shape := ⟨5, ![8, 2048, 2, 4, 64]⟩
abbrev S8x4x2048x2x64 : Shape := ⟨5, ![8, 4, 2048, 2, 64]⟩
abbrev S8x8x2048x128 : Shape := ⟨4, ![8, 8, 2048, 128]⟩
abbrev S8x6x1024 : Shape := ⟨3, ![8, 6, 1024]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S1x1024 : Shape := ⟨2, ![1, 1024]⟩
abbrev S8x4x512x1024 : Shape := ⟨4, ![8, 4, 512, 1024]⟩
abbrev S1x8x1024x128 : Shape := ⟨4, ![1, 8, 1024, 128]⟩
abbrev S1x1024x1024 : Shape := ⟨3, ![1, 1024, 1024]⟩
abbrev S1x6x1024 : Shape := ⟨3, ![1, 6, 1024]⟩
abbrev S1x4x256x1024 : Shape := ⟨4, ![1, 4, 256, 1024]⟩
abbrev S8x1024x128 : Shape := ⟨3, ![8, 1024, 128]⟩
abbrev S1x1x1024x128 : Shape := ⟨4, ![1, 1, 1024, 128]⟩
abbrev S1024x128 : Shape := ⟨2, ![1024, 128]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩
abbrev S1x1024x128 : Shape := ⟨3, ![1, 1024, 128]⟩
abbrev S1x256x128 : Shape := ⟨3, ![1, 256, 128]⟩
abbrev S256x128 : Shape := ⟨2, ![256, 128]⟩
abbrev S1x1x256x128 : Shape := ⟨4, ![1, 1, 256, 128]⟩

abbrev nBuf : Space → Nat
  | .hbm => 27
  | .vmem => 13
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x1024, .f32⟩
  | .hbm, ⟨3, _⟩ => ⟨S8x6144, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S8x2048x4x128, .f32⟩
  | .hbm, ⟨9, _⟩ => ⟨S8x4x2048x128, .f32⟩
  | .hbm, ⟨10, _⟩ => ⟨S8x2048x2x4x64, .f32⟩
  | .hbm, ⟨11, _⟩ => ⟨S8x4x2048x2x64, .f32⟩
  | .hbm, ⟨12, _⟩ => ⟨S8x4x2048x128, .f32⟩
  | .hbm, ⟨13, _⟩ => ⟨S8x8x2048x128, .f32⟩
  | .hbm, ⟨14, _⟩ => ⟨S8x8x2048x128, .bf16⟩
  | .hbm, ⟨15, _⟩ => ⟨S8x6x1024, .f32⟩
  | .hbm, ⟨16, _⟩ => ⟨S512x1024, .f32⟩
  | .hbm, ⟨17, _⟩ => ⟨S2x4x64x1024, .f32⟩
  | .hbm, ⟨18, _⟩ => ⟨S4x2x64x1024, .f32⟩
  | .hbm, ⟨19, _⟩ => ⟨S512x1024, .f32⟩
  | .hbm, ⟨20, _⟩ => ⟨S512x1024, .f32⟩
  | .hbm, ⟨21, _⟩ => ⟨S1024x1024, .f32⟩
  | .hbm, ⟨22, _⟩ => ⟨S1024x1024, .bf16⟩
  | .hbm, ⟨23, _⟩ => ⟨S1x1024, .f32⟩
  | .hbm, ⟨24, _⟩ => ⟨S1024x5632, .bf16⟩
  | .hbm, ⟨25, _⟩ => ⟨S2816x1024, .bf16⟩
  | .hbm, ⟨26, _⟩ => ⟨S8x4x512x1024, .f32⟩
  | .local _ .vmem, ⟨0, _⟩ => ⟨S1x8x1024x128, .bf16⟩
  | .local _ .vmem, ⟨1, _⟩ => ⟨S1x8x1024x128, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x6x1024, .f32⟩
  | .local _ .vmem, ⟨5, _⟩ => ⟨S1x6x1024, .f32⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S1x4x256x1024, .f32⟩
  | .local _ .vmem, ⟨11, _⟩ => ⟨S1x4x256x1024, .f32⟩
  | .local _ .vmem, ⟨12, _⟩ => ⟨S8x1024x128, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x2048x512 : Shape := ⟨3, ![8, 2048, 512]⟩
abbrev S8x2048x1024 : Shape := ⟨3, ![8, 2048, 1024]⟩
abbrev S8x6144 : Shape := ⟨2, ![8, 6144]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩
abbrev S8x512x4x1024 : Shape := ⟨4, ![8, 512, 4, 1024]⟩
abbrev S8x4x512x1024 : Shape := ⟨4, ![8, 4, 512, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x1024, .f32⟩
  | .hbm, ⟨3, _⟩ => ⟨S8x6144, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S8x2048x1, .f32⟩
  | .hbm, ⟨36, _⟩ => ⟨S8x2048x1024, .f32⟩
  | .hbm, ⟨37, _⟩ => ⟨S8x2048x1024, .f32⟩
  | .hbm, ⟨38, _⟩ => ⟨S1x1x1024, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x1x1024, .f32⟩
  | .hbm, ⟨43, _⟩ => ⟨S8x1x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S8x2048x5632, .f32⟩
  | .hbm, ⟨49, _⟩ => ⟨S8x2048x2816, .f32⟩
  | .hbm, ⟨50, _⟩ => ⟨S8x2048x2816, .f32⟩
  | .hbm, ⟨51, _⟩ => ⟨S8x2048x2816, .f32⟩
  | .hbm, ⟨52, _⟩ => ⟨S8x2048x2816, .f32⟩
  | .hbm, ⟨53, _⟩ => ⟨S_, .f32⟩
  | .hbm, ⟨54, _⟩ => ⟨S8x2048x2816, .f32⟩
  | .hbm, ⟨55, _⟩ => ⟨S8x2048x2816, .f32⟩
  | .hbm, ⟨56, _⟩ => ⟨S_, .f32⟩
  | .hbm, ⟨57, _⟩ => ⟨S8x2048x2816, .f32⟩
  | .hbm, ⟨58, _⟩ => ⟨S8x2048x2816, .f32⟩
  | .hbm, ⟨59, _⟩ => ⟨S8x2048x2816, .f32⟩
  | .hbm, ⟨60, _⟩ => ⟨S8x2048x2816, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S8x512x4x1024, .f32⟩
  | .hbm, ⟨66, _⟩ => ⟨S8x4x512x1024, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Proof.Prog.lean ====
/- The body of the attention call written as what it is: the casts that ride along, the weight `lam` of the second
   softmax, and thirty-four ticks of a three-stage pipeline over thirty-two items. Item `w` is query tile `w / 8` of slab
   `w % 8`. A tick computes, for nine chunks of 256 keys, the value product of item `w`, the scores of item `w + 2` and
   the exponentials of item `w + 1`; then item `w` is finished. `Proof/ProgEq.lean` says the printed body is this program. -/
module

public import proofs.«01_k».proof.Proof.Gen.KernelIdeal

@[expose] public section

noncomputable section

namespace Cert.KernelIdeal.Attn

open Idealize.ShloMosaic Idealize.SL.Sem
open Cert.KernelIdeal Facts₀ Facts

variable {F : FTy → Type} [FloatOps F]

/-- The references the body works on. -/
structure Refs where
  qt : Memref sig .tc .vmem S1x8x128x1024 .bf16
  k : Memref sig .tc .vmem S1x5x2304x128 .bf16
  vt : Memref sig .tc .vmem S1x5x144x2304 .bf16
  lam : Memref sig .tc .vmem S4x64 .f32
  sub : Memref sig .tc .vmem S1x128 .f32
  w0 : Memref sig .tc .vmem S32x1024 .f32
  w1 : Memref sig .tc .vmem S32x5632 .f32
  w2 : Memref sig .tc .vmem S176x1024 .f32
  w3 : Memref sig .tc .vmem S32x5632 .f32
  w4 : Memref sig .tc .vmem S176x1024 .f32
  o : Memref sig .tc .vmem S1x8x512x128 .bf16
  c0 : Memref sig .tc .vmem S32x1024 .bf16
  c1 : Memref sig .tc .vmem S32x5632 .bf16
  c2 : Memref sig .tc .vmem S176x1024 .bf16
  c3 : Memref sig .tc .vmem S32x5632 .bf16
  c4 : Memref sig .tc .vmem S176x1024 .bf16
  s0 : Memref sig .tc .vmem S2304x256 .f32
  s1 : Memref sig .tc .vmem S2304x256 .f32
  s2 : Memref sig .tc .vmem S2304x256 .f32
  p0 : Memref sig .tc .vmem S2304x256 .bf16
  p1 : Memref sig .tc .vmem S2304x256 .bf16

/-- Those the body stores two-byte words into are whole buffers. -/
structure Refs.Whole (A : Refs) : Prop where
  o : A.o.IsWhole
  c0 : A.c0.IsWhole
  c1 : A.c1.IsWhole
  c2 : A.c2.IsWhole
  c3 : A.c3.IsWhole
  c4 : A.c4.IsWhole
  p0 : A.p0.IsWhole
  p1 : A.p1.IsWhole

/-- The score buffer of item `w`. -/
def Refs.s (A : Refs) (w : ℕ) : Memref sig .tc .vmem S2304x256 .f32 :=
  match w % 3 with
  | 0 => A.s0
  | 1 => A.s1
  | _ => A.s2

/-- The buffer of the exponentials of item `w`. -/
def Refs.p (A : Refs) (w : ℕ) : Memref sig .tc .vmem S2304x256 .bf16 :=
  match w % 2 with
  | 0 => A.p0
  | _ => A.p1

theorem Refs.Whole.p {A : Refs} (hA : A.Whole) (w : ℕ) : (A.p w).IsWhole := by
  unfold Refs.p
  split
  · exact hA.p0
  · exact hA.p1

/-- The key slab of item `w`: the slab's own for the four differential heads, the fifth for the grouped heads. -/
abbrev kv (w : ℕ) : ℕ := w % 8 - (w % 8 - 4)

theorem kv_lt (w : ℕ) : kv w < 5 := by unfold kv; omega

/-! ## The boxes -/

theorem inbS {c : ℕ} (hc : c < 9) : ∀ a, (![256 * c, 0] : Fin 2 → ℕ) a + S256x256.size a ≤ S2304x256.size a := by
  intro a; fin_cases a <;> simp [S256x256, S2304x256]; omega

theorem inbK {c : ℕ} (hc : c < 9) (w : ℕ) :
    ∀ a, (![0, kv w, 256 * c, 0] : Fin 4 → ℕ) a + S1x1x256x128.size a ≤ S1x5x2304x128.size a := by
  have := kv_lt w
  intro a; fin_cases a <;> simp [S1x1x256x128, S1x5x2304x128] <;> omega

theorem inbV {c : ℕ} (hc : c < 9) (w : ℕ) :
    ∀ a, (![0, kv w, 0, 256 * c] : Fin 4 → ℕ) a + S1x1x144x256.size a ≤ S1x5x144x2304.size a := by
  have := kv_lt w
  intro a; fin_cases a <;> simp [S1x1x144x256, S1x5x144x2304] <;> omega

theorem inbQ {w : ℕ} (hw : w < 32) :
    ∀ a, (![0, w % 8, 0, 256 * (w / 8)] : Fin 4 → ℕ) a + S1x1x128x256.size a ≤ S1x8x128x1024.size a := by
  intro a; fin_cases a <;> simp [S1x1x128x256, S1x8x128x1024] <;> omega

theorem inbO {w : ℕ} (hw : w < 32) :
    ∀ a, (![0, w % 8, 128 * (w / 8), 0] : Fin 4 → ℕ) a + S1x1x128x128.size a ≤ S1x8x512x128.size a := by
  intro a; fin_cases a <;> simp [S1x1x128x128, S1x8x512x128] <;> omega

theorem packedP : ∀ {c : ℕ} (hc : c < 9),
    (Rect.unit (s := S2304x256) ![256 * c, 0] S256x256.size (inbS hc)).PackedRows (EltTy.packing .bf16) := by
  intro c hc
  have key : ∀ c : Fin 9,
      (Rect.unit (s := S2304x256) ![256 * c.val, 0] S256x256.size (inbS c.isLt)).PackedRows (EltTy.packing .bf16) := by
    decide
  exact key ⟨c, hc⟩

theorem packedO : ∀ {w : ℕ} (hw : w < 32),
    (Rect.unit (s := S1x8x512x128) ![0, w % 8, 128 * (w / 8), 0] S1x1x128x128.size (inbO hw)).PackedRows
      (EltTy.packing .bf16) := by
  intro w hw
  have key : ∀ w : Fin 32, (Rect.unit (s := S1x8x512x128) ![0, w.val % 8, 128 * (w.val / 8), 0] S1x1x128x128.size
      (inbO w.isLt)).PackedRows (EltTy.packing .bf16) := by
    decide
  exact key ⟨w, hw⟩

/-! ## The values -/

/-- The scores of a chunk of keys against the queries of a tile. -/
def scoreV (k : Vec F S1x1x256x128 .bf16) (q : Vec F S1x1x128x256 .bf16) : FVec F S256x256 .f32 :=
  matmul dot_S256x128_S128x256_S256x256_1_0_0_1_n_n none (shapeCast S256x128 k shapeCasts_S1x1x256x128_S256x128)
    (shapeCast S128x256 q shapeCasts_S1x1x128x256_S128x256) (constant S256x256 .f32 0x00000000#32)

/-- The maximum over the eight groups of thirty-two keys of a chunk. -/
def groupMax (s : FVec F S256x256 .f32) : FVec F S32x256 .f32 :=
  multiReduction .maximumf [0] S32x256 (shapeCast S8x32x256 s shapeCasts_S256x256_S8x32x256) 0xFF800000#32
    reduces_S8x32x256_S32x256 (.inl rfl) rfl

/-- The maximum of thirty-two rows. -/
def rowMax (m8 : FVec F S32x256 .f32) : FVec F S1x256 .f32 :=
  shapeCast S1x256 (multiReduction .maximumf [0] S256 m8 0xFF800000#32 reduces_S32x256_S256 (.inl rfl) rfl)
    shapeCasts_S256_S1x256

/-- The maximum `m`, ordered after `pace` by a term that is zero. -/
def paced (m pace : FVec F S1x256 .f32) : FVec F S1x256 .f32 :=
  addf m (minimumf (absf pace) (broadcast S1x256 (Scalar.ofBits .f32 0x00000000#32)))

/-- The exponentials of a chunk of scores. -/
def expV (s : Vec F S256x256 .f32) (m : FVec F S1x256 .f32) : FVec F S256x256 .bf16 :=
  exp2 (truncf .bf16 (subf s (broadcastTo S256x256 m broadcasts_S1x256_S256x256)) bitsLt_bf16_f32)

/-- The product of a chunk of values with the exponentials of a chunk. -/
def valueV (v : Vec F S1x1x144x256 .bf16) (p : Vec F S256x256 .bf16) : FVec F S144x256 .f32 :=
  matmul dot_S144x256_S256x256_S144x256_1_0_0_1_n_n none (shapeCast S144x256 v shapeCasts_S1x1x144x256_S144x256) p
    (constant S144x256 .f32 0x00000000#32)

/-- The values over their denominators, which are row 128. -/
def normV (acc : FVec F S144x256 .f32) : FVec F S128x256 .f32 :=
  mulf (extractStridedSlice S128x256 ![0, 0] acc slices_S144x256_o0_0_S128x256)
    (broadcastTo S128x256
      (divf (broadcast S1x256 (Scalar.ofBits .f32 0x3F800000#32))
        (extractStridedSlice S1x256 ![128, 0] acc slices_S144x256_o128_0_S1x256))
      broadcasts_S1x256_S128x256)

/-- The first map's half, -/
def loV (acc : FVec F S144x256 .f32) : FVec F S128x128 .f32 :=
  extractStridedSlice S128x128 ![0, 0] (normV acc) slices_S128x256_o0_0_S128x128

/-- and the second map's. -/
def hiV (acc : FVec F S144x256 .f32) : FVec F S128x128 .f32 :=
  extractStridedSlice S128x128 ![0, 128] (normV acc) slices_S128x256_o0_128_S128x128

/-- The difference of the two maps. -/
def diffV (lam : FVec F S1x1 .f32) (acc : FVec F S144x256 .f32) : FVec F S128x128 .f32 :=
  subf (loV acc) (mulf (broadcastTo S128x128 lam broadcasts_S1x1_S128x128) (hiV acc))

/-- The difference over its root mean square, queries along the rows. -/
def rmsV (d : FVec F S128x128 .f32) : FVec F S128x128 .f32 :=
  transpose S128x128 [1, 0]
    (mulf d
      (broadcastTo S128x128
        (rsqrt
          (addf
            (divf
              (shapeCast S1x128
                (multiReduction .add [0] S128 (mulf d d) 0x00000000#32 reduces_S128x128_S128 (.inl rfl) rfl)
                shapeCasts_S128_S1x128)
              (broadcast S1x128 (Scalar.ofBits .f32 0x43000000#32)))
            (broadcast S1x128 (Scalar.ofBits .f32 0x358637BD#32))))
        broadcasts_S1x128_S128x128))
    transposes_S128x128_p1_0_S128x128

/-- A finished tile of a differential head. -/
def finishA (sub : Vec F S1x128 .f32) (d : FVec F S128x128 .f32) : FVec F S1x1x128x128 .bf16 :=
  shapeCast S1x1x128x128
    (truncf .bf16
      (mulf (rmsV d)
        (broadcastTo S128x128
          (mulf (shapeCast S1x128 sub shapeCasts_S1x128_S1x128)
            (broadcast S1x128 (Scalar.ofBits .f32 0x3F4CCCCD#32)))
          broadcasts_S1x128_S128x128))
      bitsLt_bf16_f32)
    shapeCasts_S128x128_S1x1x128x128

/-- The rows below 64. -/
def loRows : IVec S128x128 1 :=
  cmpi .slt (iota .tc S128x128 32 [0] iota_S128x128_d0_w32) (broadcast S128x128 64#32)

/-- A finished tile of two grouped heads side by side. -/
def finishB (acc : FVec F S144x256 .f32) : FVec F S1x1x128x128 .bf16 :=
  shapeCast S1x1x128x128
    (truncf .bf16
      (transpose S128x128 [1, 0] (select loRows (loV acc) (hiV acc)) transposes_S128x128_p1_0_S128x128)
      bitsLt_bf16_f32)
    shapeCasts_S128x128_S1x1x128x128

/-- The exponential of the product of two rows. -/
def expDot (a b : FVec F S1x64 .f32) : FVec F S1x1 .f32 :=
  exp (shapeCast S1x1 (multiReduction .add [1] S1 (mulf a b) 0x00000000#32 reduces_S1x64_S1 (.inl rfl) rfl)
    shapeCasts_S1_S1x1)

/-- The weight of the second softmax, of the four vectors. -/
def lamOf (v : FVec F S4x64 .f32) : FVec F S1x1 .f32 :=
  addf
    (subf
      (expDot (extractStridedSlice S1x64 ![0, 0] v slices_S4x64_o0_0_S1x64)
        (extractStridedSlice S1x64 ![1, 0] v slices_S4x64_o1_0_S1x64))
      (expDot (extractStridedSlice S1x64 ![2, 0] v slices_S4x64_o2_0_S1x64)
        (extractStridedSlice S1x64 ![3, 0] v slices_S4x64_o3_0_S1x64)))
    (broadcast S1x1 (Scalar.ofBits .f32 0x3E4CCCCD#32))

/-- The same of what a load of them reads. -/
def lamV (v : Vec F S4x64 .f32) : FVec F S1x1 .f32 :=
  lamOf (shapeCast S4x64 v shapeCasts_S4x64_S4x64)

/-! ## The steps -/

/-- Programs of the body. -/
abbrev M (F : FTy → Type) [FloatOps F] (α : Type) := Prog (TpuEff nD τ sig (Elt F) Λ₀ .tc) α

/-- One block of weights cast to two bytes. -/
def cast0 (src : Memref sig .tc .vmem S32x1024 .f32) (dst : Memref sig .tc .vmem S32x1024 .bf16) (hd : dst.IsWhole) :
    M F PUnit := do
  let v : Vec F S32x1024 .f32 ← Prog.lift (.load src (Rect.unit (s := S32x1024) ![0, 0] S32x1024.size inb_S32x1024_S32x1024_0_0).toLoadRect (View.loadsAt_vmem h_S32x1024))
  let _old : Vec F S32x1024 .bf16 ← Prog.lift (.load dst (Rect.unit (s := S32x1024) ![0, 0] S32x1024.size inb_S32x1024_S32x1024_0_0).toLoadRect (View.loadsAt_vmem h_S32x1024))
  Prog.lift (.store dst (Rect.unit (s := S32x1024) ![0, 0] S32x1024.size inb_S32x1024_S32x1024_0_0) (truncf .bf16 v bitsLt_bf16_f32 : FVec F S32x1024 .bf16) Finset.univ (View.stores_vmem h_S32x1024 (hd.storeExact_slice rfl _ packedbf16_S32x1024_S32x1024_0_0) (fun _ => rfl)) (.inl rfl))

/-- The same of the blocks of 32 rows of 5632, -/
def cast1 (src : Memref sig .tc .vmem S32x5632 .f32) (dst : Memref sig .tc .vmem S32x5632 .bf16) (hd : dst.IsWhole) :
    M F PUnit := do
  let v : Vec F S32x5632 .f32 ← Prog.lift (.load src (Rect.unit (s := S32x5632) ![0, 0] S32x5632.size inb_S32x5632_S32x5632_0_0).toLoadRect (View.loadsAt_vmem h_S32x5632))
  let _old : Vec F S32x5632 .bf16 ← Prog.lift (.load dst (Rect.unit (s := S32x5632) ![0, 0] S32x5632.size inb_S32x5632_S32x5632_0_0).toLoadRect (View.loadsAt_vmem h_S32x5632))
  Prog.lift (.store dst (Rect.unit (s := S32x5632) ![0, 0] S32x5632.size inb_S32x5632_S32x5632_0_0) (truncf .bf16 v bitsLt_bf16_f32 : FVec F S32x5632 .bf16) Finset.univ (View.stores_vmem h_S32x5632 (hd.storeExact_slice rfl _ packedbf16_S32x5632_S32x5632_0_0) (fun _ => rfl)) (.inl rfl))

/-- and of those of 176 rows of 1024. -/
def cast2 (src : Memref sig .tc .vmem S176x1024 .f32) (dst : Memref sig .tc .vmem S176x1024 .bf16) (hd : dst.IsWhole) :
    M F PUnit := do
  let v : Vec F S176x1024 .f32 ← Prog.lift (.load src (Rect.unit (s := S176x1024) ![0, 0] S176x1024.size inb_S176x1024_S176x1024_0_0).toLoadRect (View.loadsAt_vmem h_S176x1024))
  let _old : Vec F S176x1024 .bf16 ← Prog.lift (.load dst (Rect.unit (s := S176x1024) ![0, 0] S176x1024.size inb_S176x1024_S176x1024_0_0).toLoadRect (View.loadsAt_vmem h_S176x1024))
  Prog.lift (.store dst (Rect.unit (s := S176x1024) ![0, 0] S176x1024.size inb_S176x1024_S176x1024_0_0) (truncf .bf16 v bitsLt_bf16_f32 : FVec F S176x1024 .bf16) Finset.univ (View.stores_vmem h_S176x1024 (hd.storeExact_slice rfl _ packedbf16_S176x1024_S176x1024_0_0) (fun _ => rfl)) (.inl rfl))

variable (A : Refs) (hA : A.Whole)

/-- The scores of chunk `c` of item `w`, kept in its score buffer. -/
def score (w c : ℕ) (hw : w < 32) (hc : c < 9) : M F (FVec F S256x256 .f32) := do
  let k : Vec F S1x1x256x128 .bf16 ← Prog.lift (.load A.k (Rect.unit (s := S1x5x2304x128) ![0, kv w, 256 * c, 0] S1x1x256x128.size (inbK hc w)).toLoadRect (View.loadsAt_vmem h_S1x1x256x128))
  let q : Vec F S1x1x128x256 .bf16 ← Prog.lift (.load A.qt (Rect.unit (s := S1x8x128x1024) ![0, w % 8, 0, 256 * (w / 8)] S1x1x128x256.size (inbQ hw)).toLoadRect (View.loadsAt_vmem h_S1x1x128x256))
  let _old : Vec F S256x256 .f32 ← Prog.lift (.load (A.s w) (Rect.unit (s := S2304x256) ![256 * c, 0] S256x256.size (inbS hc)).toLoadRect (View.loadsAt_vmem h_S256x256))
  Prog.lift (.store (A.s w) (Rect.unit (s := S2304x256) ![256 * c, 0] S256x256.size (inbS hc)) (shapeCast S256x256 (scoreV k q) shapeCasts_S256x256_S256x256) Finset.univ (View.stores_vmem_bits_univ h_S256x256 rfl) (.inl rfl))
  pure (scoreV k q)

/-- The exponentials of chunk `c` of item `w` under the maximum `m`. -/
def expo (w c : ℕ) (hc : c < 9) (m : FVec F S1x256 .f32) : M F PUnit := do
  let s : Vec F S256x256 .f32 ← Prog.lift (.load (A.s w) (Rect.unit (s := S2304x256) ![256 * c, 0] S256x256.size (inbS hc)).toLoadRect (View.loadsAt_vmem h_S256x256))
  let _old : Vec F S256x256 .bf16 ← Prog.lift (.load (A.p w) (Rect.unit (s := S2304x256) ![256 * c, 0] S256x256.size (inbS hc)).toLoadRect (View.loadsAt_vmem h_S256x256))
  Prog.lift (.store (A.p w) (Rect.unit (s := S2304x256) ![256 * c, 0] S256x256.size (inbS hc)) (shapeCast S256x256 (expV s m) shapeCasts_S256x256_S256x256) Finset.univ (View.stores_vmem h_S256x256 ((hA.p w).storeExact_slice rfl _ (packedP hc)) (fun _ => rfl)) (.inl rfl))

/-- The value product of chunk `c` of item `w`. -/
def value (w c : ℕ) (hc : c < 9) : M F (FVec F S144x256 .f32) := do
  let v : Vec F S1x1x144x256 .bf16 ← Prog.lift (.load A.vt (Rect.unit (s := S1x5x144x2304) ![0, kv w, 0, 256 * c] S1x1x144x256.size (inbV hc w)).toLoadRect (View.loadsAt_vmem h_S1x1x144x256))
  let p : Vec F S256x256 .bf16 ← Prog.lift (.load (A.p w) (Rect.unit (s := S2304x256) ![256 * c, 0] S256x256.size (inbS hc)).toLoadRect (View.loadsAt_vmem h_S256x256))
  pure (valueV v p)

/-- A finished tile goes to its place. -/
def put (w : ℕ) (hw : w < 32) (v : FVec F S1x1x128x128 .bf16) : M F PUnit := do
  let _old : Vec F S1x1x128x128 .bf16 ← Prog.lift (.load A.o (Rect.unit (s := S1x8x512x128) ![0, w % 8, 128 * (w / 8), 0] S1x1x128x128.size (inbO hw)).toLoadRect (View.loadsAt_vmem h_S1x1x128x128))
  Prog.lift (.store A.o (Rect.unit (s := S1x8x512x128) ![0, w % 8, 128 * (w / 8), 0] S1x1x128x128.size (inbO hw)) v Finset.univ (View.stores_vmem h_S1x1x128x128 (hA.o.storeExact_slice rfl _ (packedO hw)) (fun _ => rfl)) (.inl rfl))

/-- Item `w` is finished from its accumulated product. -/
def finish (lam : FVec F S1x1 .f32) (w : ℕ) (hw : w < 32) (acc : FVec F S144x256 .f32) : M F PUnit :=
  bif (w % 8).blt 4 then do
    let g : Vec F S1x128 .f32 ← Prog.lift (.load A.sub (Rect.unit (s := S1x128) ![0, 0] S1x128.size inb_S1x128_S1x128_0_0).toLoadRect (View.loadsAt_vmem h_S1x128))
    put A hA w hw (finishA g (diffV lam acc))
  else put A hA w hw (finishB acc)

/-- Row 0 of thirty-two. -/
abbrev row32 (m8 : FVec F S32x256 .f32) : FVec F S1x256 .f32 :=
  extractStridedSlice S1x256 ![0, 0] m8 slices_S32x256_o0_0_S1x256

/-- Row 0 of a hundred and forty-four. -/
abbrev row144 (acc : FVec F S144x256 .f32) : FVec F S1x256 .f32 :=
  extractStridedSlice S1x256 ![0, 0] acc slices_S144x256_o0_0_S1x256

/-! ## The ticks -/

/-- The chunks of the first tick after chunk `c`: scores alone. -/
def midS : (n c : ℕ) → c + n ≤ 9 → FVec F S32x256 .f32 → M F (FVec F S32x256 .f32)
  | 0, _, _, m8 => pure m8
  | n + 1, c, h, m8 => do
    let s ← score A 0 c (by omega) (by omega)
    midS n (c + 1) (by omega) (maximumf m8 (groupMax s))

/-- The chunks of the second tick: scores of item 1 and exponentials of item 0. -/
def midSE (m : FVec F S1x256 .f32) : (n c : ℕ) → c + n ≤ 9 → FVec F S32x256 .f32 → M F (FVec F S32x256 .f32)
  | 0, _, _, m8 => pure m8
  | n + 1, c, h, m8 => do
    let s ← score A 1 c (by omega) (by omega)
    expo A hA 0 c (by omega) (paced m (row32 m8))
    midSE m n (c + 1) (by omega) (maximumf m8 (groupMax s))

/-- The chunks of a full tick. -/
def mid (w : ℕ) (hw : w + 2 < 32) (m : FVec F S1x256 .f32) :
    (n c : ℕ) → c + n ≤ 9 → FVec F S144x256 .f32 → FVec F S32x256 .f32 →
      M F (FVec F S144x256 .f32 × FVec F S32x256 .f32)
  | 0, _, _, acc, m8 => pure (acc, m8)
  | n + 1, c, h, acc, m8 => do
    let pv ← value A w c (by omega)
    let s ← score A (w + 2) c hw (by omega)
    expo A hA (w + 1) c (by omega) (paced m (row32 m8))
    mid w hw m n (c + 1) (by omega) (addf acc pv) (maximumf m8 (groupMax s))

/-- The chunks of the last tick but one: values of item 30 and exponentials of item 31. -/
def midEV (m : FVec F S1x256 .f32) : (n c : ℕ) → c + n ≤ 9 → FVec F S144x256 .f32 → M F (FVec F S144x256 .f32)
  | 0, _, _, acc => pure acc
  | n + 1, c, h, acc => do
    let pv ← value A 30 c (by omega)
    expo A hA 31 c (by omega) (paced m (row144 acc))
    midEV m n (c + 1) (by omega) (addf acc pv)

/-- The chunks of the last tick: values of item 31. -/
def midV : (n c : ℕ) → c + n ≤ 9 → FVec F S144x256 .f32 → M F (FVec F S144x256 .f32)
  | 0, _, _, acc => pure acc
  | n + 1, c, h, acc => do
    let pv ← value A 31 c (by omega)
    midV n (c + 1) (by omega) (addf acc pv)

/-- The first tick. -/
def tickS : M F (FVec F S32x256 .f32) := do
  let s ← score A 0 0 (by omega) (by omega)
  midS A 8 1 (by omega) (groupMax s)

/-- The second tick. -/
def tickSE (m8 : FVec F S32x256 .f32) : M F (FVec F S32x256 .f32) := do
  let s ← score A 1 0 (by omega) (by omega)
  expo A hA 0 0 (by omega) (rowMax m8)
  midSE A hA (rowMax m8) 8 1 (by omega) (groupMax s)

/-- A full tick. -/
def tick (lam : FVec F S1x1 .f32) (w : ℕ) (hw : w + 2 < 32) (m8 : FVec F S32x256 .f32) : M F (FVec F S32x256 .f32) := do
  let pv ← value A w 0 (by omega)
  let s ← score A (w + 2) 0 hw (by omega)
  expo A hA (w + 1) 0 (by omega) (rowMax m8)
  let r ← mid A hA w hw (rowMax m8) 8 1 (by omega) pv (groupMax s)
  finish A hA lam w (by omega) r.1
  pure r.2

/-- The full ticks. -/
def ticks (lam : FVec F S1x1 .f32) : (n w : ℕ) → w + n ≤ 30 → FVec F S32x256 .f32 → M F (FVec F S32x256 .f32)
  | 0, _, _, m8 => pure m8
  | n + 1, w, h, m8 => do
    let m8' ← tick A hA lam w (by omega) m8
    ticks lam n (w + 1) (by omega) m8'

/-- The last tick but one. -/
def tickEV (lam : FVec F S1x1 .f32) (m8 : FVec F S32x256 .f32) : M F PUnit := do
  let pv ← value A 30 0 (by omega)
  expo A hA 31 0 (by omega) (rowMax m8)
  let acc ← midEV A hA (rowMax m8) 8 1 (by omega) pv
  finish A hA lam 30 (by omega) acc

/-- The last tick. -/
def tickV (lam : FVec F S1x1 .f32) : M F PUnit := do
  let pv ← value A 31 0 (by omega)
  let acc ← midV A 8 1 (by omega) pv
  finish A hA lam 31 (by omega) acc

/-- The body. -/
def body : M F PUnit := do
  cast0 A.w0 A.c0 hA.c0
  cast1 A.w1 A.c1 hA.c1
  cast2 A.w2 A.c2 hA.c2
  cast1 A.w3 A.c3 hA.c3
  cast2 A.w4 A.c4 hA.c4
  let lv : Vec F S4x64 .f32 ← Prog.lift (.load A.lam (Rect.unit (s := S4x64) ![0, 0] S4x64.size inb_S4x64_S4x64_0_0).toLoadRect (View.loadsAt_vmem h_S4x64))
  let m8 ← tickS A
  let m8 ← tickSE A hA m8
  let m8 ← ticks A hA (lamV lv) 30 0 (by omega) m8
  tickEV A hA (lamV lv) m8
  tickV A hA (lamV lv)

end Cert.KernelIdeal.Attn

end
-- ==== Proof.ProgCps.lean ====
/- The program of `Proof/Prog.lean` again, each step handed what is done after it, so that it is one chain of loads and
   stores; and that the two are the same program. -/
module

public import proofs.«01_k».proof.Proof.Prog

@[expose] public section

noncomputable section

namespace Cert.KernelIdeal.Attn

open Idealize.ShloMosaic Idealize.SL.Sem
open Cert.KernelIdeal Facts₀ Facts

variable {F : FTy → Type} [FloatOps F]

variable (A : Refs) (hA : A.Whole)

/-- `cast0`, then `k`. -/
def cast0K (src : Memref sig .tc .vmem S32x1024 .f32) (dst : Memref sig .tc .vmem S32x1024 .bf16) (hd : dst.IsWhole) (k : PUnit.{1} → M F PUnit) : M F PUnit :=
  .op (.load src (Rect.unit (s := S32x1024) ![0, 0] S32x1024.size inb_S32x1024_S32x1024_0_0).toLoadRect (View.loadsAt_vmem h_S32x1024)) fun (v : Vec F S32x1024 .f32) =>
  .op (.load dst (Rect.unit (s := S32x1024) ![0, 0] S32x1024.size inb_S32x1024_S32x1024_0_0).toLoadRect (View.loadsAt_vmem h_S32x1024)) fun (_old : Vec F S32x1024 .bf16) =>
  .op (.store dst (Rect.unit (s := S32x1024) ![0, 0] S32x1024.size inb_S32x1024_S32x1024_0_0) (truncf .bf16 v bitsLt_bf16_f32 : FVec F S32x1024 .bf16) Finset.univ (View.stores_vmem h_S32x1024 (hd.storeExact_slice rfl _ packedbf16_S32x1024_S32x1024_0_0) (fun _ => rfl)) (.inl rfl)) fun _ =>
  k ⟨⟩

theorem cast0K_eq (src : Memref sig .tc .vmem S32x1024 .f32) (dst : Memref sig .tc .vmem S32x1024 .bf16) (hd : dst.IsWhole) (k : PUnit.{1} → M F PUnit) : (cast0 (F := F) src dst hd >>= k) = cast0K src dst hd k := rfl

/-- `cast1`, then `k`. -/
def cast1K (src : Memref sig .tc .vmem S32x5632 .f32) (dst : Memref sig .tc .vmem S32x5632 .bf16) (hd : dst.IsWhole) (k : PUnit.{1} → M F PUnit) : M F PUnit :=
  .op (.load src (Rect.unit (s := S32x5632) ![0, 0] S32x5632.size inb_S32x5632_S32x5632_0_0).toLoadRect (View.loadsAt_vmem h_S32x5632)) fun (v : Vec F S32x5632 .f32) =>
  .op (.load dst (Rect.unit (s := S32x5632) ![0, 0] S32x5632.size inb_S32x5632_S32x5632_0_0).toLoadRect (View.loadsAt_vmem h_S32x5632)) fun (_old : Vec F S32x5632 .bf16) =>
  .op (.store dst (Rect.unit (s := S32x5632) ![0, 0] S32x5632.size inb_S32x5632_S32x5632_0_0) (truncf .bf16 v bitsLt_bf16_f32 : FVec F S32x5632 .bf16) Finset.univ (View.stores_vmem h_S32x5632 (hd.storeExact_slice rfl _ packedbf16_S32x5632_S32x5632_0_0) (fun _ => rfl)) (.inl rfl)) fun _ =>
  k ⟨⟩

theorem cast1K_eq (src : Memref sig .tc .vmem S32x5632 .f32) (dst : Memref sig .tc .vmem S32x5632 .bf16) (hd : dst.IsWhole) (k : PUnit.{1} → M F PUnit) : (cast1 (F := F) src dst hd >>= k) = cast1K src dst hd k := rfl

/-- `cast2`, then `k`. -/
def cast2K (src : Memref sig .tc .vmem S176x1024 .f32) (dst : Memref sig .tc .vmem S176x1024 .bf16) (hd : dst.IsWhole) (k : PUnit.{1} → M F PUnit) : M F PUnit :=
  .op (.load src (Rect.unit (s := S176x1024) ![0, 0] S176x1024.size inb_S176x1024_S176x1024_0_0).toLoadRect (View.loadsAt_vmem h_S176x1024)) fun (v : Vec F S176x1024 .f32) =>
  .op (.load dst (Rect.unit (s := S176x1024) ![0, 0] S176x1024.size inb_S176x1024_S176x1024_0_0).toLoadRect (View.loadsAt_vmem h_S176x1024)) fun (_old : Vec F S176x1024 .bf16) =>
  .op (.store dst (Rect.unit (s := S176x1024) ![0, 0] S176x1024.size inb_S176x1024_S176x1024_0_0) (truncf .bf16 v bitsLt_bf16_f32 : FVec F S176x1024 .bf16) Finset.univ (View.stores_vmem h_S176x1024 (hd.storeExact_slice rfl _ packedbf16_S176x1024_S176x1024_0_0) (fun _ => rfl)) (.inl rfl)) fun _ =>
  k ⟨⟩

theorem cast2K_eq (src : Memref sig .tc .vmem S176x1024 .f32) (dst : Memref sig .tc .vmem S176x1024 .bf16) (hd : dst.IsWhole) (k : PUnit.{1} → M F PUnit) : (cast2 (F := F) src dst hd >>= k) = cast2K src dst hd k := rfl

/-- `score`, then `k`. -/
def scoreK (w c : ℕ) (hw : w < 32) (hc : c < 9) (k : FVec F S256x256 .f32 → M F PUnit) : M F PUnit :=
  .op (.load A.k (Rect.unit (s := S1x5x2304x128) ![0, kv w, 256 * c, 0] S1x1x256x128.size (inbK hc w)).toLoadRect (View.loadsAt_vmem h_S1x1x256x128)) fun (kk : Vec F S1x1x256x128 .bf16) =>
  .op (.load A.qt (Rect.unit (s := S1x8x128x1024) ![0, w % 8, 0, 256 * (w / 8)] S1x1x128x256.size (inbQ hw)).toLoadRect (View.loadsAt_vmem h_S1x1x128x256)) fun (q : Vec F S1x1x128x256 .bf16) =>
  .op (.load (A.s w) (Rect.unit (s := S2304x256) ![256 * c, 0] S256x256.size (inbS hc)).toLoadRect (View.loadsAt_vmem h_S256x256)) fun (_old : Vec F S256x256 .f32) =>
  .op (.store (A.s w) (Rect.unit (s := S2304x256) ![256 * c, 0] S256x256.size (inbS hc)) (shapeCast S256x256 (scoreV kk q) shapeCasts_S256x256_S256x256) Finset.univ (View.stores_vmem_bits_univ h_S256x256 rfl) (.inl rfl)) fun _ =>
  k (scoreV kk q)

theorem scoreK_eq (w c : ℕ) (hw : w < 32) (hc : c < 9) (k : FVec F S256x256 .f32 → M F PUnit) : (score (F := F) A w c hw hc >>= k) = scoreK A w c hw hc k := rfl

/-- `expo`, then `k`. -/
def expoK (w c : ℕ) (hc : c < 9) (m : FVec F S1x256 .f32) (k : PUnit.{1} → M F PUnit) : M F PUnit :=
  .op (.load (A.s w) (Rect.unit (s := S2304x256) ![256 * c, 0] S256x256.size (inbS hc)).toLoadRect (View.loadsAt_vmem h_S256x256)) fun (s : Vec F S256x256 .f32) =>
  .op (.load (A.p w) (Rect.unit (s := S2304x256) ![256 * c, 0] S256x256.size (inbS hc)).toLoadRect (View.loadsAt_vmem h_S256x256)) fun (_old : Vec F S256x256 .bf16) =>
  .op (.store (A.p w) (Rect.unit (s := S2304x256) ![256 * c, 0] S256x256.size (inbS hc)) (shapeCast S256x256 (expV s m) shapeCasts_S256x256_S256x256) Finset.univ (View.stores_vmem h_S256x256 ((hA.p w).storeExact_slice rfl _ (packedP hc)) (fun _ => rfl)) (.inl rfl)) fun _ =>
  k ⟨⟩

theorem expoK_eq (w c : ℕ) (hc : c < 9) (m : FVec F S1x256 .f32) (k : PUnit.{1} → M F PUnit) : (expo (F := F) A hA w c hc m >>= k) = expoK A hA w c hc m k := rfl

/-- `value`, then `k`. -/
def valueK (w c : ℕ) (hc : c < 9) (k : FVec F S144x256 .f32 → M F PUnit) : M F PUnit :=
  .op (.load A.vt (Rect.unit (s := S1x5x144x2304) ![0, kv w, 0, 256 * c] S1x1x144x256.size (inbV hc w)).toLoadRect (View.loadsAt_vmem h_S1x1x144x256)) fun (v : Vec F S1x1x144x256 .bf16) =>
  .op (.load (A.p w) (Rect.unit (s := S2304x256) ![256 * c, 0] S256x256.size (inbS hc)).toLoadRect (View.loadsAt_vmem h_S256x256)) fun (p : Vec F S256x256 .bf16) =>
  k (valueV v p)

theorem valueK_eq (w c : ℕ) (hc : c < 9) (k : FVec F S144x256 .f32 → M F PUnit) : (value (F := F) A w c hc >>= k) = valueK A w c hc k := rfl

/-- `put`, then `k`. -/
def putK (w : ℕ) (hw : w < 32) (v : FVec F S1x1x128x128 .bf16) (k : PUnit.{1} → M F PUnit) : M F PUnit :=
  .op (.load A.o (Rect.unit (s := S1x8x512x128) ![0, w % 8, 128 * (w / 8), 0] S1x1x128x128.size (inbO hw)).toLoadRect (View.loadsAt_vmem h_S1x1x128x128)) fun (_old : Vec F S1x1x128x128 .bf16) =>
  .op (.store A.o (Rect.unit (s := S1x8x512x128) ![0, w % 8, 128 * (w / 8), 0] S1x1x128x128.size (inbO hw)) v Finset.univ (View.stores_vmem h_S1x1x128x128 (hA.o.storeExact_slice rfl _ (packedO hw)) (fun _ => rfl)) (.inl rfl)) fun _ =>
  k ⟨⟩

theorem putK_eq (w : ℕ) (hw : w < 32) (v : FVec F S1x1x128x128 .bf16) (k : PUnit.{1} → M F PUnit) : (put (F := F) A hA w hw v >>= k) = putK A hA w hw v k := rfl

/-- `finish`, then `k`. -/
def finishK (lam : FVec F S1x1 .f32) (w : ℕ) (hw : w < 32) (acc : FVec F S144x256 .f32) (k : PUnit.{1} → M F PUnit) : M F PUnit :=
  bif (w % 8).blt 4 then
    .op (.load A.sub (Rect.unit (s := S1x128) ![0, 0] S1x128.size inb_S1x128_S1x128_0_0).toLoadRect (View.loadsAt_vmem h_S1x128)) fun (g : Vec F S1x128 .f32) =>
    putK A hA w hw (finishA g (diffV lam acc)) k
  else putK A hA w hw (finishB acc) k

theorem finishK_eq (lam : FVec F S1x1 .f32) (w : ℕ) (hw : w < 32) (acc : FVec F S144x256 .f32) (k : PUnit.{1} → M F PUnit) :
    (finish A hA lam w hw acc >>= k) = finishK A hA lam w hw acc k := by
  unfold finish finishK
  cases (w % 8).blt 4 <;> rfl

/-- `midS`, then `k`. -/
def midSK (k : FVec F S32x256 .f32 → M F PUnit) : (n c : ℕ) → c + n ≤ 9 → FVec F S32x256 .f32 → M F PUnit
  | 0, _, _, m8 => k m8
  | n + 1, c, h, m8 =>
    scoreK A 0 c (by omega) (by omega) fun s =>
    midSK k n (c + 1) (by omega) (maximumf m8 (groupMax s))

theorem midSK_eq (k : FVec F S32x256 .f32 → M F PUnit) : ∀ (n c : ℕ) (h : c + n ≤ 9) (m8 : FVec F S32x256 .f32),
    (midS A n c h m8 >>= k) = midSK A k n c h m8
  | 0, _, _, m8 => rfl
  | n + 1, c, h, m8 => by
    unfold midS midSK
    rw [bind_assoc, scoreK_eq]
    exact congrArg _ (funext fun s => midSK_eq k n (c + 1) _ _)

/-- `midSE`, then `k`. -/
def midSEK (m : FVec F S1x256 .f32) (k : FVec F S32x256 .f32 → M F PUnit) : (n c : ℕ) → c + n ≤ 9 → FVec F S32x256 .f32 → M F PUnit
  | 0, _, _, m8 => k m8
  | n + 1, c, h, m8 =>
    scoreK A 1 c (by omega) (by omega) fun s =>
    expoK A hA 0 c (by omega) (paced m (row32 m8)) fun _ =>
    midSEK m k n (c + 1) (by omega) (maximumf m8 (groupMax s))

theorem midSEK_eq (m : FVec F S1x256 .f32) (k : FVec F S32x256 .f32 → M F PUnit) : ∀ (n c : ℕ) (h : c + n ≤ 9) (m8 : FVec F S32x256 .f32),
    (midSE A hA m n c h m8 >>= k) = midSEK A hA m k n c h m8
  | 0, _, _, m8 => rfl
  | n + 1, c, h, m8 => by
    unfold midSE midSEK
    rw [bind_assoc, scoreK_eq]
    refine congrArg _ (funext fun s => ?_)
    rw [bind_assoc, expoK_eq]
    exact congrArg _ (funext fun _ => midSEK_eq m k n (c + 1) _ _)

/-- `mid`, then `k`. -/
def midK (w : ℕ) (hw : w + 2 < 32) (m : FVec F S1x256 .f32) (k : FVec F S144x256 .f32 × FVec F S32x256 .f32 → M F PUnit) :
    (n c : ℕ) → c + n ≤ 9 → FVec F S144x256 .f32 → FVec F S32x256 .f32 → M F PUnit
  | 0, _, _, acc, m8 => k (acc, m8)
  | n + 1, c, h, acc, m8 =>
    valueK A w c (by omega) fun pv =>
    scoreK A (w + 2) c hw (by omega) fun s =>
    expoK A hA (w + 1) c (by omega) (paced m (row32 m8)) fun _ =>
    midK w hw m k n (c + 1) (by omega) (addf acc pv) (maximumf m8 (groupMax s))

theorem midK_eq (w : ℕ) (hw : w + 2 < 32) (m : FVec F S1x256 .f32) (k : FVec F S144x256 .f32 × FVec F S32x256 .f32 → M F PUnit) :
    ∀ (n c : ℕ) (h : c + n ≤ 9) (acc : FVec F S144x256 .f32) (m8 : FVec F S32x256 .f32),
      (mid A hA w hw m n c h acc m8 >>= k) = midK A hA w hw m k n c h acc m8
  | 0, _, _, acc, m8 => rfl
  | n + 1, c, h, acc, m8 => by
    unfold mid midK
    rw [bind_assoc, valueK_eq]
    refine congrArg _ (funext fun pv => ?_)
    rw [bind_assoc, scoreK_eq]
    refine congrArg _ (funext fun s => ?_)
    rw [bind_assoc, expoK_eq]
    exact congrArg _ (funext fun _ => midK_eq w hw m k n (c + 1) _ _ _)

/-- `midEV`, then `k`. -/
def midEVK (m : FVec F S1x256 .f32) (k : FVec F S144x256 .f32 → M F PUnit) : (n c : ℕ) → c + n ≤ 9 → FVec F S144x256 .f32 → M F PUnit
  | 0, _, _, acc => k acc
  | n + 1, c, h, acc =>
    valueK A 30 c (by omega) fun pv =>
    expoK A hA 31 c (by omega) (paced m (row144 acc)) fun _ =>
    midEVK m k n (c + 1) (by omega) (addf acc pv)

theorem midEVK_eq (m : FVec F S1x256 .f32) (k : FVec F S144x256 .f32 → M F PUnit) : ∀ (n c : ℕ) (h : c + n ≤ 9) (acc : FVec F S144x256 .f32),
    (midEV A hA m n c h acc >>= k) = midEVK A hA m k n c h acc
  | 0, _, _, acc => rfl
  | n + 1, c, h, acc => by
    unfold midEV midEVK
    rw [bind_assoc, valueK_eq]
    refine congrArg _ (funext fun pv => ?_)
    rw [bind_assoc, expoK_eq]
    exact congrArg _ (funext fun _ => midEVK_eq m k n (c + 1) _ _)

/-- `midV`, then `k`. -/
def midVK (k : FVec F S144x256 .f32 → M F PUnit) : (n c : ℕ) → c + n ≤ 9 → FVec F S144x256 .f32 → M F PUnit
  | 0, _, _, acc => k acc
  | n + 1, c, h, acc =>
    valueK A 31 c (by omega) fun pv =>
    midVK k n (c + 1) (by omega) (addf acc pv)

theorem midVK_eq (k : FVec F S144x256 .f32 → M F PUnit) : ∀ (n c : ℕ) (h : c + n ≤ 9) (acc : FVec F S144x256 .f32),
    (midV A n c h acc >>= k) = midVK A k n c h acc
  | 0, _, _, acc => rfl
  | n + 1, c, h, acc => by
    unfold midV midVK
    rw [bind_assoc, valueK_eq]
    exact congrArg _ (funext fun pv => midVK_eq k n (c + 1) _ _)

/-- `tick`, then `k`. -/
def tickK (lam : FVec F S1x1 .f32) (w : ℕ) (hw : w + 2 < 32) (m8 : FVec F S32x256 .f32) (k : FVec F S32x256 .f32 → M F PUnit) : M F PUnit :=
  valueK A w 0 (by omega) fun pv =>
  scoreK A (w + 2) 0 hw (by omega) fun s =>
  expoK A hA (w + 1) 0 (by omega) (rowMax m8) fun _ =>
  midK A hA w hw (rowMax m8) (fun r => finishK A hA lam w (by omega) r.1 fun _ => k r.2) 8 1 (by omega) pv (groupMax s)

theorem tickK_eq (lam : FVec F S1x1 .f32) (w : ℕ) (hw : w + 2 < 32) (m8 : FVec F S32x256 .f32) (k : FVec F S32x256 .f32 → M F PUnit) :
    (tick A hA lam w hw m8 >>= k) = tickK A hA lam w hw m8 k := by
  unfold tick tickK
  rw [bind_assoc, valueK_eq]
  refine congrArg _ (funext fun pv => ?_)
  rw [bind_assoc, scoreK_eq]
  refine congrArg _ (funext fun s => ?_)
  rw [bind_assoc, expoK_eq]
  refine congrArg _ (funext fun _ => ?_)
  rw [bind_assoc, midK_eq]
  refine congrArg (fun K => midK A hA w hw (rowMax m8) K 8 1 _ pv (groupMax s)) (funext fun r => ?_)
  rw [bind_assoc, finishK_eq]
  exact congrArg _ (funext fun _ => pure_bind _ _)

/-- `ticks`, then `k`. -/
def ticksK (lam : FVec F S1x1 .f32) (k : FVec F S32x256 .f32 → M F PUnit) : (n w : ℕ) → w + n ≤ 30 → FVec F S32x256 .f32 → M F PUnit
  | 0, _, _, m8 => k m8
  | n + 1, w, h, m8 => tickK A hA lam w (by omega) m8 fun m8' => ticksK lam k n (w + 1) (by omega) m8'

theorem ticksK_eq (lam : FVec F S1x1 .f32) (k : FVec F S32x256 .f32 → M F PUnit) : ∀ (n w : ℕ) (h : w + n ≤ 30) (m8 : FVec F S32x256 .f32),
    (ticks A hA lam n w h m8 >>= k) = ticksK A hA lam k n w h m8
  | 0, _, _, m8 => rfl
  | n + 1, w, h, m8 => by
    unfold ticks ticksK
    rw [bind_assoc, tickK_eq]
    exact congrArg _ (funext fun m8' => ticksK_eq lam k n (w + 1) _ _)

/-- The body as one chain. -/
def bodyK : M F PUnit :=
  cast0K A.w0 A.c0 hA.c0 fun _ =>
  cast1K A.w1 A.c1 hA.c1 fun _ =>
  cast2K A.w2 A.c2 hA.c2 fun _ =>
  cast1K A.w3 A.c3 hA.c3 fun _ =>
  cast2K A.w4 A.c4 hA.c4 fun _ =>
  .op (.load A.lam (Rect.unit (s := S4x64) ![0, 0] S4x64.size inb_S4x64_S4x64_0_0).toLoadRect (View.loadsAt_vmem h_S4x64)) fun (lv : Vec F S4x64 .f32) =>
  scoreK A 0 0 (by omega) (by omega) fun s =>
  midSK A (fun m8 =>
    scoreK A 1 0 (by omega) (by omega) fun s =>
    expoK A hA 0 0 (by omega) (rowMax m8) fun _ =>
    midSEK A hA (rowMax m8) (fun m8 =>
      ticksK A hA (lamV lv) (fun m8 =>
        valueK A 30 0 (by omega) fun pv =>
        expoK A hA 31 0 (by omega) (rowMax m8) fun _ =>
        midEVK A hA (rowMax m8) (fun acc =>
          finishK A hA (lamV lv) 30 (by omega) acc fun _ =>
          valueK A 31 0 (by omega) fun pv =>
          midVK A (fun acc => finishK A hA (lamV lv) 31 (by omega) acc fun x => pure x) 8 1 (by omega) pv) 8 1 (by omega) pv)
        30 0 (by omega) m8) 8 1 (by omega) (groupMax s)) 8 1 (by omega) (groupMax s)

theorem body_eq : body (F := F) A hA = bodyK A hA := by
  unfold body bodyK
  rw [cast0K_eq]
  refine congrArg _ (funext fun _ => ?_)
  rw [cast1K_eq]
  refine congrArg _ (funext fun _ => ?_)
  rw [cast2K_eq]
  refine congrArg _ (funext fun _ => ?_)
  rw [cast1K_eq]
  refine congrArg _ (funext fun _ => ?_)
  rw [cast2K_eq]
  refine congrArg _ (funext fun _ => ?_)
  refine congrArg (Prog.op _) (funext fun lv => ?_)
  refine (show (tickS A >>= _) = _ from ?_)
  unfold tickS
  rw [bind_assoc, scoreK_eq]
  refine congrArg _ (funext fun s => ?_)
  rw [midSK_eq]
  refine congrArg (fun K => midSK A K 8 1 _ (groupMax s)) (funext fun m8 => ?_)
  unfold tickSE
  rw [bind_assoc, scoreK_eq]
  refine congrArg _ (funext fun s => ?_)
  rw [bind_assoc, expoK_eq]
  refine congrArg _ (funext fun _ => ?_)
  rw [midSEK_eq]
  refine congrArg (fun K => midSEK A hA (rowMax m8) K 8 1 _ (groupMax s)) (funext fun m8 => ?_)
  rw [ticksK_eq]
  refine congrArg (fun K => ticksK A hA (lamV lv) K 30 0 _ m8) (funext fun m8 => ?_)
  unfold tickEV
  rw [bind_assoc, valueK_eq]
  refine congrArg _ (funext fun pv => ?_)
  rw [bind_assoc, expoK_eq]
  refine congrArg _ (funext fun _ => ?_)
  rw [bind_assoc, midEVK_eq]
  refine congrArg (fun K => midEVK A hA (rowMax m8) K 8 1 _ pv) (funext fun acc => ?_)
  rw [finishK_eq]
  refine congrArg _ (funext fun _ => ?_)
  unfold tickV
  rw [valueK_eq]
  refine congrArg _ (funext fun pv => ?_)
  rw [midVK_eq]
  refine congrArg (fun K => midVK A K 8 1 _ pv) (funext fun acc => ?_)
  rw [← finishK_eq, bind_pure]

end Cert.KernelIdeal.Attn

end
-- ==== Proof.ProgEq.lean ====
/- The printed body of the call is `Proof/Prog.lean`'s program: it is the chain of `Proof/ProgCps.lean`, load by load and
   store by store. -/
module

public import proofs.«01_k».proof.Proof.ProgCps

@[expose] public section

noncomputable section

namespace Cert.KernelIdeal.Attn

open Idealize.ShloMosaic Idealize.SL.Sem
open Cert.KernelIdeal Facts₀ Facts

variable {F : FTy → Type} [FloatOps F]

set_option maxRecDepth 1000000 in
set_option maxHeartbeats 0 in
/-- The printed body is the chain. -/
theorem cc0_attn_chain (i : grid0.Coords) (arg2 : Memref sig .tc .vmem S1x8x128x1024 .bf16) (harg2 : arg2.IsWhole) (arg3 : Memref sig .tc .vmem S1x5x2304x128 .bf16) (harg3 : arg3.IsWhole) (arg4 : Memref sig .tc .vmem S1x5x144x2304 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S32x5632 .f32) (harg8 : arg8.IsWhole) (arg9 : Memref sig .tc .vmem S176x1024 .f32) (harg9 : arg9.IsWhole) (arg10 : Memref sig .tc .vmem S32x5632 .f32) (harg10 : arg10.IsWhole) (arg11 : Memref sig .tc .vmem S176x1024 .f32) (harg11 : arg11.IsWhole) (arg12 : Memref sig .tc .vmem S1x8x512x128 .bf16) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S176x1024 .bf16) (harg15 : arg15.IsWhole) (arg16 : Memref sig .tc .vmem S32x5632 .bf16) (harg16 : arg16.IsWhole) (arg17 : Memref sig .tc .vmem S176x1024 .bf16) (harg17 : arg17.IsWhole) (arg18 : Memref sig .tc .vmem S2304x256 .f32) (harg18 : arg18.IsWhole) (arg19 : Memref sig .tc .vmem S2304x256 .f32) (harg19 : arg19.IsWhole) (arg20 : Memref sig .tc .vmem S2304x256 .f32) (harg20 : arg20.IsWhole) (arg21 : Memref sig .tc .vmem S2304x256 .bf16) (harg21 : arg21.IsWhole) (arg22 : Memref sig .tc .vmem S2304x256 .bf16) (harg22 : arg22.IsWhole) :
    cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 =
      bodyK ⟨arg2, arg3, arg4, arg5, arg6, arg7, arg8, arg9, arg10, arg11, arg12, arg13, arg14, arg15, arg16, arg17, arg18, arg19, arg20, arg21, arg22⟩ ⟨harg12, harg13, harg14, harg15, harg16, harg17, harg21, harg22⟩ := rfl

/-- The printed body is the thirty-four ticks. -/
theorem cc0_attn_eq (i : grid0.Coords) (arg2 : Memref sig .tc .vmem S1x8x128x1024 .bf16) (harg2 : arg2.IsWhole) (arg3 : Memref sig .tc .vmem S1x5x2304x128 .bf16) (harg3 : arg3.IsWhole) (arg4 : Memref sig .tc .vmem S1x5x144x2304 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S32x5632 .f32) (harg8 : arg8.IsWhole) (arg9 : Memref sig .tc .vmem S176x1024 .f32) (harg9 : arg9.IsWhole) (arg10 : Memref sig .tc .vmem S32x5632 .f32) (harg10 : arg10.IsWhole) (arg11 : Memref sig .tc .vmem S176x1024 .f32) (harg11 : arg11.IsWhole) (arg12 : Memref sig .tc .vmem S1x8x512x128 .bf16) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S176x1024 .bf16) (harg15 : arg15.IsWhole) (arg16 : Memref sig .tc .vmem S32x5632 .bf16) (harg16 : arg16.IsWhole) (arg17 : Memref sig .tc .vmem S176x1024 .bf16) (harg17 : arg17.IsWhole) (arg18 : Memref sig .tc .vmem S2304x256 .f32) (harg18 : arg18.IsWhole) (arg19 : Memref sig .tc .vmem S2304x256 .f32) (harg19 : arg19.IsWhole) (arg20 : Memref sig .tc .vmem S2304x256 .f32) (harg20 : arg20.IsWhole) (arg21 : Memref sig .tc .vmem S2304x256 .bf16) (harg21 : arg21.IsWhole) (arg22 : Memref sig .tc .vmem S2304x256 .bf16) (harg22 : arg22.IsWhole) :
    cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 =
      body ⟨arg2, arg3, arg4, arg5, arg6, arg7, arg8, arg9, arg10, arg11, arg12, arg13, arg14, arg15, arg16, arg17, arg18, arg19, arg20, arg21, arg22⟩ ⟨harg12, harg13, harg14, harg15, harg16, harg17, harg21, harg22⟩ :=
  (cc0_attn_chain _ _ _ _ _ _ _ _ _ _ _ _ _ _ _ _ _ _ _ _ _ _ _ _ _ _ _ _ _ _ _ _ _ _ _ _ _ _ _ _ _ _ _).trans (body_eq _ _).symm

end Cert.KernelIdeal.Attn

end
-- ==== Proof.KernelProg.lean ====
/- The body that `Kernel` prints is the body that `KernelIdeal` prints : both are one chain of loads and
   stores. -/
module

public import proofs.«01_k».proof.Kernel
public import proofs.«01_k».proof.Proof.Gen.Kernel
public import proofs.«01_k».proof.Proof.ProgEq
public import proofs.«01_k».proof.Proof.Gen.KernelIdeal

@[expose] public section

noncomputable section

namespace Cert.Kernel.Attn

open Idealize.ShloMosaic Idealize.SL.Sem

open Cert.KernelIdeal

variable {F : FTy → Type} [FloatOps F]

set_option maxRecDepth 1000000 in
set_option maxHeartbeats 0 in
/-- The body of the one is the chain. -/
theorem cc0_attn_chain (i : Cert.KernelIdeal.grid0.Coords) (arg2 : Memref sig .tc .vmem S1x8x128x1024 .bf16) (harg2 : arg2.IsWhole) (arg3 : Memref sig .tc .vmem S1x5x2304x128 .bf16) (harg3 : arg3.IsWhole) (arg4 : Memref sig .tc .vmem S1x5x144x2304 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S32x5632 .f32) (harg8 : arg8.IsWhole) (arg9 : Memref sig .tc .vmem S176x1024 .f32) (harg9 : arg9.IsWhole) (arg10 : Memref sig .tc .vmem S32x5632 .f32) (harg10 : arg10.IsWhole) (arg11 : Memref sig .tc .vmem S176x1024 .f32) (harg11 : arg11.IsWhole) (arg12 : Memref sig .tc .vmem S1x8x512x128 .bf16) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S176x1024 .bf16) (harg15 : arg15.IsWhole) (arg16 : Memref sig .tc .vmem S32x5632 .bf16) (harg16 : arg16.IsWhole) (arg17 : Memref sig .tc .vmem S176x1024 .bf16) (harg17 : arg17.IsWhole) (arg18 : Memref sig .tc .vmem S2304x256 .f32) (harg18 : arg18.IsWhole) (arg19 : Memref sig .tc .vmem S2304x256 .f32) (harg19 : arg19.IsWhole) (arg20 : Memref sig .tc .vmem S2304x256 .f32) (harg20 : arg20.IsWhole) (arg21 : Memref sig .tc .vmem S2304x256 .bf16) (harg21 : arg21.IsWhole) (arg22 : Memref sig .tc .vmem S2304x256 .bf16) (harg22 : arg22.IsWhole) :
    Cert.Kernel.cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 =
      Cert.KernelIdeal.Attn.bodyK (F := F) ⟨arg2, arg3, arg4, arg5, arg6, arg7, arg8, arg9, arg10, arg11, arg12, arg13, arg14, arg15, arg16, arg17, arg18, arg19, arg20, arg21, arg22⟩ ⟨harg12, harg13, harg14, harg15, harg16, harg17, harg21, harg22⟩ := rfl

end Cert.Kernel.Attn

end
-- ==== Proof.KernelSame.lean ====
/- The body that `Kernel` prints is the body that `KernelIdeal` prints : both are one chain. -/
module

public import proofs.«01_k».proof.Proof.KernelProg
public import proofs.«01_k».proof.Proof.Gen.Kernel
public import proofs.«01_k».proof.Proof.ProgEq
public import proofs.«01_k».proof.Proof.Gen.KernelIdeal

@[expose] public section

noncomputable section

namespace Cert.Kernel.Attn

open Idealize.ShloMosaic Idealize.SL.Sem

open Cert.KernelIdeal

variable {F : FTy → Type} [FloatOps F]

set_option maxRecDepth 1000000 in
set_option maxHeartbeats 0 in
/-- The bodies of the two are the same. -/
theorem cc0_attn_same (i : Cert.KernelIdeal.grid0.Coords) (arg2 : Memref sig .tc .vmem S1x8x128x1024 .bf16) (harg2 : arg2.IsWhole) (arg3 : Memref sig .tc .vmem S1x5x2304x128 .bf16) (harg3 : arg3.IsWhole) (arg4 : Memref sig .tc .vmem S1x5x144x2304 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S32x1024 .f32) (harg7 : arg7.IsWhole) (arg8 : Memref sig .tc .vmem S32x5632 .f32) (harg8 : arg8.IsWhole) (arg9 : Memref sig .tc .vmem S176x1024 .f32) (harg9 : arg9.IsWhole) (arg10 : Memref sig .tc .vmem S32x5632 .f32) (harg10 : arg10.IsWhole) (arg11 : Memref sig .tc .vmem S176x1024 .f32) (harg11 : arg11.IsWhole) (arg12 : Memref sig .tc .vmem S1x8x512x128 .bf16) (harg12 : arg12.IsWhole) (arg13 : Memref sig .tc .vmem S32x1024 .bf16) (harg13 : arg13.IsWhole) (arg14 : Memref sig .tc .vmem S32x5632 .bf16) (harg14 : arg14.IsWhole) (arg15 : Memref sig .tc .vmem S176x1024 .bf16) (harg15 : arg15.IsWhole) (arg16 : Memref sig .tc .vmem S32x5632 .bf16) (harg16 : arg16.IsWhole) (arg17 : Memref sig .tc .vmem S176x1024 .bf16) (harg17 : arg17.IsWhole) (arg18 : Memref sig .tc .vmem S2304x256 .f32) (harg18 : arg18.IsWhole) (arg19 : Memref sig .tc .vmem S2304x256 .f32) (harg19 : arg19.IsWhole) (arg20 : Memref sig .tc .vmem S2304x256 .f32) (harg20 : arg20.IsWhole) (arg21 : Memref sig .tc .vmem S2304x256 .bf16) (harg21 : arg21.IsWhole) (arg22 : Memref sig .tc .vmem S2304x256 .bf16) (harg22 : arg22.IsWhole) :
    Cert.Kernel.cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 =
    Cert.KernelIdeal.cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 :=
  Eq.trans (cc0_attn_chain i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (Eq.symm (Cert.KernelIdeal.Attn.cc0_attn_chain i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22))

end Cert.Kernel.Attn

end
-- ==== Proof.Steps.lean ====
/- What a program of the body does to the contents of its references. `Held A c σ` owns every reference of the body, each
   at the contents the record `σ` names; `Run A c p R σ` says that from contents `σ` the program `p` runs to its end and
   that what it returns and leaves satisfies `R`. The loads and the stores of each reference are read off here. -/
module

public import proofs.«01_k».proof.Proof.Prog
public import Idealize.ShloMosaic.Lib.Pipeline.Frame
public import Idealize.ShloMosaic.Lib.Tactic

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## A load and a store through contents -/

section Access

variable {sp : CoreSpace} {s : Shape} {e : EltTy} {α : Type}

/-- Contents with the elements under a box replaced. -/
def upd (r : Rect s) (X : s.Idx → Elt F e) (w : r.shape.Idx → Elt F e) : s.Idx → Elt F e := fun i =>
  open Classical in if h : ∃ x, r.emb x = i then w h.choose else X i

theorem upd_emb (r : Rect s) (X : s.Idx → Elt F e) (w : r.shape.Idx → Elt F e) (x : r.shape.Idx) : upd r X w (r.emb x) = w x := by
  have h : ∃ y, r.emb y = r.emb x := ⟨x, rfl⟩
  unfold upd
  rw [dif_pos h]
  exact congrArg w (r.emb.injective h.choose_spec)

theorem upd_off (r : Rect s) (X : s.Idx → Elt F e) (w : r.shape.Idx → Elt F e) {i : s.Idx} (hi : ∀ x, r.emb x ≠ i) :
    upd r X w i = X i := by
  unfold upd
  rw [dif_neg fun ⟨x, hx⟩ => hi x hx]

/-- What a view reads after a store through a box of it. -/
theorem read_store (v : View sig .tc sp s e) (r : Rect s) (f : v.ty.Contents (Elt F)) (w : r.shape.Idx → Elt F e) :
    v.read (Elt F) ((v.slice r).write (Elt F) f w Finset.univ) = upd r (v.read (Elt F) f) w := by
  funext i
  by_cases h : ∃ x, r.emb x = i
  · obtain ⟨x, rfl⟩ := h
    rw [upd_emb, View.read_slice_write_emb r f w (Finset.mem_univ x)]
  · rw [upd_off r _ w fun x hx => h ⟨x, hx⟩]
    refine View.read_slice_write_of_not_mem r f w _ fun hm => h ?_
    obtain ⟨x, -, hx⟩ := Finset.mem_map.mp hm
    exact ⟨x, hx⟩

variable (c : Dev nD) (m : Memref sig .tc sp s e) (r : Rect s)

/-- The weakest precondition on a core. -/
abbrev WP {α : Type} (p : M F α) (K : α → sProp 𝕄) : sProp 𝕄 :=
  wp frame (wpE (defs₀ (F := F)) Variants.none (c : Thread nD τ) none) Set.univ p K

theorem owns_load (hl : m.view.LoadsAt r.toLoadRect)
    (X : s.Idx → Elt F e) (K : (r.shape.Idx → Elt F e) → sProp 𝕄) :
    iprop(owns (c : Thread nD τ) m fullShare X ∗ (owns (c : Thread nD τ) m fullShare X -∗ K fun x => X (r.emb x)))
      ⊢ WP c (Prog.lift (.load m r.toLoadRect hl)) K := by
  unfold owns
  iintro ⟨⟨%f, %hf, H⟩, Hk⟩
  subst hf
  have h := wp_load (defs := defs₀ (F := F)) Variants.none (c : Thread nD τ) none (Γ := .empty) Set.univ (Q := K) (m := m)
    (r := r.toLoadRect) (hl := hl) (k := .ret) (q := fullShare) (f := f) (S := m.view.set) (View.setOn_subset_set _ _)
  iapply h $$ H
  iintro H
  rw [wp_ret]
  imodintro
  rw [show m.view.readAt (Elt F) r.toLoadRect f = fun x => m.view.read (Elt F) f (r.emb x) from rfl]
  iapply Hk
  iexists f
  isplitr
  · ipureintro; rfl
  · iexact H

theorem owns_store (w : r.shape.Idx → Elt F e) (hx : (m.access r).Stores Finset.univ)
    (hm : (Finset.univ : Finset r.shape.Idx) = Finset.univ ∨ ∀ a, r.stride a = 1)
    (X : s.Idx → Elt F e) (K : PUnit → sProp 𝕄) :
    iprop(owns (c : Thread nD τ) m fullShare X ∗ (owns (c : Thread nD τ) m fullShare (upd r X w) -∗ K ⟨⟩))
      ⊢ WP c (Prog.lift (.store m r w Finset.univ hx hm)) K := by
  unfold owns
  iintro ⟨⟨%f, %hf, H⟩, Hk⟩
  subst hf
  have h := wp_store (defs := defs₀ (F := F)) Variants.none (c : Thread nD τ) none (Γ := .empty) Set.univ (Q := K) (m := m)
    (r := r) (w := w) (Mk := Finset.univ) (hx := hx) (hm := hm) (k := .ret) (f := f) (S := m.view.set)
    (by rw [View.setOn_univ]; exact View.set_slice_subset _ r)
  iapply h $$ H
  iintro H
  rw [wp_ret]
  imodintro
  iapply Hk
  iexists _
  isplitr
  swap
  · iexact H
  · ipureintro; exact read_store m.view r f w

end Access

/-! ## The contents of every reference -/

/-- The contents of the references no tick writes. -/
structure Ins (F : FTy → Type) [FloatOps F] where
  qt : S1x8x128x1024.Idx → Elt F .bf16
  k : S1x5x2304x128.Idx → Elt F .bf16
  vt : S1x5x144x2304.Idx → Elt F .bf16
  lam : S4x64.Idx → Elt F .f32
  sub : S1x128.Idx → Elt F .f32
  w0 : S32x1024.Idx → Elt F .f32
  w1 : S32x5632.Idx → Elt F .f32
  w2 : S176x1024.Idx → Elt F .f32
  w3 : S32x5632.Idx → Elt F .f32
  w4 : S176x1024.Idx → Elt F .f32
  c0 : S32x1024.Idx → Elt F .bf16
  c1 : S32x5632.Idx → Elt F .bf16
  c2 : S176x1024.Idx → Elt F .bf16
  c3 : S32x5632.Idx → Elt F .bf16
  c4 : S176x1024.Idx → Elt F .bf16

/-- The contents of all of them: those, the output's, the three score buffers' and the two buffers' of exponentials. -/
structure Mem (F : FTy → Type) [FloatOps F] where
  i : Ins F
  o : S1x8x512x128.Idx → Elt F .bf16
  s : ℕ → S2304x256.Idx → Elt F .f32
  p : ℕ → S2304x256.Idx → Elt F .bf16

variable (A : Refs) (c : Dev nD)

/-- Every reference owned at its contents. -/
def Held (σ : Mem F) : sProp 𝕄 :=
  iprop(owns (c : Thread nD τ) A.qt fullShare (σ.i.qt)
    ∗ owns (c : Thread nD τ) A.k fullShare (σ.i.k)
    ∗ owns (c : Thread nD τ) A.vt fullShare (σ.i.vt)
    ∗ owns (c : Thread nD τ) A.lam fullShare (σ.i.lam)
    ∗ owns (c : Thread nD τ) A.sub fullShare (σ.i.sub)
    ∗ owns (c : Thread nD τ) A.w0 fullShare (σ.i.w0)
    ∗ owns (c : Thread nD τ) A.w1 fullShare (σ.i.w1)
    ∗ owns (c : Thread nD τ) A.w2 fullShare (σ.i.w2)
    ∗ owns (c : Thread nD τ) A.w3 fullShare (σ.i.w3)
    ∗ owns (c : Thread nD τ) A.w4 fullShare (σ.i.w4)
    ∗ owns (c : Thread nD τ) A.c0 fullShare (σ.i.c0)
    ∗ owns (c : Thread nD τ) A.c1 fullShare (σ.i.c1)
    ∗ owns (c : Thread nD τ) A.c2 fullShare (σ.i.c2)
    ∗ owns (c : Thread nD τ) A.c3 fullShare (σ.i.c3)
    ∗ owns (c : Thread nD τ) A.c4 fullShare (σ.i.c4)
    ∗ owns (c : Thread nD τ) A.o fullShare (σ.o)
    ∗ owns (c : Thread nD τ) A.s0 fullShare (σ.s 0)
    ∗ owns (c : Thread nD τ) A.s1 fullShare (σ.s 1)
    ∗ owns (c : Thread nD τ) A.s2 fullShare (σ.s 2)
    ∗ owns (c : Thread nD τ) A.p0 fullShare (σ.p 0)
    ∗ owns (c : Thread nD τ) A.p1 fullShare (σ.p 1))

/-- A reference among them, with its contents read and replaced. -/
structure Focus {sp : CoreSpace} {s : Shape} {e : EltTy} (m : Memref sig .tc sp s e) (get : Mem F → s.Idx → Elt F e)
    (set : Mem F → (s.Idx → Elt F e) → Mem F) : Prop where
  take : ∀ σ, Held A c σ ⊢ iprop(owns (c : Thread nD τ) m fullShare (get σ)
    ∗ (∀ X, owns (c : Thread nD τ) m fullShare X -∗ Held A c (set σ X)))
  back : ∀ σ, set σ (get σ) = σ

theorem focus_qt : Focus (F := F) A c A.qt (fun σ => σ.i.qt) (fun σ X => { σ with i := { σ.i with qt := X } }) where
  take σ := by
    unfold Held
    iintro ⟨Hqt, Hk, Hvt, Hlam, Hsub, Hw0, Hw1, Hw2, Hw3, Hw4, Hc0, Hc1, Hc2, Hc3, Hc4, Ho, Hs0, Hs1, Hs2, Hp0, Hp1⟩
    isplitl [Hqt]
    · iexact Hqt
    · iintro %X HX
      iframe
  back := fun σ => rfl

theorem focus_k : Focus (F := F) A c A.k (fun σ => σ.i.k) (fun σ X => { σ with i := { σ.i with k := X } }) where
  take σ := by
    unfold Held
    iintro ⟨Hqt, Hk, Hvt, Hlam, Hsub, Hw0, Hw1, Hw2, Hw3, Hw4, Hc0, Hc1, Hc2, Hc3, Hc4, Ho, Hs0, Hs1, Hs2, Hp0, Hp1⟩
    isplitl [Hk]
    · iexact Hk
    · iintro %X HX
      iframe
  back := fun σ => rfl

theorem focus_vt : Focus (F := F) A c A.vt (fun σ => σ.i.vt) (fun σ X => { σ with i := { σ.i with vt := X } }) where
  take σ := by
    unfold Held
    iintro ⟨Hqt, Hk, Hvt, Hlam, Hsub, Hw0, Hw1, Hw2, Hw3, Hw4, Hc0, Hc1, Hc2, Hc3, Hc4, Ho, Hs0, Hs1, Hs2, Hp0, Hp1⟩
    isplitl [Hvt]
    · iexact Hvt
    · iintro %X HX
      iframe
  back := fun σ => rfl

theorem focus_lam : Focus (F := F) A c A.lam (fun σ => σ.i.lam) (fun σ X => { σ with i := { σ.i with lam := X } }) where
  take σ := by
    unfold Held
    iintro ⟨Hqt, Hk, Hvt, Hlam, Hsub, Hw0, Hw1, Hw2, Hw3, Hw4, Hc0, Hc1, Hc2, Hc3, Hc4, Ho, Hs0, Hs1, Hs2, Hp0, Hp1⟩
    isplitl [Hlam]
    · iexact Hlam
    · iintro %X HX
      iframe
  back := fun σ => rfl

theorem focus_sub : Focus (F := F) A c A.sub (fun σ => σ.i.sub) (fun σ X => { σ with i := { σ.i with sub := X } }) where
  take σ := by
    unfold Held
    iintro ⟨Hqt, Hk, Hvt, Hlam, Hsub, Hw0, Hw1, Hw2, Hw3, Hw4, Hc0, Hc1, Hc2, Hc3, Hc4, Ho, Hs0, Hs1, Hs2, Hp0, Hp1⟩
    isplitl [Hsub]
    · iexact Hsub
    · iintro %X HX
      iframe
  back := fun σ => rfl

theorem focus_w0 : Focus (F := F) A c A.w0 (fun σ => σ.i.w0) (fun σ X => { σ with i := { σ.i with w0 := X } }) where
  take σ := by
    unfold Held
    iintro ⟨Hqt, Hk, Hvt, Hlam, Hsub, Hw0, Hw1, Hw2, Hw3, Hw4, Hc0, Hc1, Hc2, Hc3, Hc4, Ho, Hs0, Hs1, Hs2, Hp0, Hp1⟩
    isplitl [Hw0]
    · iexact Hw0
    · iintro %X HX
      iframe
  back := fun σ => rfl

theorem focus_w1 : Focus (F := F) A c A.w1 (fun σ => σ.i.w1) (fun σ X => { σ with i := { σ.i with w1 := X } }) where
  take σ := by
    unfold Held
    iintro ⟨Hqt, Hk, Hvt, Hlam, Hsub, Hw0, Hw1, Hw2, Hw3, Hw4, Hc0, Hc1, Hc2, Hc3, Hc4, Ho, Hs0, Hs1, Hs2, Hp0, Hp1⟩
    isplitl [Hw1]
    · iexact Hw1
    · iintro %X HX
      iframe
  back := fun σ => rfl

theorem focus_w2 : Focus (F := F) A c A.w2 (fun σ => σ.i.w2) (fun σ X => { σ with i := { σ.i with w2 := X } }) where
  take σ := by
    unfold Held
    iintro ⟨Hqt, Hk, Hvt, Hlam, Hsub, Hw0, Hw1, Hw2, Hw3, Hw4, Hc0, Hc1, Hc2, Hc3, Hc4, Ho, Hs0, Hs1, Hs2, Hp0, Hp1⟩
    isplitl [Hw2]
    · iexact Hw2
    · iintro %X HX
      iframe
  back := fun σ => rfl

theorem focus_w3 : Focus (F := F) A c A.w3 (fun σ => σ.i.w3) (fun σ X => { σ with i := { σ.i with w3 := X } }) where
  take σ := by
    unfold Held
    iintro ⟨Hqt, Hk, Hvt, Hlam, Hsub, Hw0, Hw1, Hw2, Hw3, Hw4, Hc0, Hc1, Hc2, Hc3, Hc4, Ho, Hs0, Hs1, Hs2, Hp0, Hp1⟩
    isplitl [Hw3]
    · iexact Hw3
    · iintro %X HX
      iframe
  back := fun σ => rfl

theorem focus_w4 : Focus (F := F) A c A.w4 (fun σ => σ.i.w4) (fun σ X => { σ with i := { σ.i with w4 := X } }) where
  take σ := by
    unfold Held
    iintro ⟨Hqt, Hk, Hvt, Hlam, Hsub, Hw0, Hw1, Hw2, Hw3, Hw4, Hc0, Hc1, Hc2, Hc3, Hc4, Ho, Hs0, Hs1, Hs2, Hp0, Hp1⟩
    isplitl [Hw4]
    · iexact Hw4
    · iintro %X HX
      iframe
  back := fun σ => rfl

theorem focus_c0 : Focus (F := F) A c A.c0 (fun σ => σ.i.c0) (fun σ X => { σ with i := { σ.i with c0 := X } }) where
  take σ := by
    unfold Held
    iintro ⟨Hqt, Hk, Hvt, Hlam, Hsub, Hw0, Hw1, Hw2, Hw3, Hw4, Hc0, Hc1, Hc2, Hc3, Hc4, Ho, Hs0, Hs1, Hs2, Hp0, Hp1⟩
    isplitl [Hc0]
    · iexact Hc0
    · iintro %X HX
      iframe
  back := fun σ => rfl

theorem focus_c1 : Focus (F := F) A c A.c1 (fun σ => σ.i.c1) (fun σ X => { σ with i := { σ.i with c1 := X } }) where
  take σ := by
    unfold Held
    iintro ⟨Hqt, Hk, Hvt, Hlam, Hsub, Hw0, Hw1, Hw2, Hw3, Hw4, Hc0, Hc1, Hc2, Hc3, Hc4, Ho, Hs0, Hs1, Hs2, Hp0, Hp1⟩
    isplitl [Hc1]
    · iexact Hc1
    · iintro %X HX
      iframe
  back := fun σ => rfl

theorem focus_c2 : Focus (F := F) A c A.c2 (fun σ => σ.i.c2) (fun σ X => { σ with i := { σ.i with c2 := X } }) where
  take σ := by
    unfold Held
    iintro ⟨Hqt, Hk, Hvt, Hlam, Hsub, Hw0, Hw1, Hw2, Hw3, Hw4, Hc0, Hc1, Hc2, Hc3, Hc4, Ho, Hs0, Hs1, Hs2, Hp0, Hp1⟩
    isplitl [Hc2]
    · iexact Hc2
    · iintro %X HX
      iframe
  back := fun σ => rfl

theorem focus_c3 : Focus (F := F) A c A.c3 (fun σ => σ.i.c3) (fun σ X => { σ with i := { σ.i with c3 := X } }) where
  take σ := by
    unfold Held
    iintro ⟨Hqt, Hk, Hvt, Hlam, Hsub, Hw0, Hw1, Hw2, Hw3, Hw4, Hc0, Hc1, Hc2, Hc3, Hc4, Ho, Hs0, Hs1, Hs2, Hp0, Hp1⟩
    isplitl [Hc3]
    · iexact Hc3
    · iintro %X HX
      iframe
  back := fun σ => rfl

theorem focus_c4 : Focus (F := F) A c A.c4 (fun σ => σ.i.c4) (fun σ X => { σ with i := { σ.i with c4 := X } }) where
  take σ := by
    unfold Held
    iintro ⟨Hqt, Hk, Hvt, Hlam, Hsub, Hw0, Hw1, Hw2, Hw3, Hw4, Hc0, Hc1, Hc2, Hc3, Hc4, Ho, Hs0, Hs1, Hs2, Hp0, Hp1⟩
    isplitl [Hc4]
    · iexact Hc4
    · iintro %X HX
      iframe
  back := fun σ => rfl

theorem focus_o : Focus (F := F) A c A.o (fun σ => σ.o) (fun σ X => { σ with o := X }) where
  take σ := by
    unfold Held
    iintro ⟨Hqt, Hk, Hvt, Hlam, Hsub, Hw0, Hw1, Hw2, Hw3, Hw4, Hc0, Hc1, Hc2, Hc3, Hc4, Ho, Hs0, Hs1, Hs2, Hp0, Hp1⟩
    isplitl [Ho]
    · iexact Ho
    · iintro %X HX
      iframe
  back := fun σ => rfl

theorem focus_s0 : Focus (F := F) A c A.s0 (fun σ => σ.s 0) (fun σ X => { σ with s := Function.update σ.s 0 X }) where
  take σ := by
    unfold Held
    iintro ⟨Hqt, Hk, Hvt, Hlam, Hsub, Hw0, Hw1, Hw2, Hw3, Hw4, Hc0, Hc1, Hc2, Hc3, Hc4, Ho, Hs0, Hs1, Hs2, Hp0, Hp1⟩
    isplitl [Hs0]
    · iexact Hs0
    · iintro %X HX
      simp only [Function.update_self, Function.update_of_ne (show (1 : ℕ) ≠ 0 by decide), Function.update_of_ne (show (2 : ℕ) ≠ 0 by decide)]
      iframe
  back := fun σ => by rw [Function.update_eq_self]

theorem focus_s1 : Focus (F := F) A c A.s1 (fun σ => σ.s 1) (fun σ X => { σ with s := Function.update σ.s 1 X }) where
  take σ := by
    unfold Held
    iintro ⟨Hqt, Hk, Hvt, Hlam, Hsub, Hw0, Hw1, Hw2, Hw3, Hw4, Hc0, Hc1, Hc2, Hc3, Hc4, Ho, Hs0, Hs1, Hs2, Hp0, Hp1⟩
    isplitl [Hs1]
    · iexact Hs1
    · iintro %X HX
      simp only [Function.update_self, Function.update_of_ne (show (0 : ℕ) ≠ 1 by decide), Function.update_of_ne (show (2 : ℕ) ≠ 1 by decide)]
      iframe
  back := fun σ => by rw [Function.update_eq_self]

theorem focus_s2 : Focus (F := F) A c A.s2 (fun σ => σ.s 2) (fun σ X => { σ with s := Function.update σ.s 2 X }) where
  take σ := by
    unfold Held
    iintro ⟨Hqt, Hk, Hvt, Hlam, Hsub, Hw0, Hw1, Hw2, Hw3, Hw4, Hc0, Hc1, Hc2, Hc3, Hc4, Ho, Hs0, Hs1, Hs2, Hp0, Hp1⟩
    isplitl [Hs2]
    · iexact Hs2
    · iintro %X HX
      simp only [Function.update_self, Function.update_of_ne (show (0 : ℕ) ≠ 2 by decide), Function.update_of_ne (show (1 : ℕ) ≠ 2 by decide)]
      iframe
  back := fun σ => by rw [Function.update_eq_self]

theorem focus_p0 : Focus (F := F) A c A.p0 (fun σ => σ.p 0) (fun σ X => { σ with p := Function.update σ.p 0 X }) where
  take σ := by
    unfold Held
    iintro ⟨Hqt, Hk, Hvt, Hlam, Hsub, Hw0, Hw1, Hw2, Hw3, Hw4, Hc0, Hc1, Hc2, Hc3, Hc4, Ho, Hs0, Hs1, Hs2, Hp0, Hp1⟩
    isplitl [Hp0]
    · iexact Hp0
    · iintro %X HX
      simp only [Function.update_self, Function.update_of_ne (show (1 : ℕ) ≠ 0 by decide)]
      iframe
  back := fun σ => by rw [Function.update_eq_self]

theorem focus_p1 : Focus (F := F) A c A.p1 (fun σ => σ.p 1) (fun σ X => { σ with p := Function.update σ.p 1 X }) where
  take σ := by
    unfold Held
    iintro ⟨Hqt, Hk, Hvt, Hlam, Hsub, Hw0, Hw1, Hw2, Hw3, Hw4, Hc0, Hc1, Hc2, Hc3, Hc4, Ho, Hs0, Hs1, Hs2, Hp0, Hp1⟩
    isplitl [Hp1]
    · iexact Hp1
    · iintro %X HX
      simp only [Function.update_self, Function.update_of_ne (show (0 : ℕ) ≠ 1 by decide)]
      iframe
  back := fun σ => by rw [Function.update_eq_self]

theorem focus_s (w : ℕ) : Focus (F := F) A c (A.s w) (fun σ => σ.s (w % 3))
    (fun σ X => { σ with s := Function.update σ.s (w % 3) X }) := by
  have h : w % 3 < 3 := Nat.mod_lt _ (by omega)
  unfold Refs.s
  generalize w % 3 = j at h ⊢
  match j, h with
  | 0, _ => exact focus_s0 A c
  | 1, _ => exact focus_s1 A c
  | 2, _ => exact focus_s2 A c

theorem focus_p (w : ℕ) : Focus (F := F) A c (A.p w) (fun σ => σ.p (w % 2))
    (fun σ X => { σ with p := Function.update σ.p (w % 2) X }) := by
  have h : w % 2 < 2 := Nat.mod_lt _ (by omega)
  unfold Refs.p
  generalize w % 2 = j at h ⊢
  match j, h with
  | 0, _ => exact focus_p0 A c
  | 1, _ => exact focus_p1 A c

/-! ## Runs -/

/-- From contents `σ` the program runs to its end, and what it returns and leaves satisfies `R`. -/
def Run {α : Type} (p : M F α) (R : α → Mem F → Prop) (σ : Mem F) : Prop :=
  ∀ K : α → sProp 𝕄, iprop(Held A c σ ∗ (∀ a, ∀ σ', ⌜R a σ'⌝ -∗ Held A c σ' -∗ K a)) ⊢ WP c p K

variable {A c}

theorem Run.pure {α : Type} {a : α} {R : α → Mem F → Prop} {σ : Mem F} (h : R a σ) : Run A c (Pure.pure a : M F α) R σ := by
  intro K
  unfold WP
  rw [show (Pure.pure a : M F α) = .ret a from rfl, wp_ret]
  iintro ⟨H, Hk⟩
  imodintro
  iapply Hk $$ %a %σ %h H

theorem Run.bind {α β : Type} {p : M F α} {k : α → M F β} {R : β → Mem F → Prop} {σ : Mem F}
    (h : Run A c p (fun a => Run A c (k a) R) σ) : Run A c (p >>= k) R σ := by
  intro K
  unfold WP
  rw [wp_bind]
  iintro ⟨H, Hk⟩
  iapply h _
  isplitl [H]
  · iexact H
  · iintro %a %σ' %hr H
    iapply hr K
    isplitl [H]
    · iexact H
    · iexact Hk

theorem Run.mono {α : Type} {p : M F α} {R R' : α → Mem F → Prop} {σ : Mem F} (h : Run A c p R σ)
    (hR : ∀ a σ', R a σ' → R' a σ') : Run A c p R' σ := by
  intro K
  iintro ⟨H, Hk⟩
  iapply h K
  isplitl [H]
  · iexact H
  · iintro %a %σ' %hr H
    have hr' := hR a σ' hr
    iapply Hk $$ %a %σ' %hr' H

section

variable {sp : CoreSpace} {s : Shape} {e : EltTy} {m : Memref sig .tc sp s e} {get : Mem F → s.Idx → Elt F e}
  {set : Mem F → (s.Idx → Elt F e) → Mem F} {r : Rect s} {σ : Mem F}

theorem Run.load (hf : Focus A c m get set) {hl : m.view.LoadsAt r.toLoadRect} {R : (r.shape.Idx → Elt F e) → Mem F → Prop}
    (h : R (fun x => get σ (r.emb x)) σ) : Run A c (Prog.lift (.load m r.toLoadRect hl)) R σ := by
  intro K
  iintro ⟨H, Hk⟩
  ihave ⟨Hm, Hb⟩ : iprop(owns (c : Thread nD τ) m fullShare (get σ)
    ∗ (∀ X, owns (c : Thread nD τ) m fullShare X -∗ Held A c (set σ X))) $$ [H]
  · iapply hf.take σ $$ H
  iapply owns_load c m r hl (get σ) K
  isplitl [Hm]
  · iexact Hm
  · iintro Hm
    have hb := hf.back σ
    ispecialize Hb $$ %(get σ) Hm
    rw [hb]
    iapply Hk $$ %_ %σ %h Hb

theorem Run.store (hf : Focus A c m get set) {w : r.shape.Idx → Elt F e} {hx : (m.access r).Stores Finset.univ}
    {hm : (Finset.univ : Finset r.shape.Idx) = Finset.univ ∨ ∀ a, r.stride a = 1} {R : PUnit → Mem F → Prop}
    (h : R ⟨⟩ (set σ (upd r (get σ) w))) : Run A c (Prog.lift (.store m r w Finset.univ hx hm)) R σ := by
  intro K
  iintro ⟨H, Hk⟩
  ihave ⟨Hm, Hb⟩ : iprop(owns (c : Thread nD τ) m fullShare (get σ)
    ∗ (∀ X, owns (c : Thread nD τ) m fullShare X -∗ Held A c (set σ X))) $$ [H]
  · iapply hf.take σ $$ H
  iapply owns_store c m r w hx hm (get σ) K
  isplitl [Hm]
  · iexact Hm
  · iintro Hm
    ispecialize Hb $$ %_ Hm
    iapply Hk $$ %_ %_ %h Hb

end

end Cert.KernelIdeal.Attn

end
-- ==== Proof.Ticks.lean ====
/- What the thirty-four ticks leave. Each claim is of contents alone: the score buffer of an item holds its scores chunk by
   chunk (`HasS`), the buffer of exponentials their exponentials under the item's maximum (`HasP`), the accumulator of an
   item is the sum of its nine value products (`IsAcc`), and the output's block of an item is that sum finished (`HasO`). -/
module

public import proofs.«01_k».proof.Proof.Steps

@[expose] public section

noncomputable section

namespace Cert.KernelIdeal.Attn

open Cert.KernelIdeal Facts₀ Facts
open Idealize.ShloMosaic Idealize.ShloMosaic.TcCoe

variable {F : FTy → Type} [FloatOps F]

/-! ## Boxes and the values of the items -/

abbrev rS {c : ℕ} (hc : c < 9) : Rect S2304x256 := Rect.unit (s := S2304x256) ![256 * c, 0] S256x256.size (inbS hc)
abbrev rK (w : ℕ) {c : ℕ} (hc : c < 9) : Rect S1x5x2304x128 :=
  Rect.unit (s := S1x5x2304x128) ![0, kv w, 256 * c, 0] S1x1x256x128.size (inbK hc w)
abbrev rQ {w : ℕ} (hw : w < 32) : Rect S1x8x128x1024 :=
  Rect.unit (s := S1x8x128x1024) ![0, w % 8, 0, 256 * (w / 8)] S1x1x128x256.size (inbQ hw)
abbrev rV (w : ℕ) {c : ℕ} (hc : c < 9) : Rect S1x5x144x2304 :=
  Rect.unit (s := S1x5x144x2304) ![0, kv w, 0, 256 * c] S1x1x144x256.size (inbV hc w)
abbrev rO {w : ℕ} (hw : w < 32) : Rect S1x8x512x128 :=
  Rect.unit (s := S1x8x512x128) ![0, w % 8, 128 * (w / 8), 0] S1x1x128x128.size (inbO hw)
abbrev rG : Rect S1x128 := Rect.unit (s := S1x128) ![0, 0] S1x128.size inb_S1x128_S1x128_0_0

variable (I : Ins F)

/-- The scores of chunk `c` of item `w`. -/
def sc (w c : ℕ) (hw : w < 32) (hc : c < 9) : FVec F S256x256 .f32 :=
  scoreV (fun x => I.k ((rK w hc).emb x)) (fun x => I.qt ((rQ hw).emb x))

/-- The scores as they lie in the buffer. -/
def scB (w c : ℕ) (hw : w < 32) (hc : c < 9) : FVec F S256x256 .f32 :=
  shapeCast S256x256 (sc I w c hw hc) shapeCasts_S256x256_S256x256

/-- The running maximum of item `w` after chunk `n`, over thirty-two rows. -/
def m8At (w : ℕ) (hw : w < 32) : (n : ℕ) → n < 9 → FVec F S32x256 .f32
  | 0, h => groupMax (sc I w 0 hw h)
  | n + 1, h => maximumf (m8At w hw n (by omega)) (groupMax (sc I w (n + 1) hw h))

/-- The maximum of item `w`. -/
def mxOf (w : ℕ) (hw : w < 32) : FVec F S1x256 .f32 := rowMax (m8At I w hw 8 (by omega))

/-- The exponentials of chunk `c` of item `w` under `m`, as they lie in the buffer. -/
def exB (w c : ℕ) (hw : w < 32) (hc : c < 9) (m : FVec F S1x256 .f32) : FVec F S256x256 .bf16 :=
  shapeCast S256x256 (expV (scB I w c hw hc) m) shapeCasts_S256x256_S256x256

/-- The value product of chunk `c` of item `w`, its exponentials taken under `m`. -/
def pvOf (w c : ℕ) (hw : w < 32) (hc : c < 9) (m : FVec F S1x256 .f32) : FVec F S144x256 .f32 :=
  valueV (fun x => I.vt ((rV w hc).emb x)) (exB I w c hw hc m)

/-- The sum of the value products of item `w` up to chunk `n`, those of chunk `c` under `m c`. -/
def accOf (w : ℕ) (hw : w < 32) (m : (c : ℕ) → c < 9 → FVec F S1x256 .f32) : (n : ℕ) → n < 9 → FVec F S144x256 .f32
  | 0, h => pvOf I w 0 hw h (m 0 h)
  | n + 1, h => addf (accOf w hw m n (by omega)) (pvOf I w (n + 1) hw h (m (n + 1) h))

/-- What the exponentials of a chunk of an item before the last are taken under: the item's maximum, after the first
    chunk ordered after the running maximum of the next item. -/
def mxLo (w : ℕ) (hw : w + 1 < 32) : (c : ℕ) → c < 9 → FVec F S1x256 .f32
  | 0, _ => mxOf I w (by omega)
  | c + 1, h => paced (mxOf I w (by omega)) (row32 (m8At I (w + 1) hw c (by omega)))

/-- The same of the last item, ordered after the accumulator of the item before it. -/
def mxHi : (c : ℕ) → c < 9 → FVec F S1x256 .f32
  | 0, _ => mxOf I 31 (by omega)
  | c + 1, h => paced (mxOf I 31 (by omega)) (row144 (accOf I 30 (by omega) (mxLo I 30 (by omega)) c (by omega)))

/-- What the exponentials of a chunk of an item are taken under. -/
def mx (w : ℕ) (hw : w < 32) : (c : ℕ) → c < 9 → FVec F S1x256 .f32 :=
  if h : w + 1 < 32 then mxLo I w h else mxHi I

theorem mx_lo {w : ℕ} (hw : w + 1 < 32) : mx I w (by omega) = mxLo I w hw := dif_pos hw
theorem mx_hi : mx I 31 (by omega) = mxHi I := dif_neg (by omega)

/-- The value product of chunk `c` of item `w`. -/
def IsPV (w c : ℕ) (hw : w < 32) (hc : c < 9) (v : FVec F S144x256 .f32) : Prop := v = pvOf I w c hw hc (mx I w hw c hc)

/-- The sum of the value products of item `w` up to chunk `n`. -/
def IsAcc (w : ℕ) (hw : w < 32) (n : ℕ) (h : n < 9) (a : FVec F S144x256 .f32) : Prop := a = accOf I w hw (mx I w hw) n h

theorem IsAcc.step {I : Ins F} {w n : ℕ} {hw : w < 32} {h : n + 1 < 9} {a v : FVec F S144x256 .f32}
    (ha : IsAcc I w hw n (by omega) a) (hv : IsPV I w (n + 1) hw h v) : IsAcc I w hw (n + 1) h (addf a v) := by
  unfold IsAcc IsPV at *
  rw [ha, hv]
  rfl

/-- The finished tile of item `w`. -/
def fin (lam : FVec F S1x1 .f32) (w : ℕ) (acc : FVec F S144x256 .f32) : FVec F S1x1x128x128 .bf16 :=
  bif (w % 8).blt 4 then finishA (fun x => I.sub (rG.emb x)) (diffV lam acc) else finishB acc

/-! ## What the buffers hold -/

/-- A score buffer holds the first `n` chunks of item `w`. -/
def HasS (w : ℕ) (hw : w < 32) (n : ℕ) (X : S2304x256.Idx → Elt F .f32) : Prop :=
  ∀ c (hc : c < 9), c < n → ∀ x, X ((rS hc).emb x) = scB I w c hw hc x

/-- A buffer of exponentials holds the first `n` chunks of item `w`. -/
def HasP (w : ℕ) (hw : w < 32) (n : ℕ) (X : S2304x256.Idx → Elt F .bf16) : Prop :=
  ∀ c (hc : c < 9), c < n → ∀ x, X ((rS hc).emb x) = exB I w c hw hc (mx I w hw c hc) x

/-- The output's block holds the first `n` items. -/
def HasO (lam : FVec F S1x1 .f32) (n : ℕ) (X : S1x8x512x128.Idx → Elt F .bf16) : Prop :=
  ∀ w (hw : w < 32), w < n → ∀ x, X ((rO hw).emb x) = fin I lam w (accOf I w hw (mx I w hw) 8 (by omega)) x

theorem rS_ne {c c' : ℕ} (hc : c < 9) (hc' : c' < 9) (h : c ≠ c') (x : (rS hc).shape.Idx) (y : (rS hc').shape.Idx) :
    (rS hc).emb x ≠ (rS hc').emb y := by
  intro he
  have h0 := congrArg (fun i : S2304x256.Idx => (i 0).val) he
  have hx : (x 0).val < 256 := (x 0).isLt
  have hy : (y 0).val < 256 := (y 0).isLt
  simp only [Rect.emb_apply, Rect.off_unit, Rect.stride_unit, Nat.one_mul] at h0
  simp at h0
  omega

theorem rO_ne {w w' : ℕ} (hw : w < 32) (hw' : w' < 32) (h : w ≠ w') (x : (rO hw).shape.Idx) (y : (rO hw').shape.Idx) :
    (rO hw).emb x ≠ (rO hw').emb y := by
  intro he
  have h1 := congrArg (fun i : S1x8x512x128.Idx => (i 1).val) he
  have h2 := congrArg (fun i : S1x8x512x128.Idx => (i 2).val) he
  have hx : (x 1).val < 1 := (x 1).isLt
  have hy : (y 1).val < 1 := (y 1).isLt
  have hx2 : (x 2).val < 128 := (x 2).isLt
  have hy2 : (y 2).val < 128 := (y 2).isLt
  simp only [Rect.emb_apply, Rect.off_unit, Rect.stride_unit, Nat.one_mul] at h1 h2
  simp at h1 h2
  omega

variable {I}

theorem HasS.step {w c : ℕ} {hw : w < 32} {hc : c < 9} {X : S2304x256.Idx → Elt F .f32} (h : HasS I w hw c X) :
    HasS I w hw (c + 1) (upd (rS hc) X (scB I w c hw hc)) := by
  intro c' hc' hlt x
  by_cases e : c' = c
  · subst e
    exact upd_emb _ _ _ x
  · rw [upd_off _ _ _ fun y => rS_ne hc hc' (fun h => e h.symm) y x]
    exact h c' hc' (by omega) x

theorem HasP.step {w c : ℕ} {hw : w < 32} {hc : c < 9} {X : S2304x256.Idx → Elt F .bf16} (h : HasP I w hw c X) :
    HasP I w hw (c + 1) (upd (rS hc) X (exB I w c hw hc (mx I w hw c hc))) := by
  intro c' hc' hlt x
  by_cases e : c' = c
  · subst e
    exact upd_emb _ _ _ x
  · rw [upd_off _ _ _ fun y => rS_ne hc hc' (fun h => e h.symm) y x]
    exact h c' hc' (by omega) x

theorem HasO.step {lam : FVec F S1x1 .f32} {w : ℕ} {hw : w < 32} {X : S1x8x512x128.Idx → Elt F .bf16} (h : HasO I lam w X) :
    HasO I lam (w + 1) (upd (rO hw) X (fin I lam w (accOf I w hw (mx I w hw) 8 (by omega)))) := by
  intro w' hw' hlt x
  by_cases e : w' = w
  · subst e
    exact upd_emb _ _ _ x
  · rw [upd_off _ _ _ fun y => rO_ne hw hw' (fun h => e h.symm) y x]
    exact h w' hw' (by omega) x

/-! ## The steps -/

variable {A : Refs} {hA : A.Whole} {cc : Dev nD} {σ : Mem F} {lam : FVec F S1x1 .f32}

theorem run_score {w c : ℕ} {hw : w < 32} {hc : c < 9} {R : FVec F S256x256 .f32 → Mem F → Prop} (hI : σ.i = I)
    (hS : HasS I w hw c (σ.s (w % 3)))
    (hR : ∀ X, HasS I w hw (c + 1) X → R (sc I w c hw hc) { σ with s := Function.update σ.s (w % 3) X }) :
    Run A cc (score A w c hw hc) R σ := by
  subst hI
  unfold score
  refine Run.bind (Run.load (focus_k A cc) ?_)
  refine Run.bind (Run.load (focus_qt A cc) ?_)
  refine Run.bind (Run.load (focus_s A cc w) ?_)
  refine Run.bind (Run.store (focus_s A cc w) ?_)
  exact Run.pure (hR _ (hS.step (hc := hc)))

theorem run_expo {w c : ℕ} {hw : w < 32} {hc : c < 9} {m : FVec F S1x256 .f32} {R : PUnit → Mem F → Prop}
    (hS : HasS I w hw (c + 1) (σ.s (w % 3))) (hP : HasP I w hw c (σ.p (w % 2))) (hm : m = mx I w hw c hc)
    (hR : ∀ X, HasP I w hw (c + 1) X → R ⟨⟩ { σ with p := Function.update σ.p (w % 2) X }) :
    Run A cc (expo A hA w c hc m) R σ := by
  unfold expo
  refine Run.bind (Run.load (focus_s A cc w) ?_)
  refine Run.bind (Run.load (focus_p A cc w) ?_)
  refine Run.store (focus_p A cc w) ?_
  have e : (fun x => σ.s (w % 3) ((rS hc).emb x)) = scB I w c hw hc := funext fun x => hS c hc (by omega) x
  subst hm
  have := hR _ (hP.step (hc := hc))
  unfold exB at this
  rw [← e] at this
  exact this

theorem run_value {w c : ℕ} {hw : w < 32} {hc : c < 9} {R : FVec F S144x256 .f32 → Mem F → Prop} (hI : σ.i = I)
    (hP : HasP I w hw (c + 1) (σ.p (w % 2))) (hR : ∀ v, IsPV I w c hw hc v → R v σ) :
    Run A cc (value A w c hc) R σ := by
  subst hI
  unfold value
  refine Run.bind (Run.load (focus_vt A cc) ?_)
  refine Run.bind (Run.load (focus_p A cc w) ?_)
  refine Run.pure (hR _ ?_)
  have e : (fun x => σ.p (w % 2) ((rS hc).emb x)) = exB σ.i w c hw hc (mx σ.i w hw c hc) := funext (hP c hc (by omega))
  unfold IsPV pvOf
  rw [← e]
  rfl

theorem run_finish {w : ℕ} {hw : w < 32} {acc : FVec F S144x256 .f32} {R : PUnit → Mem F → Prop} (hI : σ.i = I)
    (hO : HasO I lam w σ.o) (ha : IsAcc I w hw 8 (by omega) acc)
    (hR : ∀ X, HasO I lam (w + 1) X → R ⟨⟩ { σ with o := X }) :
    Run A cc (finish A hA lam w hw acc) R σ := by
  subst hI
  have h := hR _ (hO.step (hw := hw))
  rw [← show acc = _ from ha] at h
  unfold fin at h
  unfold finish
  cases hb : (w % 8).blt 4 with
  | true =>
    rw [hb] at h
    refine Run.bind (Run.load (focus_sub A cc) ?_)
    refine Run.bind (Run.load (focus_o A cc) ?_)
    exact Run.store (focus_o A cc) h
  | false =>
    rw [hb] at h
    refine Run.bind (Run.load (focus_o A cc) ?_)
    exact Run.store (focus_o A cc) h

/-! ## A full tick -/

/-- Between two chunks of a full tick. -/
structure MidInv (I : Ins F) (O : S1x8x512x128.Idx → Elt F .bf16) (w : ℕ) (hw : w + 2 < 32) (c : ℕ) (σ : Mem F) : Prop where
  i : σ.i = I
  o : σ.o = O
  s1 : HasS I (w + 1) (by omega) 9 (σ.s ((w + 1) % 3))
  s2 : HasS I (w + 2) hw c (σ.s ((w + 2) % 3))
  p0 : HasP I w (by omega) 9 (σ.p (w % 2))
  p1 : HasP I (w + 1) (by omega) c (σ.p ((w + 1) % 2))

variable {O : S1x8x512x128.Idx → Elt F .bf16}

theorem HasS.take {w : ℕ} {hw : w < 32} {n k : ℕ} {X : S2304x256.Idx → Elt F .f32} (h : HasS I w hw n X) (hk : k ≤ n) :
    HasS I w hw k X := fun c hc hlt => h c hc (by omega)

theorem HasP.take {w : ℕ} {hw : w < 32} {n k : ℕ} {X : S2304x256.Idx → Elt F .bf16} (h : HasP I w hw n X) (hk : k ≤ n) :
    HasP I w hw k X := fun c hc hlt => h c hc (by omega)

theorem run_chunk {β : Type} {w : ℕ} {hw : w + 2 < 32} {c : ℕ} {hc : c < 9} {m : FVec F S1x256 .f32}
    {k : FVec F S144x256 .f32 → FVec F S256x256 .f32 → M F β} {R : β → Mem F → Prop} (h : MidInv I O w hw c σ)
    (hm : m = mx I (w + 1) (by omega) c hc)
    (hk : ∀ pv σ', IsPV I w c (by omega) hc pv → MidInv I O w hw (c + 1) σ' → Run A cc (k pv (sc I (w + 2) c hw hc)) R σ') :
    Run A cc (do
      let pv ← value A w c hc
      let s ← score A (w + 2) c hw hc
      expo A hA (w + 1) c hc m
      k pv s) R σ := by
  refine Run.bind (run_value h.i (h.p0.take (by omega)) fun pv hpv => ?_)
  refine Run.bind (run_score h.i h.s2 fun X hX => ?_)
  refine Run.bind (run_expo (w := w + 1) (hw := by omega) (I := I) ?_ h.p1 hm fun Y hY => ?_)
  · show HasS I (w + 1) _ (c + 1) (Function.update σ.s ((w + 2) % 3) X ((w + 1) % 3))
    rw [Function.update_of_ne (by omega)]
    exact h.s1.take (by omega)
  · refine hk pv _ hpv ⟨h.i, h.o, ?_, ?_, ?_, ?_⟩
    · show HasS I (w + 1) _ 9 (Function.update σ.s ((w + 2) % 3) X ((w + 1) % 3))
      rw [Function.update_of_ne (by omega)]
      exact h.s1
    · show HasS I (w + 2) hw (c + 1) (Function.update σ.s ((w + 2) % 3) X ((w + 2) % 3))
      rw [Function.update_self]
      exact hX
    · show HasP I w _ 9 (Function.update σ.p ((w + 1) % 2) Y (w % 2))
      rw [Function.update_of_ne (by omega)]
      exact h.p0
    · show HasP I (w + 1) _ (c + 1) (Function.update σ.p ((w + 1) % 2) Y ((w + 1) % 2))
      rw [Function.update_self]
      exact hY

theorem run_mid {w : ℕ} {hw : w + 2 < 32} {R : FVec F S144x256 .f32 × FVec F S32x256 .f32 → Mem F → Prop}
    (hR : ∀ r σ', IsAcc I w (by omega) 8 (by omega) r.1 → r.2 = m8At I (w + 2) hw 8 (by omega) → MidInv I O w hw 9 σ' →
      R r σ') :
    ∀ (n c : ℕ) (hn : c + 1 + n = 9) (h : c + 1 + n ≤ 9) (acc : FVec F S144x256 .f32) (m8 : FVec F S32x256 .f32) (σ : Mem F),
      MidInv I O w hw (c + 1) σ → IsAcc I w (by omega) c (by omega) acc → m8 = m8At I (w + 2) hw c (by omega) →
        Run A cc (mid A hA w hw (mxOf I (w + 1) (by omega)) n (c + 1) h acc m8) R σ
  | 0, c, hn, h, acc, m8, σ, hi, ha, hm => by
    obtain rfl : c = 8 := by omega
    exact Run.pure (hR (acc, m8) σ ha hm hi)
  | n + 1, c, hn, h, acc, m8, σ, hi, ha, hm => by
    refine run_chunk hi (by rw [mx_lo I hw, hm]; rfl) fun pv σ' hpv hi' => ?_
    refine run_mid hR n (c + 1) (by omega) (by omega) _ _ σ' hi' (ha.step hpv) ?_
    rw [hm]
    rfl

/-- Between two ticks. -/
structure TickInv (I : Ins F) (lam : FVec F S1x1 .f32) (w : ℕ) (hw : w + 1 < 32) (m8 : FVec F S32x256 .f32) (σ : Mem F) : Prop where
  i : σ.i = I
  o : HasO I lam w σ.o
  s : HasS I (w + 1) hw 9 (σ.s ((w + 1) % 3))
  p : HasP I w (by omega) 9 (σ.p (w % 2))
  m : m8 = m8At I (w + 1) hw 8 (by omega)

theorem HasS.none {w : ℕ} {hw : w < 32} {X : S2304x256.Idx → Elt F .f32} : HasS I w hw 0 X := fun c hc hlt => absurd hlt (by omega)
theorem HasP.none {w : ℕ} {hw : w < 32} {X : S2304x256.Idx → Elt F .bf16} : HasP I w hw 0 X := fun c hc hlt => absurd hlt (by omega)

theorem run_tick {w : ℕ} {hw : w + 2 < 32} {m8 : FVec F S32x256 .f32} (h : TickInv I lam w (by omega) m8 σ) :
    Run A cc (tick A hA lam w hw m8) (fun m8' σ' => TickInv I lam (w + 1) hw m8' σ') σ := by
  obtain rfl := h.m
  unfold tick
  refine run_chunk (O := σ.o) ⟨h.i, rfl, h.s, HasS.none, h.p, HasP.none⟩ (by rw [mx_lo I hw]; rfl) fun pv σ' hpv hi => ?_
  refine Run.bind (run_mid (O := σ.o) (fun r σ'' ha hm hi' => ?_) 8 0 (by omega) (by omega) pv _ σ' hi hpv rfl)
  refine Run.bind (run_finish (I := I) hi'.i (hi'.o ▸ h.o) ha fun X hX => ?_)
  exact Run.pure ⟨hi'.i, hX, hi'.s2, hi'.p1, hm⟩

theorem run_ticks {R : FVec F S32x256 .f32 → Mem F → Prop} (hR : ∀ m8 σ, TickInv I lam 30 (by omega) m8 σ → R m8 σ) :
    ∀ (n w : ℕ) (hn : w + n = 30) (h : w + n ≤ 30) (m8 : FVec F S32x256 .f32) (σ : Mem F),
      TickInv I lam w (by omega) m8 σ → Run A cc (ticks A hA lam n w h m8) R σ
  | 0, w, hn, h, m8, σ, hi => by
    obtain rfl : w = 30 := by omega
    exact Run.pure (hR m8 σ hi)
  | n + 1, w, hn, h, m8, σ, hi =>
    Run.bind ((run_tick hi).mono fun m8' σ' hi' => run_ticks hR n (w + 1) (by omega) (by omega) m8' σ' hi')

/-! ## The first two ticks -/

theorem run_midS {R : FVec F S32x256 .f32 → Mem F → Prop} {O : S1x8x512x128.Idx → Elt F .bf16}
    (hR : ∀ σ', σ'.i = I → σ'.o = O → HasS I 0 (by omega) 9 (σ'.s (0 % 3)) → R (m8At I 0 (by omega) 8 (by omega)) σ') :
    ∀ (n c : ℕ) (hn : c + 1 + n = 9) (h : c + 1 + n ≤ 9) (m8 : FVec F S32x256 .f32) (σ : Mem F),
      σ.i = I → σ.o = O → HasS I 0 (by omega) (c + 1) (σ.s (0 % 3)) → m8 = m8At I 0 (by omega) c (by omega) →
        Run A cc (midS A n (c + 1) h m8) R σ
  | 0, c, hn, h, m8, σ, hi, ho, hs, hm => by
    obtain rfl : c = 8 := by omega
    subst hm
    exact Run.pure (hR σ hi ho hs)
  | n + 1, c, hn, h, m8, σ, hi, ho, hs, hm => by
    refine Run.bind (run_score hi hs fun X hX => ?_)
    refine run_midS hR n (c + 1) (by omega) (by omega) _ _ hi ho ?_ ?_
    · show HasS I 0 _ (c + 1 + 1) (Function.update σ.s (0 % 3) X (0 % 3))
      rw [Function.update_self]
      exact hX
    · rw [hm]
      rfl

theorem run_midSE {R : FVec F S32x256 .f32 → Mem F → Prop} (ho' : HasO I lam 0 O)
    (hR : ∀ m8 σ', TickInv I lam 0 (by omega) m8 σ' → R m8 σ') :
    ∀ (n c : ℕ) (hn : c + 1 + n = 9) (h : c + 1 + n ≤ 9) (m8 : FVec F S32x256 .f32) (σ : Mem F),
      σ.i = I → HasO I lam 0 σ.o → HasS I 0 (by omega) 9 (σ.s (0 % 3)) → HasS I 1 (by omega) (c + 1) (σ.s (1 % 3)) →
      HasP I 0 (by omega) (c + 1) (σ.p (0 % 2)) → m8 = m8At I 1 (by omega) c (by omega) →
        Run A cc (midSE A hA (mxOf I 0 (by omega)) n (c + 1) h m8) R σ
  | 0, c, hn, h, m8, σ, hi, ho, hs, hs1, hp, hm => by
    obtain rfl : c = 8 := by omega
    exact Run.pure (hR m8 σ ⟨hi, ho, hs1, hp, hm⟩)
  | n + 1, c, hn, h, m8, σ, hi, ho, hs, hs1, hp, hm => by
    refine Run.bind (run_score hi hs1 fun X hX => ?_)
    refine Run.bind (run_expo (w := 0) (hw := by omega) (I := I) ?_ hp (by rw [mx_lo I (w := 0) (by omega), hm]; rfl) fun Y hY => ?_)
    · show HasS I 0 _ (c + 1 + 1) (Function.update σ.s (1 % 3) X (0 % 3))
      rw [Function.update_of_ne (by omega)]
      exact hs.take (by omega)
    · refine run_midSE ho' hR n (c + 1) (by omega) (by omega) _ _ hi ho ?_ ?_ ?_ ?_
      · show HasS I 0 _ 9 (Function.update σ.s (1 % 3) X (0 % 3))
        rw [Function.update_of_ne (by omega)]
        exact hs
      · show HasS I 1 _ (c + 1 + 1) (Function.update σ.s (1 % 3) X (1 % 3))
        rw [Function.update_self]
        exact hX
      · show HasP I 0 _ (c + 1 + 1) (Function.update σ.p (0 % 2) Y (0 % 2))
        rw [Function.update_self]
        exact hY
      · rw [hm]
        rfl

theorem HasO.none {X : S1x8x512x128.Idx → Elt F .bf16} : HasO I lam 0 X := fun c hc hlt => absurd hlt (by omega)

theorem run_tickSE {R : FVec F S32x256 .f32 → Mem F → Prop} (hi : σ.i = I) (hs : HasS I 0 (by omega) 9 (σ.s (0 % 3)))
    (hR : ∀ m8 σ', TickInv I lam 0 (by omega) m8 σ' → R m8 σ') :
    Run A cc (tickSE A hA (m8At I 0 (by omega) 8 (by omega))) R σ := by
  unfold tickSE
  refine Run.bind (run_score hi HasS.none fun X hX => ?_)
  refine Run.bind (run_expo (w := 0) (hw := by omega) (I := I) ?_ HasP.none (by rw [mx_lo I (w := 0) (by omega)]; rfl) fun Y hY => ?_)
  · show HasS I 0 _ (0 + 1) (Function.update σ.s (1 % 3) X (0 % 3))
    rw [Function.update_of_ne (by omega)]
    exact hs.take (by omega)
  · refine run_midSE (O := σ.o) HasO.none hR 8 0 (by omega) (by omega) _ _ hi HasO.none ?_ ?_ ?_ rfl
    · show HasS I 0 _ 9 (Function.update σ.s (1 % 3) X (0 % 3))
      rw [Function.update_of_ne (by omega)]
      exact hs
    · show HasS I 1 _ (0 + 1) (Function.update σ.s (1 % 3) X (1 % 3))
      rw [Function.update_self]
      exact hX
    · show HasP I 0 _ (0 + 1) (Function.update σ.p (0 % 2) Y (0 % 2))
      rw [Function.update_self]
      exact hY

theorem run_tickS {R : FVec F S32x256 .f32 → Mem F → Prop} (hi : σ.i = I)
    (hR : ∀ σ', σ'.i = I → HasS I 0 (by omega) 9 (σ'.s (0 % 3)) → R (m8At I 0 (by omega) 8 (by omega)) σ') :
    Run A cc (tickS A) R σ := by
  unfold tickS
  refine Run.bind (run_score hi HasS.none fun X hX => ?_)
  refine run_midS (O := σ.o) (fun σ' h1 h2 h3 => hR σ' h1 h3) 8 0 (by omega) (by omega) _ _ hi rfl ?_ rfl
  show HasS I 0 _ (0 + 1) (Function.update σ.s (0 % 3) X (0 % 3))
  rw [Function.update_self]
  exact hX

/-! ## The last two ticks -/

theorem run_midEV {R : FVec F S144x256 .f32 → Mem F → Prop}
    (hR : ∀ acc σ', σ'.i = I → HasO I lam 30 σ'.o → HasP I 31 (by omega) 9 (σ'.p (31 % 2)) →
      IsAcc I 30 (by omega) 8 (by omega) acc → R acc σ') :
    ∀ (n c : ℕ) (hn : c + 1 + n = 9) (h : c + 1 + n ≤ 9) (acc : FVec F S144x256 .f32) (σ : Mem F),
      σ.i = I → HasO I lam 30 σ.o → HasS I 31 (by omega) 9 (σ.s (31 % 3)) → HasP I 30 (by omega) 9 (σ.p (30 % 2)) →
      HasP I 31 (by omega) (c + 1) (σ.p (31 % 2)) → IsAcc I 30 (by omega) c (by omega) acc →
        Run A cc (midEV A hA (mxOf I 31 (by omega)) n (c + 1) h acc) R σ
  | 0, c, hn, h, acc, σ, hi, ho, hs, hp, hp1, ha => by
    obtain rfl : c = 8 := by omega
    exact Run.pure (hR acc σ hi ho hp1 ha)
  | n + 1, c, hn, h, acc, σ, hi, ho, hs, hp, hp1, ha => by
    refine Run.bind (run_value hi (hp.take (by omega)) fun pv hpv => ?_)
    refine Run.bind (run_expo (w := 31) (hw := by omega) (I := I) (hs.take (by omega)) hp1 (by rw [mx_hi I, show acc = _ from ha, mx_lo I (w := 30) (by omega)]; rfl) fun Y hY => ?_)
    refine run_midEV hR n (c + 1) (by omega) (by omega) _ _ hi ho hs ?_ ?_ (ha.step hpv)
    · show HasP I 30 _ 9 (Function.update σ.p (31 % 2) Y (30 % 2))
      rw [Function.update_of_ne (by omega)]
      exact hp
    · show HasP I 31 _ (c + 1 + 1) (Function.update σ.p (31 % 2) Y (31 % 2))
      rw [Function.update_self]
      exact hY

theorem run_midV {R : FVec F S144x256 .f32 → Mem F → Prop} (hi : σ.i = I) (hp : HasP I 31 (by omega) 9 (σ.p (31 % 2)))
    (hR : ∀ acc, IsAcc I 31 (by omega) 8 (by omega) acc → R acc σ) :
    ∀ (n c : ℕ) (hn : c + 1 + n = 9) (h : c + 1 + n ≤ 9) (acc : FVec F S144x256 .f32),
      IsAcc I 31 (by omega) c (by omega) acc → Run A cc (midV A n (c + 1) h acc) R σ
  | 0, c, hn, h, acc, ha => by
    obtain rfl : c = 8 := by omega
    exact Run.pure (hR acc ha)
  | n + 1, c, hn, h, acc, ha => by
    refine Run.bind (run_value hi (hp.take (by omega)) fun pv hpv => ?_)
    exact run_midV hi hp hR n (c + 1) (by omega) (by omega) _ (ha.step hpv)

theorem run_tickEV {R : PUnit → Mem F → Prop} {m8 : FVec F S32x256 .f32} (h : TickInv I lam 30 (by omega) m8 σ)
    (hR : ∀ σ', σ'.i = I → HasO I lam 31 σ'.o → HasP I 31 (by omega) 9 (σ'.p (31 % 2)) → R ⟨⟩ σ') :
    Run A cc (tickEV A hA lam m8) R σ := by
  obtain rfl := h.m
  unfold tickEV
  refine Run.bind (run_value h.i (h.p.take (by omega)) fun pv hpv => ?_)
  refine Run.bind (run_expo (w := 31) (hw := by omega) (I := I) (h.s.take (by omega)) HasP.none (by rw [mx_hi I]; rfl) fun Y hY => ?_)
  refine Run.bind (run_midEV (I := I) (lam := lam) (fun acc σ' h1 h2 h3 h4 => ?_) 8 0 (by omega) (by omega) _ _ h.i h.o h.s ?_ ?_ hpv)
  · exact run_finish (I := I) h1 h2 h4 fun X hX => hR _ h1 hX h3
  · show HasP I 30 _ 9 (Function.update σ.p (31 % 2) Y (30 % 2))
    rw [Function.update_of_ne (by omega)]
    exact h.p
  · show HasP I 31 _ (0 + 1) (Function.update σ.p (31 % 2) Y (31 % 2))
    rw [Function.update_self]
    exact hY

theorem run_tickV {R : PUnit → Mem F → Prop} (hi : σ.i = I) (ho : HasO I lam 31 σ.o) (hp : HasP I 31 (by omega) 9 (σ.p (31 % 2)))
    (hR : ∀ σ', σ'.i = I → HasO I lam 32 σ'.o → R ⟨⟩ σ') : Run A cc (tickV A hA lam) R σ := by
  unfold tickV
  refine Run.bind (run_value hi (hp.take (by omega)) fun pv hpv => ?_)
  refine Run.bind (run_midV hi hp (fun acc ha => ?_) 8 0 (by omega) (by omega) _ hpv)
  exact run_finish (I := I) hi ho ha fun X hX => hR _ hi hX

/-! ## The casts and the whole body -/

abbrev r0 : Rect S32x1024 := Rect.unit (s := S32x1024) ![0, 0] S32x1024.size inb_S32x1024_S32x1024_0_0
abbrev r1 : Rect S32x5632 := Rect.unit (s := S32x5632) ![0, 0] S32x5632.size inb_S32x5632_S32x5632_0_0
abbrev r2 : Rect S176x1024 := Rect.unit (s := S176x1024) ![0, 0] S176x1024.size inb_S176x1024_S176x1024_0_0
abbrev rL : Rect S4x64 := Rect.unit (s := S4x64) ![0, 0] S4x64.size inb_S4x64_S4x64_0_0

/-- The weights cast, the rest as it was. -/
def castIns (I : Ins F) : Ins F :=
  { I with
    c0 := upd r0 I.c0 (truncf .bf16 (fun x => I.w0 (r0.emb x)) bitsLt_bf16_f32)
    c1 := upd r1 I.c1 (truncf .bf16 (fun x => I.w1 (r1.emb x)) bitsLt_bf16_f32)
    c2 := upd r2 I.c2 (truncf .bf16 (fun x => I.w2 (r2.emb x)) bitsLt_bf16_f32)
    c3 := upd r1 I.c3 (truncf .bf16 (fun x => I.w3 (r1.emb x)) bitsLt_bf16_f32)
    c4 := upd r2 I.c4 (truncf .bf16 (fun x => I.w4 (r2.emb x)) bitsLt_bf16_f32) }

set_option maxRecDepth 10000 in
/-- The body leaves the inputs as they were, the casts of the weights, and every item finished in the output's block. -/
theorem run_body (I : Ins F) (hI : σ.i = I) :
    Run A cc (body A hA) (fun _ σ' => σ'.i = castIns I ∧ HasO (castIns I) (lamV fun x => I.lam (rL.emb x)) 32 σ'.o) σ := by
  subst hI
  unfold body
  refine Run.bind (Run.bind (Run.load (focus_w0 A cc) (Run.bind (Run.load (focus_c0 A cc) (Run.store (focus_c0 A cc) ?_)))))
  refine Run.bind (Run.bind (Run.load (focus_w1 A cc) (Run.bind (Run.load (focus_c1 A cc) (Run.store (focus_c1 A cc) ?_)))))
  refine Run.bind (Run.bind (Run.load (focus_w2 A cc) (Run.bind (Run.load (focus_c2 A cc) (Run.store (focus_c2 A cc) ?_)))))
  refine Run.bind (Run.bind (Run.load (focus_w3 A cc) (Run.bind (Run.load (focus_c3 A cc) (Run.store (focus_c3 A cc) ?_)))))
  refine Run.bind (Run.bind (Run.load (focus_w4 A cc) (Run.bind (Run.load (focus_c4 A cc) (Run.store (focus_c4 A cc) ?_)))))
  refine Run.bind (Run.load (focus_lam A cc) ?_)
  refine Run.bind (run_tickS (I := castIns σ.i) rfl fun σ1 h1 hs1 => ?_)
  refine Run.bind (run_tickSE (lam := lamV fun x => σ.i.lam (rL.emb x)) h1 hs1 fun m8 σ2 h2 => ?_)
  refine Run.bind (run_ticks (lam := lamV fun x => σ.i.lam (rL.emb x)) (I := castIns σ.i) ?_ 30 0 (Nat.zero_add 30) (Nat.zero_add 30).le m8 σ2 h2)
  intro m8' σ3 h3
  refine Run.bind (run_tickEV h3 fun σ4 h4 ho4 hp4 => ?_)
  exact run_tickV h4 ho4 hp4 fun σ5 h5 ho5 => ⟨h5, ho5⟩

end Cert.KernelIdeal.Attn

end
-- ==== Proof.Body.lean ====
/- The body of the call at a point of the grid. At point `t` it is handed the blocks of the ten inputs, leaves them as they
   are, and leaves in the blocks of the six results the finished items (`outBlk`) and the five weights cast. -/
module

public import proofs.«01_k».proof.Proof.Ticks
public import proofs.«01_k».proof.Proof.ProgEq
public import proofs.«01_k».proof.Proof.Gen.KernelIdeal.Frame
public import Idealize.ShloMosaic.Lib.ValueIdxCoords

@[expose] public section

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx (ix4)

variable {F : FTy → Type} [FloatOps F]

local notation "𝕄" => MT nD τ sig Unit (Elt F) ℕ (UR sig nD τ) ℕ

/-! ## The blocks of the results -/

theorem emb_r0 (i : S32x1024.Idx) : r0.emb i = i := by
  funext a
  apply Fin.ext
  rw [Rect.emb_apply, Rect.off_unit, Rect.stride_unit]
  fin_cases a <;> simp

theorem upd_r0 {e : EltTy} (X w : S32x1024.Idx → Elt F e) : upd r0 X w = w := by
  funext i
  have h := upd_emb r0 X w i
  rwa [emb_r0] at h

theorem emb_r1 (i : S32x5632.Idx) : r1.emb i = i := by
  funext a
  apply Fin.ext
  rw [Rect.emb_apply, Rect.off_unit, Rect.stride_unit]
  fin_cases a <;> simp

theorem upd_r1 {e : EltTy} (X w : S32x5632.Idx → Elt F e) : upd r1 X w = w := by
  funext i
  have h := upd_emb r1 X w i
  rwa [emb_r1] at h

theorem emb_r2 (i : S176x1024.Idx) : r2.emb i = i := by
  funext a
  apply Fin.ext
  rw [Rect.emb_apply, Rect.off_unit, Rect.stride_unit]
  fin_cases a <;> simp

theorem upd_r2 {e : EltTy} (X w : S176x1024.Idx → Elt F e) : upd r2 X w = w := by
  funext i
  have h := upd_emb r2 X w i
  rwa [emb_r2] at h

/-- The item of an index of the output's block. -/
theorem item_lt (j : S1x8x512x128.Idx) : 8 * ((j 2).val / 128) + (j 1).val < 32 := by
  have h1 : (j 1).val < 8 := (j 1).isLt
  have h2 : (j 2).val < 512 := (j 2).isLt
  omega

/-- What the body leaves in the output's block: each index its item's finished tile. -/
def outBlk (I : Ins F) : S1x8x512x128.Idx → Elt F .bf16 := fun j =>
  fin I (lamV fun x => I.lam (rL.emb x)) (8 * ((j 2).val / 128) + (j 1).val) (accOf I _ (item_lt j) (mx I _ (item_lt j)) 8 (by omega))
    (ix4 (n0 := 1) (n1 := 1) (n2 := 128) (n3 := 128) 0 0 ⟨(j 2).val % 128, Nat.mod_lt _ (by omega)⟩ ⟨(j 3).val, (j 3).isLt⟩)

theorem HasO.eq {I : Ins F} {X : S1x8x512x128.Idx → Elt F .bf16} (h : HasO I (lamV fun x => I.lam (rL.emb x)) 32 X) : X = outBlk I := by
  funext j
  have h0 : (j 0).val < 1 := (j 0).isLt
  have h1 : (j 1).val < 8 := (j 1).isLt
  have h2 : (j 2).val < 512 := (j 2).isLt
  refine Eq.trans (congrArg X ?_) (h _ (item_lt j) (item_lt j)
    (ix4 (n0 := 1) (n1 := 1) (n2 := 128) (n3 := 128) 0 0 ⟨(j 2).val % 128, Nat.mod_lt _ (by omega)⟩ ⟨(j 3).val, (j 3).isLt⟩))
  funext a
  apply Fin.ext
  rw [Rect.emb_apply, Rect.off_unit, Rect.stride_unit]
  fin_cases a
  · simp; omega
  · simp; omega
  · simp; omega
  · simp

/-! ## The body over any references -/

section Any

variable {A : Refs} (hA : A.Whole) (c : Dev nD)

/-- The weights cast. -/
def casted (I : Ins F) : Ins F :=
  { I with
    c0 := truncf .bf16 (I.w0 : FVec F S32x1024 .f32) bitsLt_bf16_f32
    c1 := truncf .bf16 (I.w1 : FVec F S32x5632 .f32) bitsLt_bf16_f32
    c2 := truncf .bf16 (I.w2 : FVec F S176x1024 .f32) bitsLt_bf16_f32
    c3 := truncf .bf16 (I.w3 : FVec F S32x5632 .f32) bitsLt_bf16_f32
    c4 := truncf .bf16 (I.w4 : FVec F S176x1024 .f32) bitsLt_bf16_f32 }

theorem castIns_eq (I : Ins F) : castIns I = casted I := by
  unfold castIns casted
  rw [upd_r0, upd_r1, upd_r2, upd_r1, upd_r2]
  simp only [emb_r0, emb_r1, emb_r2]

/-- What the body returns: the inputs as they were, the results, the scratch buffers at something. -/
def Left (A : Refs) (I : Ins F) : sProp 𝕄 :=
  iprop(owns (c : Thread nD τ) A.qt fullShare I.qt
    ∗ owns (c : Thread nD τ) A.k fullShare I.k
    ∗ owns (c : Thread nD τ) A.vt fullShare I.vt
    ∗ owns (c : Thread nD τ) A.lam fullShare I.lam
    ∗ owns (c : Thread nD τ) A.sub fullShare I.sub
    ∗ owns (c : Thread nD τ) A.w0 fullShare I.w0
    ∗ owns (c : Thread nD τ) A.w1 fullShare I.w1
    ∗ owns (c : Thread nD τ) A.w2 fullShare I.w2
    ∗ owns (c : Thread nD τ) A.w3 fullShare I.w3
    ∗ owns (c : Thread nD τ) A.w4 fullShare I.w4
    ∗ owns (c : Thread nD τ) A.c0 fullShare I.c0
    ∗ owns (c : Thread nD τ) A.c1 fullShare I.c1
    ∗ owns (c : Thread nD τ) A.c2 fullShare I.c2
    ∗ owns (c : Thread nD τ) A.c3 fullShare I.c3
    ∗ owns (c : Thread nD τ) A.c4 fullShare I.c4
    ∗ owns (c : Thread nD τ) A.o fullShare (outBlk I)
    ∗ (∃ X, owns (c : Thread nD τ) A.s0 fullShare X) ∗ (∃ X, owns (c : Thread nD τ) A.s1 fullShare X)
    ∗ (∃ X, owns (c : Thread nD τ) A.s2 fullShare X) ∗ (∃ X, owns (c : Thread nD τ) A.p0 fullShare X)
    ∗ (∃ X, owns (c : Thread nD τ) A.p1 fullShare X))

theorem body_owns (σ : Mem F) (I : Ins F) (hI : casted σ.i = I) (K : sProp 𝕄) :
    iprop(Held A c σ ∗ (Left c A I -∗ K)) ⊢ WP c (body (F := F) A hA) (fun _ => K) := by
  subst hI
  iintro ⟨H, HK⟩
  have h := run_body (A := A) (hA := hA) (cc := c) (σ := σ) σ.i rfl (fun _ => K)
  iapply h
  isplitl [H]
  · iexact H
  iintro %a %τ %hτ H
  obtain ⟨hi, ho⟩ := hτ
  rw [castIns_eq] at hi ho
  have ho' := HasO.eq ho
  iapply HK
  unfold Held Left
  rw [hi, ho']
  icases H with ⟨Hqt, Hk, Hvt, Hlam, Hsub, Hw0, Hw1, Hw2, Hw3, Hw4, Hc0, Hc1, Hc2, Hc3, Hc4, Ho, Hs0, Hs1, Hs2, Hp0, Hp1⟩
  isplitl [Hqt]; · iexact Hqt
  isplitl [Hk]; · iexact Hk
  isplitl [Hvt]; · iexact Hvt
  isplitl [Hlam]; · iexact Hlam
  isplitl [Hsub]; · iexact Hsub
  isplitl [Hw0]; · iexact Hw0
  isplitl [Hw1]; · iexact Hw1
  isplitl [Hw2]; · iexact Hw2
  isplitl [Hw3]; · iexact Hw3
  isplitl [Hw4]; · iexact Hw4
  isplitl [Hc0]; · iexact Hc0
  isplitl [Hc1]; · iexact Hc1
  isplitl [Hc2]; · iexact Hc2
  isplitl [Hc3]; · iexact Hc3
  isplitl [Hc4]; · iexact Hc4
  isplitl [Ho]; · iexact Ho
  isplitl [Hs0]; · iexists _; iexact Hs0
  isplitl [Hs1]; · iexists _; iexact Hs1
  isplitl [Hs2]; · iexists _; iexact Hs2
  isplitl [Hp0]; · iexists _; iexact Hp0
  iexists _; iexact Hp1

end Any

/-! ## The proof data -/

variable (m : (ℓ : Loc nD τ sig) → Buf (Elt F) ℓ) (ρ : Dev nD → PrngReg) (c : Dev nD) (t : Fin cfg0.N)

/-- The contents the body is handed at point `t`, the weights' casts already taken. -/
def insAt : Ins F where
  qt := X0_0 m c t
  k := iblk m c 1 t
  vt := iblk m c 2 t
  lam := iblk m c 3 t
  sub := iblk m c 4 t
  w0 := iblk m c 5 t
  w1 := iblk m c 6 t
  w2 := iblk m c 7 t
  w3 := iblk m c 8 t
  w4 := iblk m c 9 t
  c0 := truncf .bf16 (fun x : S32x1024.Idx => iblk m c 5 t x) bitsLt_bf16_f32
  c1 := truncf .bf16 (fun x : S32x5632.Idx => iblk m c 6 t x) bitsLt_bf16_f32
  c2 := truncf .bf16 (fun x : S176x1024.Idx => iblk m c 7 t x) bitsLt_bf16_f32
  c3 := truncf .bf16 (fun x : S32x5632.Idx => iblk m c 8 t x) bitsLt_bf16_f32
  c4 := truncf .bf16 (fun x : S176x1024.Idx => iblk m c 9 t x) bitsLt_bf16_f32

/-- What each window's staging buffer holds after the body. -/
def after0 : (w : Fin cfg0.W) → (cfg0.win w).block.Idx → Elt F (cfg0.win w).elt := fun
  | 0 => X0_0 m c t
  | 1 => iblk m c 1 t
  | 2 => iblk m c 2 t
  | 3 => iblk m c 3 t
  | 4 => iblk m c 4 t
  | 5 => iblk m c 5 t
  | 6 => iblk m c 6 t
  | 7 => iblk m c 7 t
  | 8 => iblk m c 8 t
  | 9 => iblk m c 9 t
  | 10 => outBlk (insAt m c t)
  | 11 => (insAt m c t).c0
  | 12 => (insAt m c t).c1
  | 13 => (insAt m c t).c2
  | 14 => (insAt m c t).c3
  | 15 => (insAt m c t).c4
  | ⟨_ + 16, h⟩ => absurd h (Nat.not_lt.2 (Nat.le_add_left _ _))

/-- The proof data of the one pipelined region. -/
def dats (_ : Fin 1) (c : Dev nD) : Dat τ (Elt F) Unit ℕ (UR sig nD τ) ℕ cfg0 c where
  A w := V m c (Pipeline.arrRef spec0 w)
  after w t := after0 m c t w
  Φ _ := Pipeline.ΦA spec0 c
  q _ := fullShare
  owed _ := 0

/-- The references the body is handed at point `t`. -/
def refsAt : Refs := ⟨st0_0 t, st0_1 t, st0_2 t, st0_3 t, st0_4 t, st0_5 t, st0_6 t, st0_7 t, st0_8 t, st0_9 t, st0_10 t, st0_11 t, st0_12 t, st0_13 t, st0_14 t, st0_15 t,
  Memref.whole cc0_scratch0, Memref.whole cc0_scratch1, Memref.whole cc0_scratch2, Memref.whole cc0_scratch3, Memref.whole cc0_scratch4⟩

theorem wholeAt : (refsAt t).Whole := ⟨hstage0_10 ((cfg0.slots t 10).cast nbuf0_10), hstage0_11 ((cfg0.slots t 11).cast nbuf0_11), hstage0_12 ((cfg0.slots t 12).cast nbuf0_12), hstage0_13 ((cfg0.slots t 13).cast nbuf0_13), hstage0_14 ((cfg0.slots t 14).cast nbuf0_14), hstage0_15 ((cfg0.slots t 15).cast nbuf0_15),
  Memref.isWhole_whole _, Memref.isWhole_whole _⟩

theorem bodyAt0_eq : bodyAt0 (F := F) t = body (refsAt t) (wholeAt t) := by
  unfold bodyAt0
  exact cc0_attn_eq _ _ _ _ _ _ _ _ _ _ _ _ _ _ _ _ _ _ _ _ _ _ _ _ _ _ _ _ _ _ _ _ _ _ _ _ _ _ _ _ _ _ _

/-- What the body is called with at point `t`, -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))
set_option maxHeartbeats 4000000 in
/-- The body at the point. -/
theorem sound_body : bodyPre m c t ⊢ wp frame (wpE (defs₀ (F := F)) Variants.none (c : Thread nD τ) none) Set.univ (bodyAt0 t) (fun _ => bodyPost m c t) := by
  rw [bodyAt0_eq]
  unfold bodyPre
  rw [show (dats m 0 c).Φ t.castSucc = Pipeline.ΦA spec0 c from rfl]
  unfold Pipeline.ΦA
  rw [scopedRest0_eq]
  iintro ⟨⟨⟨⟨%s0, Hs0⟩, ⟨%s1, Hs1⟩, ⟨%s2, Hs2⟩, ⟨%p0, Hp0⟩, ⟨%p1, Hp1⟩⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have e0 := before0_0_of m (dats m 0 c) rfl (fun _ => rfl) t d0
  have e1 := before0_1_of m (dats m 0 c) rfl (fun _ => rfl) t d1
  have e2 := before0_2_of m (dats m 0 c) rfl (fun _ => rfl) t d2
  have e3 := before0_3_of m (dats m 0 c) rfl (fun _ => rfl) t d3
  have e4 := before0_4_of m (dats m 0 c) rfl (fun _ => rfl) t d4
  have e5 := before0_5_of m (dats m 0 c) rfl (fun _ => rfl) t d5
  have e6 := before0_6_of m (dats m 0 c) rfl (fun _ => rfl) t d6
  have e7 := before0_7_of m (dats m 0 c) rfl (fun _ => rfl) t d7
  have e8 := before0_8_of m (dats m 0 c) rfl (fun _ => rfl) t d8
  have e9 := before0_9_of m (dats m 0 c) rfl (fun _ => rfl) t d9
  have h := body_owns (A := refsAt t) (wholeAt t) c
    ⟨⟨(dats m 0 c).before 0 t d0, (dats m 0 c).before 1 t d1, (dats m 0 c).before 2 t d2, (dats m 0 c).before 3 t d3, (dats m 0 c).before 4 t d4, (dats m 0 c).before 5 t d5, (dats m 0 c).before 6 t d6, (dats m 0 c).before 7 t d7, (dats m 0 c).before 8 t d8, (dats m 0 c).before 9 t d9, (dats m 0 c).before 11 t d11, (dats m 0 c).before 12 t d12, (dats m 0 c).before 13 t d13, (dats m 0 c).before 14 t d14, (dats m 0 c).before 15 t d15⟩,
      (dats m 0 c).before 10 t d10, fun | 0 => s0 | 1 => s1 | _ => s2, fun | 0 => p0 | _ => p1⟩
    (insAt m c t) (by rw [e0, e1, e2, e3, e4, e5, e6, e7, e8, e9]; rfl) (bodyPost m c t)
  iapply h
  isplitr [Hg HO]
  · unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H11]; · iexact H11
    isplitl [H12]; · iexact H12
    isplitl [H13]; · iexact H13
    isplitl [H14]; · iexact H14
    isplitl [H15]; · iexact H15
    isplitl [H10]; · iexact H10
    isplitl [Hs0]; · rw [show (refsAt t).s0 = Memref.whole cc0_scratch0 from rfl, owns_whole]; iexact Hs0
    isplitl [Hs1]; · rw [show (refsAt t).s1 = Memref.whole cc0_scratch1 from rfl, owns_whole]; iexact Hs1
    isplitl [Hs2]; · rw [show (refsAt t).s2 = Memref.whole cc0_scratch2 from rfl, owns_whole]; iexact Hs2
    isplitl [Hp0]; · rw [show (refsAt t).p0 = Memref.whole cc0_scratch3 from rfl, owns_whole]; iexact Hp0
    rw [show (refsAt t).p1 = Memref.whole cc0_scratch4 from rfl, owns_whole]; iexact Hp1
  unfold Left bodyPost
  iintro ⟨H0, H1, H2, H3, H4, H5, H6, H7, H8, H9, H11, H12, H13, H14, H15, H10, Hs0, Hs1, Hs2, Hp0, Hp1⟩
  rw [show (dats m 0 c).Φ t.succ = Pipeline.ΦA spec0 c from rfl,
    show (dats m 0 c).owesAt () t.succ = (dats m 0 c).owesAt () t.castSucc from rfl]
  unfold Pipeline.ΦA
  rw [scopedRest0_eq]
  isplitl [Hs0 Hs1 Hs2 Hp0 Hp1 Hg]
  · isplitr [Hg]
    swap; · iexact Hg
    icases Hs0 with ⟨%X0, Hs0⟩
    icases Hs1 with ⟨%X1, Hs1⟩
    icases Hs2 with ⟨%X2, Hs2⟩
    icases Hp0 with ⟨%X3, Hp0⟩
    icases Hp1 with ⟨%X4, Hp1⟩
    have w0 := owns_whole (Ix := Unit) (Name := ℕ) (U := UR sig nD τ) (Lvl := ℕ) (c : Thread nD τ) cc0_scratch0 fullShare X0
    have w1 := owns_whole (Ix := Unit) (Name := ℕ) (U := UR sig nD τ) (Lvl := ℕ) (c : Thread nD τ) cc0_scratch1 fullShare X1
    have w2 := owns_whole (Ix := Unit) (Name := ℕ) (U := UR sig nD τ) (Lvl := ℕ) (c : Thread nD τ) cc0_scratch2 fullShare X2
    have w3 := owns_whole (Ix := Unit) (Name := ℕ) (U := UR sig nD τ) (Lvl := ℕ) (c : Thread nD τ) cc0_scratch3 fullShare X3
    have w4 := owns_whole (Ix := Unit) (Name := ℕ) (U := UR sig nD τ) (Lvl := ℕ) (c : Thread nD τ) cc0_scratch4 fullShare X4
    isplitl [Hs0]; · iexists X0; rw [← w0]; iexact Hs0
    isplitl [Hs1]; · iexists X1; rw [← w1]; iexact Hs1
    isplitl [Hs2]; · iexists X2; rw [← w2]; iexact Hs2
    isplitl [Hp0]; · iexists X3; rw [← w3]; iexact Hp0
    iexists X4; rw [← w4]; iexact Hp1
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- From any memory with zero counters every execution of the program ends, with each result array at its blocks' last
    write-backs, every other buffer at what it held at the call, and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) 0 launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

end Cert.KernelIdeal.Attn

end
-- ==== Proof.Frames.lean ====
/- The arguments end unchanged and every semaphore counter at zero. -/
module

public import proofs.«01_k».proof.Proof.Body
public import Idealize.ShloMosaic.Lib.Claim

@[expose] public section

noncomputable section

namespace Cert.KernelIdeal.Attn

open Cert.KernelIdeal Cert.KernelIdeal.Gen
open Idealize.ShloMosaic Idealize.ShloMosaic.TcCoe Idealize.SL.Sem

variable {F : FTy → Type} [FloatOps F]

/-- Every argument holds what it held at launch. -/
def Kept (m : (ℓ : Loc nD τ sig) → Buf (Elt F) ℓ) (r : PUnit × MemSt nD τ sig (Elt F)) : Prop :=
  ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)

/-- The program ends with its arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => Kept m r ∧ r.2.sem = fun _ => 0) :=
  θ_run_mono (θ_run_and (frame_of m ρ (dats m) (fun _ _ => rfl) (θ_run_mono (run_main m ρ) fun _ h => h.1)) (run_main m ρ))
    fun _ h => ⟨h.1, h.2.2⟩

end Cert.KernelIdeal.Attn

end
-- ==== Proof.KernelFrame.lean ====
/- The frame of the program on machine floats, from the run of `Proof/Body.lean`, which is stated over any floats: the two
   programs call the same body (`Proof/KernelSame.lean`). -/
module

public import proofs.«01_k».proof.Defs
public import proofs.«01_k».proof.Proof.KernelSame
public import proofs.«01_k».proof.Proof.Frames

@[expose] public section

noncomputable section

namespace Cert.Kernel.Attn

open Idealize.ShloMosaic Idealize.SL.Sem

variable {F : FTy → Type} [FloatOps F]

set_option maxRecDepth 100000 in
set_option maxHeartbeats 4000000 in
theorem table_same : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l a
  match l, a with
  | 0, (t, s) => exact cc0_attn_same _ _ _ _ _ _ _ _ _ _ _ _ _ _ _ _ _ _ _ _ _ _ _ _ _ _ _ _ _ _ _ _ _ _ _ _ _ _ _ _ _ _ _
  | ⟨_ + 1, h⟩, _ => exact absurd h (Nat.not_lt.2 (Nat.le_add_left _ _))

set_option maxRecDepth 100000 in
set_option maxHeartbeats 4000000 in
theorem defs_same : @Cert.Kernel.defs F _ Cert.Kernel.Gen.facts = @Cert.KernelIdeal.defs F _ Cert.KernelIdeal.Gen.facts :=
  congrArg (Pipeline.defs Cert.KernelIdeal.pcfgs) table_same

set_option maxRecDepth 100000 in
set_option maxHeartbeats 4000000 in
theorem frame_kernel : Cert.quiescent_Kernel (hKernel := Cert.Kernel.Gen.facts) := by
  intro m ρ _
  rw [defs_same]
  exact Cert.KernelIdeal.Attn.frame (F := Bits) m ρ

end Cert.Kernel.Attn

end
-- ==== Proof.HostTerm.lean ====
/- The call's operands as terms of the arguments: the layout of queries, keys and values that the host prepares. -/
module

public import proofs.«01_k».proof.Proof.Gen.KernelIdeal.Frame
public import Idealize.ShloMosaic.Lib.Claim

@[expose] public section

noncomputable section

namespace Cert.KernelIdeal.Attn

open Cert.KernelIdeal Cert.KernelIdeal.Gen Idealize.ShloMosaic Idealize.ShloMosaic.TcCoe

variable {F : FTy → Type} [FloatOps F]

/-- The scale of the queries. -/
def scaleT : FVec F S_ .f32 := Host.divf (constant S_ .f32 0x3E000000#32) (Host.log (constant S_ .f32 0x40000000#32))

/-- Four differential heads and the first four grouped heads, scaled, lanes before queries. -/
def loT (a : FVec F S8x2048x4x64 .f32) (q : FVec F S8x2048x8x64 .f32) : FVec F S8x8x64x2048 .f32 :=
  transpose S8x8x64x2048 [0, 2, 3, 1]
    (mulf (concatenate S8x2048x8x64 2 [⟨S8x2048x4x64, a⟩, ⟨S8x2048x4x64,
        extractStridedSlice S8x2048x4x64 ![0, 0, 0, 0] q slices_S8x2048x8x64_S8x2048x4x64_0_0_0_0⟩]
        concatenates_S8x2048x4x64_S8x2048x4x64_S8x2048x8x64_d2)
      (broadcastInDim S8x2048x8x64 ![] bcast_S_S8x2048x8x64 scaleT)) transposes_S8x2048x8x64_S8x8x64x2048_0_2_3_1

/-- The same with the last four grouped heads. -/
def hiT (a : FVec F S8x2048x4x64 .f32) (q : FVec F S8x2048x8x64 .f32) : FVec F S8x8x64x2048 .f32 :=
  transpose S8x8x64x2048 [0, 2, 3, 1]
    (mulf (concatenate S8x2048x8x64 2 [⟨S8x2048x4x64, a⟩, ⟨S8x2048x4x64,
        extractStridedSlice S8x2048x4x64 ![0, 0, 4, 0] q slices_S8x2048x8x64_S8x2048x4x64_0_0_4_0⟩]
        concatenates_S8x2048x4x64_S8x2048x4x64_S8x2048x8x64_d2)
      (broadcastInDim S8x2048x8x64 ![] bcast_S_S8x2048x8x64 scaleT)) transposes_S8x2048x8x64_S8x8x64x2048_0_2_3_1

/-- Zeros. -/
def zeroT : FVec F S8x8x64x2048 .f32 := broadcastInDim S8x8x64x2048 ![] bcast_S_S8x8x64x2048 (constant S_ .f32 0x00000000#32)

/-- Two halves of the lanes, the queries in tiles. -/
def tilesT (x y : FVec F S8x8x64x2048 .f32) : FVec F S8x8x128x16x1x128 .f32 :=
  shapeCast _ (concatenate S8x8x128x2048 2 [⟨S8x8x64x2048, x⟩, ⟨S8x8x64x2048, y⟩]
    concatenates_S8x8x64x2048_S8x8x64x2048_S8x8x128x2048_d2) shapeCasts_S8x8x128x2048_S8x8x128x16x1x128

/-- The tiles of both maps by turns. -/
def turnsT (x y : FVec F S8x8x128x16x1x128 .f32) : FVec F S8x8x128x4096 .f32 :=
  shapeCast _ (concatenate S8x8x128x16x2x128 4 [⟨S8x8x128x16x1x128, x⟩, ⟨S8x8x128x16x1x128, y⟩]
    concatenates_S8x8x128x16x1x128_S8x8x128x16x1x128_S8x8x128x16x2x128_d4) shapeCasts_S8x8x128x16x2x128_S8x8x128x4096

/-- The queries' operand, with columns of zeros at the end. -/
def qtT (x : FVec F S8x8x128x4096 .f32) : FVec F S8x8x128x4608 .bf16 :=
  truncf .bf16 (concatenate S8x8x128x4608 3 [⟨S8x8x128x4096, x⟩, ⟨S8x8x128x512,
    broadcastInDim S8x8x128x512 ![] bcast_S_S8x8x128x512 (constant S_ .f32 0x00000000#32)⟩]
    concatenates_S8x8x128x4096_S8x8x128x512_S8x8x128x4608_d3) bitsLt_bf16_f32

/-- The keys' operand. -/
def ksT (k1 k2 : FVec F S8x2304x4x64 .f32) (k : FVec F S8x2304x2x64 .f32) : FVec F S8x5x2304x128 .bf16 :=
  truncf .bf16 (transpose S8x5x2304x128 [0, 2, 1, 3]
    (concatenate S8x2304x5x128 2 [⟨S8x2304x4x128, concatenate S8x2304x4x128 3 [⟨S8x2304x4x64, k1⟩, ⟨S8x2304x4x64, k2⟩]
        concatenates_S8x2304x4x64_S8x2304x4x64_S8x2304x4x128_d3⟩,
      ⟨S8x2304x1x128, shapeCast _ k shapeCasts_S8x2304x2x64_S8x2304x1x128⟩]
      concatenates_S8x2304x4x128_S8x2304x1x128_S8x2304x5x128_d2) transposes_S8x2304x5x128_S8x5x2304x128_0_2_1_3) bitsLt_bf16_f32

/-- The values' operand, over rows of ones. -/
def vtT (v : FVec F S8x2304x4x128 .f32) (vb : FVec F S8x2304x2x64 .f32) : FVec F S8x5x144x2304 .bf16 :=
  truncf .bf16 (concatenate S8x5x144x2304 2 [⟨S8x5x128x2304, transpose S8x5x128x2304 [0, 2, 3, 1]
      (concatenate S8x2304x5x128 2 [⟨S8x2304x4x128, v⟩, ⟨S8x2304x1x128, shapeCast _ vb shapeCasts_S8x2304x2x64_S8x2304x1x128⟩]
        concatenates_S8x2304x4x128_S8x2304x1x128_S8x2304x5x128_d2) transposes_S8x2304x5x128_S8x5x128x2304_0_2_3_1⟩,
    ⟨S8x5x16x2304, broadcastInDim S8x5x16x2304 ![] bcast_S_S8x5x16x2304 (constant S_ .f32 0x3F800000#32)⟩]
    concatenates_S8x5x128x2304_S8x5x16x2304_S8x5x144x2304_d2) bitsLt_bf16_f32

/-- Four rows, one above the other. -/
def rowsT (a b c d : FVec F S1x64 .f32) : FVec F S4x64 .f32 :=
  concatenate S4x64 0 [⟨S1x64, a⟩, ⟨S1x64, b⟩, ⟨S1x64, c⟩, ⟨S1x64, d⟩] concatenates_S1x64_S1x64_S1x64_S1x64_S4x64_d0

/-- The four vectors, a row each. -/
def lamT (a b c d : FVec F S64 .f32) : FVec F S4x64 .f32 :=
  rowsT (broadcastInDim S1x64 ![1] bcast_S64_S1x64_1 a) (broadcastInDim S1x64 ![1] bcast_S64_S1x64_1 b)
    (broadcastInDim S1x64 ![1] bcast_S64_S1x64_1 c) (broadcastInDim S1x64 ![1] bcast_S64_S1x64_1 d)

variable (m : (ℓ : Loc nD τ sig) → Buf (Elt F) ℓ) (c : Dev nD)

theorem V_qt : V m c main_v21 = qtT (turnsT
    (tilesT (loT (m ((c.tc : Thread nD τ).loc main_arg0)) (m ((c.tc : Thread nD τ).loc main_arg5))) zeroT)
    (tilesT zeroT (hiT (m ((c.tc : Thread nD τ).loc main_arg1)) (m ((c.tc : Thread nD τ).loc main_arg5))))) := by
  entry_read
  rfl

theorem V_ks : V m c main_v26 = ksT (m ((c.tc : Thread nD τ).loc main_arg2)) (m ((c.tc : Thread nD τ).loc main_arg3))
    (m ((c.tc : Thread nD τ).loc main_arg6)) := by
  entry_read
  rfl

theorem V_vt : V m c main_v32 = vtT (m ((c.tc : Thread nD τ).loc main_arg4)) (m ((c.tc : Thread nD τ).loc main_arg7)) := by
  entry_read
  rfl

open Idealize.ShloMosaic.StableHlo in
theorem V_rows : V m c main_v37 = rowsT (V m c main_v33) (V m c main_v34) (V m c main_v35) (V m c main_v36) := by
  unfold V hostOps0
  simp only [after_cons, after_nil]
  generalize (unary main_arg11 main_v36 _ _ _).result _ = G
  iterate 5 (rw [reshape_result_ne]; rotate_left; decide)
  rw [nary4_result]
  iterate 4 (rw [nary_result_ne]; rotate_left; decide)
  rfl

theorem V_lam : V m c main_v37 = lamT (m ((c.tc : Thread nD τ).loc main_arg8)) (m ((c.tc : Thread nD τ).loc main_arg9))
    (m ((c.tc : Thread nD τ).loc main_arg10)) (m ((c.tc : Thread nD τ).loc main_arg11)) := by
  have h0 : V m c main_v33 = broadcastInDim S1x64 ![1] bcast_S64_S1x64_1 (m ((c.tc : Thread nD τ).loc main_arg8)) := by entry_read; rfl
  have h1 : V m c main_v34 = broadcastInDim S1x64 ![1] bcast_S64_S1x64_1 (m ((c.tc : Thread nD τ).loc main_arg9)) := by entry_read; rfl
  have h2 : V m c main_v35 = broadcastInDim S1x64 ![1] bcast_S64_S1x64_1 (m ((c.tc : Thread nD τ).loc main_arg10)) := by entry_read; rfl
  have h3 : V m c main_v36 = broadcastInDim S1x64 ![1] bcast_S64_S1x64_1 (m ((c.tc : Thread nD τ).loc main_arg11)) := by entry_read; rfl
  rw [V_rows, h0, h1, h2, h3]
  rfl

theorem V_sub : V m c main_v38 = shapeCast S1x128 (m ((c.tc : Thread nD τ).loc main_arg12)) shapeCasts_S128_S1x128 := by
  entry_read
  rfl

end Cert.KernelIdeal.Attn

end
-- ==== Proof.Blocks.lean ====
/- What the blocks of the call's operands hold, and the array that the result's blocks make up. -/
module

public import proofs.«01_k».proof.Proof.HostTerm
public import proofs.«01_k».proof.Proof.Body
public import Idealize.ShloMosaic.Lib.Pointwise
public import Idealize.ShloMosaic.Lib.Pipeline.ValueKit

@[expose] public section

noncomputable section

namespace Cert.KernelIdeal.Attn

open Cert.KernelIdeal Cert.KernelIdeal.Gen Idealize.ShloMosaic Idealize.ShloMosaic.TcCoe Idealize.SL.Sem

theorem pt_lt (t : Fin cfg0.N) : t.1 / 4 < 8 := by
  have := t.2
  change t.1 < 32 at this
  omega

variable (m : (ℓ : Loc nD τ sig) → Buf (Elt Ideal) ℓ) (c : Dev nD) (t : Fin cfg0.N)

theorem idx0 : ∀ t : Fin cfg0.N, (cfg0.win 0).index t = ![t.1 / 4, 0, 0, t.1 % 4] := by decide +kernel
theorem idx1 : ∀ t : Fin cfg0.N, (cfg0.win 1).index t = ![t.1 / 4, 0, 0, 0] := by decide +kernel
theorem idx2 : ∀ t : Fin cfg0.N, (cfg0.win 2).index t = ![t.1 / 4, 0, 0, 0] := by decide +kernel
theorem idx4 : ∀ t : Fin cfg0.N, (cfg0.win 4).index t = ![0, 0] := by decide +kernel
theorem idx3 : ∀ t : Fin cfg0.N, (cfg0.win 3).index t = ![0, 0] := by decide +kernel
theorem idx10 : ∀ t : Fin cfg0.N, (cfg0.win 10).index t = ![t.1 / 4, 0, t.1 % 4, 0] := by decide +kernel

theorem k_read (u : Fin 5) (k : Fin 2304) (l : Fin 128) :
    (insAt m c t).k (ix4 0 u k l) = V m c main_v26 (ix4 ⟨t.1 / 4, pt_lt t⟩ u k l) := by
  show iblk m c 1 t _ = _
  blk_simp [iblk]
  blk_point [iblk, idx1 t]

theorem qt_read (u : Fin 8) (l : Fin 128) (k : Fin 1024) :
    (insAt m c t).qt (ix4 0 u l k) = V m c main_v21 (ix4 ⟨t.1 / 4, pt_lt t⟩ u l ⟨1024*(t.1%4)+k.1, by omega⟩) := by
  show X0_0 m c t _ = _
  unfold X0_0 Pipeline.Window.fill
  rw [dif_pos (moved0_0 t _)]
  blk_simp [iblk]
  blk_point [iblk, idx0 t]

theorem vt_read (u : Fin 5) (k : Fin 144) (l : Fin 2304) :
    (insAt m c t).vt (ix4 0 u k l) = V m c main_v32 (ix4 ⟨t.1 / 4, pt_lt t⟩ u k l) := by
  show iblk m c 2 t _ = _
  blk_simp [iblk]
  blk_point [iblk, idx2 t]

theorem sub_read (i : S1x128.Idx) :
    (insAt m c t).sub i = V m c main_v38 i := by
  show iblk m c 4 t _ = _
  blk_simp [iblk]
  blk_point [iblk, idx4 t]

theorem lam_read (i : S4x64.Idx) :
    (insAt m c t).lam i = V m c main_v37 i := by
  show iblk m c 3 t _ = _
  blk_simp [iblk]
  blk_point [iblk, idx3 t]

theorem covers10 : (cfg0.win 10).Covers := by decide +kernel

/-- The array that holds `G`, if every block does. -/
theorem outArr (G : S8x8x2048x128.Idx → Elt Ideal .bf16)
   (h : ∀ (t : Fin cfg0.N) (j : S1x8x512x128.Idx), outBlk (insAt m c t) j = G (ix4 ⟨t.1 / 4, pt_lt t⟩ (j 1) ⟨512*(t.1%4)+(j 2).1, by have := (j 2).2; change (j 2).1 < 512 at this; omega⟩ (j 3))) :
   (dats m 0 c).arrAt 10 cfg0.N = G := by
  refine Pipeline.Dat.arrAt_eq_of_covers (dats m 0 c) 10 G covers10 ?_
  intro t _ y
  blk_simp
  refine (h t y).trans ?_
  blk_point [idx10 t]

end Cert.KernelIdeal.Attn

end
-- ==== Proof.Reals.lean ====
/- Weighted averages with exponential weights, over real numbers and over the extended reals that hold them. -/
module

public import Idealize.ShloMosaic.PureOps.Ideal.Laws
public import Idealize.ShloMosaic.Lib.Pointwise

@[expose] public section

noncomputable section

namespace Cert.Attn

open Idealize.ShloMosaic

/-- The average of `y` under weights `exp (s k)`. -/
def wavg {n : ℕ} (s y : Fin n → ℝ) : ℝ := (∑ k, Real.exp (s k) * y k) / ∑ k, Real.exp (s k)

/-- A value that is a real number. -/
def IsReal (x : EReal) : Prop := ∃ r : ℝ, x = (r : EReal)

theorem IsReal.coe (r : ℝ) : IsReal (r : EReal) := ⟨r, rfl⟩

theorem IsReal.max {x y : EReal} (hx : IsReal x) (hy : IsReal y) : IsReal (max x y) := by
  obtain ⟨a, rfl⟩ := hx
  obtain ⟨b, rfl⟩ := hy
  rcases le_total (a : EReal) (b : EReal) with h | h
  · rw [max_eq_right h]; exact ⟨b, rfl⟩
  · rw [max_eq_left h]; exact ⟨a, rfl⟩

theorem neg_inf_f32 : Ideal.ofBits .f32 4286578688#32 = ⊥ := by
  simp [Ideal.ofBits, Ideal.ieee]

/-- A maximum of finitely many real numbers, of one at least, is one. -/
theorem isReal_fold {ι : Type} (s : Finset ι) (hs : s.Nonempty) (f : ι → EReal) (hf : ∀ i, IsReal (f i)) :
    IsReal (s.fold Max.max ⊥ f) := by
  induction hs using Finset.Nonempty.cons_induction with
  | singleton a =>
    rw [Finset.fold_singleton, max_eq_left bot_le]
    exact hf a
  | cons a t ha _ ih =>
    rw [Finset.fold_cons]
    exact (hf a).max ih

/-- A sum of real numbers, taken among the extended ones. -/
theorem coe_sum {ι : Type} (s : Finset ι) (f : ι → ℝ) : ∑ i ∈ s, (f i : EReal) = ((∑ i ∈ s, f i : ℝ) : EReal) := by
  classical
  induction s using Finset.induction_on with
  | empty => simp
  | insert a t ha ih => rw [Finset.sum_insert ha, Finset.sum_insert ha, ih, EReal.coe_add]

theorem coe_sum_mul {ι : Type} (s : Finset ι) (f g : ι → ℝ) :
    ∑ i ∈ s, (f i : EReal) * (g i : EReal) = ((∑ i ∈ s, f i * g i : ℝ) : EReal) := by
  rw [← coe_sum]
  exact Finset.sum_congr rfl fun i _ => (EReal.coe_mul _ _).symm

theorem sum_exp_pos {n : ℕ} [NeZero n] (s : Fin n → ℝ) : 0 < ∑ k, Real.exp (s k) :=
  Finset.sum_pos (fun k _ => Real.exp_pos _) Finset.univ_nonempty

/-- Shifting every exponent leaves the average as it is. -/
theorem wavg_shift {n : ℕ} (s y : Fin n → ℝ) (a : ℝ) :
    (∑ k, Real.exp (s k - a) * y k) / (∑ k, Real.exp (s k - a)) = wavg s y := by
  have h1 : ∀ k, Real.exp (s k - a) = Real.exp (s k) * Real.exp (-a) := fun k => by
    rw [← Real.exp_add, sub_eq_add_neg]
  have h2 : ∀ k, Real.exp (s k - a) * y k = Real.exp (s k) * y k * Real.exp (-a) := fun k => by rw [h1]; ring
  simp only [h2]
  simp only [h1]
  rw [← Finset.sum_mul, ← Finset.sum_mul, mul_div_mul_right _ _ (Real.exp_pos _).ne']
  rfl

/-- A power of two, as an exponential. -/
theorem two_rpow (x : ℝ) : Real.rpow 2 x = Real.exp (Real.log 2 * x) := Real.rpow_def_of_pos (by norm_num) x

/-- The normalised weights, applied: the average. -/
theorem sum_softmax {n : ℕ} (s y : Fin n → ℝ) (a : ℝ) :
    ∑ k, y k * (Real.exp (s k - a) / ∑ j, Real.exp (s j - a)) = wavg s y := by
  rw [← wavg_shift s y a, Finset.sum_div]
  exact Finset.sum_congr rfl fun k _ => by ring

/-- A least term that is zero: the minimum of an absolute value and zero. -/
theorem min_abs_zero (x : EReal) : min (FloatOps.absf (F := Ideal) (φ := .f32) x) 0 = 0 := by
  apply min_eq_right
  rw [Ideal.absf_def]
  rcases le_total 0 x with h | h
  · exact le_max_of_le_left h
  · exact le_max_of_le_right (by simpa using EReal.neg_le_neg_iff.2 h)

/-- A scaled score. -/
def dot8 {n : ℕ} (q k : Fin n → ℝ) : ℝ := (∑ x, q x * k x) * (1 / 8)

theorem eighth : Ideal.ofBits .f32 1040187392#32 = ((1 / 8 : ℝ) : EReal) := by
  simp [Ideal.ofBits, Ideal.ieee, -EReal.coe_mul]
  norm_num

/-- A row over its root mean square, times a weight and the constant after it. -/
def rmsOut (d : Fin 128 → EReal) (g : EReal) (e : Fin 128) : EReal :=
  d e * Ideal.rsqrt (Ideal.div (∑ x, d x * d x) (Ideal.ofBits .f32 1124073472#32) + Ideal.ofBits .f32 897988541#32) * g *
    Ideal.ofBits .f32 1061997773#32

/-- The weight of the second softmax, from its four vectors. -/
def lamE (a b c d : Fin 64 → EReal) : EReal :=
  Ideal.exp (∑ x, a x * b x) - Ideal.exp (∑ x, c x * d x) + Ideal.ofBits .f32 1045220557#32

theorem lit_real : IsReal (Ideal.ofBits .f32 1045220557#32) := by
  simp only [Ideal.ofBits, Ideal.ieee]
  simp [-EReal.coe_mul, IsReal]

theorem lamE_real (a b c d : Fin 64 → EReal) (ha : ∀ x, IsReal (a x)) (hb : ∀ x, IsReal (b x)) (hc : ∀ x, IsReal (c x))
    (hd : ∀ x, IsReal (d x)) : IsReal (lamE a b c d) := by
  choose a' ha using ha
  choose b' hb using hb
  choose c' hc using hc
  choose d' hd using hd
  obtain ⟨l, hl⟩ := lit_real
  unfold lamE
  simp only [ha, hb, hc, hd, hl]
  rw [coe_sum_mul, coe_sum_mul, Ideal.exp_coe, Ideal.exp_coe, ← EReal.coe_sub, ← EReal.coe_add]
  exact ⟨_, rfl⟩

end Cert.Attn

end
-- ==== Proof.HostValue.lean ====
/- The call's operands at an index, in real numbers. -/
module

public import proofs.«01_k».proof.Proof.HostTerm
public import proofs.«01_k».proof.Proof.Reals
public import Idealize.ShloMosaic.Lib.Pointwise

@[expose] public section

noncomputable section

namespace Cert.KernelIdeal.Attn

open Cert.KernelIdeal Cert.KernelIdeal.Gen Idealize.ShloMosaic Idealize.ShloMosaic.TcCoe Cert.Attn

/-- The scale of the queries, as a real number. -/
def scaleR : ℝ := 1 / 8 / Real.log 2

theorem two_f32 : Ideal.ofBits .f32 1073741824#32 = ((2 : ℝ) : EReal) := by
  simp [Ideal.ofBits, Ideal.ieee, -EReal.coe_mul]
  norm_num

theorem scaleT_real : scaleT (F := Ideal) ix0 = ((scaleR : ℝ) : EReal) := by
  have h : Real.log 2 ≠ 0 := (Real.log_pos (by norm_num)).ne'
  have e : scaleT (F := Ideal) ix0
      = Ideal.div (Ideal.ofBits .f32 1040187392#32) (Ideal.log (Ideal.ofBits .f32 1073741824#32)) := by
    pointwise [scaleT]
  rw [e, eighth, two_f32, Ideal.log_coe, if_neg (by norm_num), Ideal.div_coe h, ← EReal.coe_mul]
  exact EReal.coe_eq_coe_iff.2 (by unfold scaleR; ring)

/-- Query `s` of the first map of slab `u`, unscaled. -/
def loQ (Q1 : S8x2048x4x64.Idx → ℝ) (Q : S8x2048x8x64.Idx → ℝ) (b u : Fin 8) (s : Fin 2048) (x : Fin 64) : ℝ :=
  if h : u.1 < 4 then Q1 (ix4 b s ⟨u, h⟩ x) else Q (ix4 b s ⟨u.1 - 4, by omega⟩ x)

/-- Query `s` of the second map of slab `u`, unscaled. -/
def hiQ (Q2 : S8x2048x4x64.Idx → ℝ) (Q : S8x2048x8x64.Idx → ℝ) (b u : Fin 8) (s : Fin 2048) (x : Fin 64) : ℝ :=
  if h : u.1 < 4 then Q2 (ix4 b s ⟨u, h⟩ x) else Q (ix4 b s ⟨4 + (u.1 - 4), by omega⟩ x)

theorem loT_real {a : FVec Ideal S8x2048x4x64 .f32} {q : FVec Ideal S8x2048x8x64 .f32} {A Q}
    (ha : ∀ i, a i = ((A i : ℝ) : EReal)) (hq : ∀ i, q i = ((Q i : ℝ) : EReal)) (b u : Fin 8) (l : Fin 64) (s : Fin 2048) :
    loT a q (ix4 b u l s) = ((loQ A Q b u s l * scaleR : ℝ) : EReal) := by
  pointwise [loT]
  rw [scaleT_real, EReal.coe_mul]
  congr 1
  unfold loQ
  split
  · exact ha _
  · exact hq _

theorem hiT_real {a : FVec Ideal S8x2048x4x64 .f32} {q : FVec Ideal S8x2048x8x64 .f32} {A Q}
    (ha : ∀ i, a i = ((A i : ℝ) : EReal)) (hq : ∀ i, q i = ((Q i : ℝ) : EReal)) (b u : Fin 8) (l : Fin 64) (s : Fin 2048) :
    hiT a q (ix4 b u l s) = ((hiQ A Q b u s l * scaleR : ℝ) : EReal) := by
  pointwise [hiT]
  rw [scaleT_real, EReal.coe_mul]
  congr 1
  unfold hiQ
  split
  · exact ha _
  · exact hq _

theorem zeroT_apply (i) : zeroT (F := Ideal) i = ((0 : ℝ) : EReal) := by
  rw [eq_ix4 i, EReal.coe_zero]
  pointwise [zeroT]

theorem tilesT_apply (x y : FVec Ideal S8x8x64x2048 .f32) (b u : Fin 8) (l : Fin 128) (n : Fin 16) (z : Fin 1) (q : Fin 128) :
    tilesT x y (ix6 b u l n z q) = if h : l.1 < 64 then x (ix4 b u ⟨l, h⟩ ⟨n.1 * 128 + q, by omega⟩)
      else y (ix4 b u ⟨l.1 - 64, by omega⟩ ⟨n.1 * 128 + q, by omega⟩) := by
  rw [Subsingleton.elim z 0]
  pointwise [tilesT]

/-- Lane `l` of query column `q` of tile `n` of slab `u` : the first map's query in the first 128 columns, over zeros, and the
    second's in the others, under zeros. -/
def qryR (Q1 Q2 : S8x2048x4x64.Idx → ℝ) (Q : S8x2048x8x64.Idx → ℝ) (b u : Fin 8) (n : Fin 16) (l : Fin 128) (q : Fin 256) : ℝ :=
  if q.1 < 128 then if h : l.1 < 64 then loQ Q1 Q b u ⟨n.1 * 128 + q.1 % 128, by omega⟩ ⟨l, h⟩ * scaleR else 0
  else if l.1 < 64 then 0 else hiQ Q2 Q b u ⟨n.1 * 128 + q.1 % 128, by omega⟩ ⟨l.1 - 64, by omega⟩ * scaleR

theorem turnsT_lo (x y : FVec Ideal S8x8x128x16x1x128 .f32) (b u : Fin 8) (l : Fin 128) (n : Fin 16) (q : Fin 256) (hq : q.1 < 128) :
    turnsT x y (ix4 b u l ⟨256 * n.1 + q, by omega⟩) = x (ix6 b u l n 0 ⟨q.1 % 128, by omega⟩) := by
  pointwise [turnsT]
  rw [dif_pos (by omega)]
  congr 1
  congr 1 <;> apply Fin.ext <;> simp <;> omega

theorem turnsT_hi (x y : FVec Ideal S8x8x128x16x1x128 .f32) (b u : Fin 8) (l : Fin 128) (n : Fin 16) (q : Fin 256) (hq : ¬ q.1 < 128) :
    turnsT x y (ix4 b u l ⟨256 * n.1 + q, by omega⟩) = y (ix6 b u l n 0 ⟨q.1 % 128, by omega⟩) := by
  pointwise [turnsT]
  rw [dif_neg (by omega)]
  congr 1
  congr 1 <;> apply Fin.ext <;> simp <;> omega

theorem qtT_apply (x : FVec Ideal S8x8x128x4096 .f32) (b u : Fin 8) (l : Fin 128) (j : ℕ) (hj : j < 4096) :
    qtT x (ix4 b u l ⟨j, by omega⟩) = x (ix4 b u l ⟨j, hj⟩) := by
  pointwise [qtT]
  rw [dif_pos hj]

theorem queries_real {a0 a1 : FVec Ideal S8x2048x4x64 .f32} {q : FVec Ideal S8x2048x8x64 .f32} {A0 A1 Q}
    (h0 : ∀ i, a0 i = ((A0 i : ℝ) : EReal)) (h1 : ∀ i, a1 i = ((A1 i : ℝ) : EReal)) (hq : ∀ i, q i = ((Q i : ℝ) : EReal))
    (b u : Fin 8) (n : Fin 16) (l : Fin 128) (x : Fin 256) :
    qtT (turnsT (tilesT (loT a0 q) zeroT) (tilesT zeroT (hiT a1 q))) (ix4 b u l ⟨256 * n.1 + x, by omega⟩)
      = ((qryR A0 A1 Q b u n l x : ℝ) : EReal) := by
  rw [qtT_apply _ _ _ _ _ (by omega)]
  unfold qryR
  by_cases hx : x.1 < 128
  · rw [turnsT_lo _ _ _ _ _ _ _ hx, tilesT_apply, if_pos hx]
    split
    · exact loT_real h0 hq _ _ _ _
    · exact zeroT_apply _
  · rw [turnsT_hi _ _ _ _ _ _ _ hx, tilesT_apply, if_neg hx]
    split
    · exact zeroT_apply _
    · exact hiT_real h1 hq _ _ _ _

/-- Lane `l` of key `j` of key slab `u`. -/
def keyR (K1 K2 : S8x2304x4x64.Idx → ℝ) (K : S8x2304x2x64.Idx → ℝ) (b : Fin 8) (u : Fin 5) (j : Fin 2304) (l : Fin 128) : ℝ :=
  if h : u.1 < 4 then if h1 : l.1 < 64 then K1 (ix4 b j ⟨u, h⟩ ⟨l, h1⟩) else K2 (ix4 b j ⟨u, h⟩ ⟨l.1 - 64, by omega⟩)
  else K (ix4 b j ⟨l.1 / 64, by omega⟩ ⟨l.1 % 64, by omega⟩)

theorem keys_real {k1 k2 : FVec Ideal S8x2304x4x64 .f32} {k : FVec Ideal S8x2304x2x64 .f32} {K1 K2 K}
    (h1 : ∀ i, k1 i = ((K1 i : ℝ) : EReal)) (h2 : ∀ i, k2 i = ((K2 i : ℝ) : EReal)) (hk : ∀ i, k i = ((K i : ℝ) : EReal))
    (b : Fin 8) (u : Fin 5) (j : Fin 2304) (l : Fin 128) :
    ksT k1 k2 k (ix4 b u j l) = ((keyR K1 K2 K b u j l : ℝ) : EReal) := by
  pointwise [ksT]
  unfold keyR
  split
  · split
    · exact h1 _
    · exact h2 _
  · exact hk _

/-- Row `d` of the values of key slab `u` at key `j` : a lane of the values, or one. -/
def valR (W : S8x2304x4x128.Idx → ℝ) (WB : S8x2304x2x64.Idx → ℝ) (b : Fin 8) (u : Fin 5) (d : Fin 144) (j : Fin 2304) : ℝ :=
  if h : d.1 < 128 then if h1 : u.1 < 4 then W (ix4 b j ⟨u, h1⟩ ⟨d, h⟩)
    else WB (ix4 b j ⟨d.1 / 64, by omega⟩ ⟨d.1 % 64, by omega⟩)
  else 1

theorem values_real {v : FVec Ideal S8x2304x4x128 .f32} {vb : FVec Ideal S8x2304x2x64 .f32} {W WB}
    (hv : ∀ i, v i = ((W i : ℝ) : EReal)) (hb : ∀ i, vb i = ((WB i : ℝ) : EReal))
    (b : Fin 8) (u : Fin 5) (d : Fin 144) (j : Fin 2304) :
    vtT v vb (ix4 b u d j) = ((valR W WB b u d j : ℝ) : EReal) := by
  pointwise [vtT]
  unfold valR
  split
  · split
    · exact hv _
    · exact hb _
  · rfl

/-! ## The scores of a slab -/

theorem sum_halves (f : Fin 128 → ℝ) :
    ∑ l, f l = (∑ x : Fin 64, f ⟨x, by omega⟩) + ∑ x : Fin 64, f ⟨64 + x, by omega⟩ :=
  Fin.sum_univ_add (a := 64) (b := 64) f

theorem scale_out (a b : Fin 64 → ℝ) : Real.log 2 * (∑ x, b x * (a x * scaleR)) = dot8 a b := by
  have h : Real.log 2 ≠ 0 := (Real.log_pos (by norm_num)).ne'
  unfold dot8 scaleR
  rw [Finset.mul_sum, Finset.sum_mul]
  refine Finset.sum_congr rfl fun x _ => ?_
  field_simp

theorem score_lo (K : Fin 128 → ℝ) (Q1 Q2 : S8x2048x4x64.Idx → ℝ) (Q : S8x2048x8x64.Idx → ℝ) (b u : Fin 8) (n : Fin 16) (x : Fin 256)
    (hx : x.1 < 128) :
    Real.log 2 * ∑ l, K l * qryR Q1 Q2 Q b u n l x
      = dot8 (loQ Q1 Q b u ⟨n.1 * 128 + x.1 % 128, by omega⟩) (fun y => K ⟨y, by omega⟩) := by
  have e1 : ∀ y : Fin 64, qryR Q1 Q2 Q b u n ⟨y, by omega⟩ x = loQ Q1 Q b u ⟨n.1 * 128 + x.1 % 128, by omega⟩ y * scaleR :=
    fun y => by unfold qryR; rw [if_pos hx, dif_pos y.2]
  have e2 : ∀ y : Fin 64, qryR Q1 Q2 Q b u n ⟨64 + y, by omega⟩ x = 0 :=
    fun y => by unfold qryR; rw [if_pos hx, dif_neg (by simp)]
  rw [sum_halves, ← scale_out]
  simp only [e1, e2, mul_zero, Finset.sum_const_zero, add_zero]

theorem score_hi (K : Fin 128 → ℝ) (Q1 Q2 : S8x2048x4x64.Idx → ℝ) (Q : S8x2048x8x64.Idx → ℝ) (b u : Fin 8) (n : Fin 16) (x : Fin 256)
    (hx : ¬ x.1 < 128) :
    Real.log 2 * ∑ l, K l * qryR Q1 Q2 Q b u n l x
      = dot8 (hiQ Q2 Q b u ⟨n.1 * 128 + x.1 % 128, by omega⟩) (fun y => K ⟨64 + y, by omega⟩) := by
  have e1 : ∀ y : Fin 64, qryR Q1 Q2 Q b u n ⟨y, by omega⟩ x = 0 :=
    fun y => by unfold qryR; rw [if_neg hx, if_pos y.2]
  have e2 : ∀ y : Fin 64, qryR Q1 Q2 Q b u n ⟨64 + y, by omega⟩ x
      = hiQ Q2 Q b u ⟨n.1 * 128 + x.1 % 128, by omega⟩ y * scaleR := fun y => by
    have e : (⟨64 + y.1 - 64, by omega⟩ : Fin 64) = y := Fin.ext (Nat.add_sub_cancel_left ..)
    unfold qryR
    rw [if_neg hx, if_neg (by simp)]
    exact congrArg (fun z => hiQ Q2 Q b u _ z * scaleR) e
  rw [sum_halves, ← scale_out]
  simp only [e1, e2, mul_zero, Finset.sum_const_zero, zero_add]

end Cert.KernelIdeal.Attn

end
-- ==== Proof.Tile.lean ====
/- The items of a point over the extended reals, from real numbers: the scores, their maximum, the exponentials, the
   value products, and the quotient by the denominators, which is an average under exponential weights. -/
module

public import proofs.«01_k».proof.Proof.Ticks
public import proofs.«01_k».proof.Proof.Reals
public import proofs.«01_k».proof.Proof.Gen.KernelIdeal
public import Idealize.ShloMosaic.Lib.Pointwise

@[expose] public section

noncomputable section

namespace Cert.KernelIdeal.Attn

open Cert.KernelIdeal Cert.KernelIdeal.Gen Idealize.ShloMosaic Cert.Attn

/-! ## Boxes -/

theorem emb_rS {c : ℕ} (hc : c < 9) (r q : Fin 256) : (rS hc).emb (ix2 r q) = ix2 ⟨256 * c + r, by omega⟩ q := by
  funext a
  apply Fin.ext
  rw [Rect.emb_apply, Rect.off_unit, Rect.stride_unit]
  fin_cases a <;> simp

theorem emb_rK (w : ℕ) {c : ℕ} (hc : c < 9) (r : Fin 256) (l : Fin 128) :
    (rK w hc).emb (ix4 0 0 r l) = ix4 0 ⟨kv w, kv_lt w⟩ ⟨256 * c + r, by omega⟩ l := by
  funext a
  apply Fin.ext
  rw [Rect.emb_apply, Rect.off_unit, Rect.stride_unit]
  fin_cases a <;> simp

theorem emb_rQ {w : ℕ} (hw : w < 32) (l : Fin 128) (q : Fin 256) :
    (rQ hw).emb (ix4 0 0 l q) = ix4 0 ⟨w % 8, by omega⟩ l ⟨256 * (w / 8) + q, by omega⟩ := by
  funext a
  apply Fin.ext
  rw [Rect.emb_apply, Rect.off_unit, Rect.stride_unit]
  fin_cases a <;> simp

theorem emb_rV (w : ℕ) {c : ℕ} (hc : c < 9) (d : Fin 144) (r : Fin 256) :
    (rV w hc).emb (ix4 0 0 d r) = ix4 0 ⟨kv w, kv_lt w⟩ d ⟨256 * c + r, by omega⟩ := by
  funext a
  apply Fin.ext
  rw [Rect.emb_apply, Rect.off_unit, Rect.stride_unit]
  fin_cases a <;> simp

/-! ## The values at an index -/

theorem scoreV_apply (k : Vec Ideal S1x1x256x128 .bf16) (q : Vec Ideal S1x1x128x256 .bf16) (r c : Fin 256) :
    scoreV k q (ix2 r c) = ∑ x, k (ix4 0 0 r x) * q (ix4 0 0 x c) := by
  pointwise [scoreV]

theorem groupMax_apply (s : FVec Ideal S256x256 .f32) (r : Fin 32) (c : Fin 256) :
    groupMax s (ix2 r c) = Finset.univ.fold max ⊥ fun x : Fin 8 => s (ix2 ⟨x.1 * 32 + r.1, by omega⟩ c) := by
  pointwise [groupMax]
  rw [neg_inf_f32]

theorem rowMax_apply (s : FVec Ideal S32x256 .f32) (c : Fin 256) :
    rowMax s (ix2 0 c) = Finset.univ.fold max ⊥ fun x : Fin 32 => s (ix2 x c) := by
  pointwise [rowMax]
  rw [neg_inf_f32]

theorem paced_eq (m p : FVec Ideal S1x256 .f32) (c : Fin 256) : paced m p (ix2 0 c) = m (ix2 0 c) := by
  pointwise [paced]
  rw [min_abs_zero, add_zero]

theorem expV_apply (s : FVec Ideal S256x256 .f32) (m : FVec Ideal S1x256 .f32) (r c : Fin 256) :
    expV s m (ix2 r c) = Ideal.exp2 (s (ix2 r c) - m (ix2 0 c)) := by
  pointwise [expV]
  rfl

theorem valueV_apply (v : Vec Ideal S1x1x144x256 .bf16) (p : Vec Ideal S256x256 .bf16) (d : Fin 144) (c : Fin 256) :
    valueV v p (ix2 d c) = ∑ x, v (ix4 0 0 d x) * p (ix2 x c) := by
  pointwise [valueV]

theorem normV_apply (acc : FVec Ideal S144x256 .f32) (d : Fin 128) (c : Fin 256) :
    normV acc (ix2 d c) = acc (ix2 ⟨d, by omega⟩ c) * Ideal.div 1 (acc (ix2 128 c)) := by
  pointwise [normV]

/-! ## An item whose keys, queries and values are real numbers -/

/-- What an item reads, in real numbers: key `k` at lane `l`, query column `q` at lane `l`, value row `d` at key `k`. -/
structure RealItem (I : Ins Ideal) (w : ℕ) (hw : w < 32) (K : Fin 2304 → Fin 128 → ℝ) (Q : Fin 128 → Fin 256 → ℝ)
    (V : Fin 144 → Fin 2304 → ℝ) : Prop where
  key : ∀ k l, I.k (ix4 0 ⟨kv w, kv_lt w⟩ k l) = ((K k l : ℝ) : EReal)
  qry : ∀ l (q : Fin 256), I.qt (ix4 0 ⟨w % 8, by omega⟩ l ⟨256 * (w / 8) + q, by omega⟩) = ((Q l q : ℝ) : EReal)
  val : ∀ d k, I.vt (ix4 0 ⟨kv w, kv_lt w⟩ d k) = ((V d k : ℝ) : EReal)
  one : ∀ k, V 128 k = 1

/-- The score of key `k` and query column `q`. -/
def rscore (K : Fin 2304 → Fin 128 → ℝ) (Q : Fin 128 → Fin 256 → ℝ) (k : Fin 2304) (q : Fin 256) : ℝ := ∑ l, K k l * Q l q

variable {I : Ins Ideal} {w : ℕ} {hw : w < 32} {K : Fin 2304 → Fin 128 → ℝ} {Q : Fin 128 → Fin 256 → ℝ}
  {V : Fin 144 → Fin 2304 → ℝ}

theorem sc_real (h : RealItem I w hw K Q V) {c : ℕ} (hc : c < 9) (r q : Fin 256) :
    sc I w c hw hc (ix2 r q) = ((rscore K Q ⟨256 * c + r, by omega⟩ q : ℝ) : EReal) := by
  unfold sc
  rw [scoreV_apply]
  simp only [emb_rK, emb_rQ, h.key, h.qry]
  exact coe_sum_mul _ _ _

theorem m8At_real (h : RealItem I w hw K Q V) (r : Fin 32) (q : Fin 256) :
    (n : ℕ) → (hn : n < 9) → IsReal (m8At I w hw n hn (ix2 r q))
  | 0, hn => by
    show IsReal (groupMax (sc I w 0 hw hn) (ix2 r q))
    rw [groupMax_apply]
    exact isReal_fold _ Finset.univ_nonempty _ fun x => ⟨_, sc_real h hn _ _⟩
  | n + 1, hn => by
    refine IsReal.max (y := groupMax (sc I w (n + 1) hw hn) (ix2 r q)) (m8At_real h r q n (by omega)) ?_
    rw [groupMax_apply]
    exact isReal_fold _ Finset.univ_nonempty _ fun x => ⟨_, sc_real h hn _ _⟩

theorem mxOf_real (h : RealItem I w hw K Q V) (q : Fin 256) : IsReal (mxOf I w hw (ix2 0 q)) := by
  unfold mxOf
  rw [rowMax_apply]
  exact isReal_fold _ Finset.univ_nonempty _ fun x => m8At_real h _ _ _ _

theorem mx_apply (c : ℕ) (hc : c < 9) (q : Fin 256) : mx I w hw c hc (ix2 0 q) = mxOf I w hw (ix2 0 q) := by
  by_cases h : w + 1 < 32
  · rw [mx_lo I h]
    cases c with
    | zero => rfl
    | succ c => exact paced_eq _ _ _
  · obtain rfl : w = 31 := by omega
    rw [mx_hi I]
    cases c with
    | zero => rfl
    | succ c => exact paced_eq _ _ _

/-- The exponentials of a chunk, under the item's maximum `M`. -/
theorem exB_real (h : RealItem I w hw K Q V) {c : ℕ} (hc : c < 9) (r q : Fin 256) {M : ℝ}
    (hM : mxOf I w hw (ix2 0 q) = (M : EReal)) :
    exB I w c hw hc (mx I w hw c hc) (ix2 r q) =
      ((Real.exp (Real.log 2 * rscore K Q ⟨256 * c + r, by omega⟩ q - Real.log 2 * M) : ℝ) : EReal) := by
  unfold exB scB
  rw [shapeCast_self, shapeCast_self, expV_apply, sc_real h, mx_apply, hM, ← EReal.coe_sub, Ideal.exp2_coe, two_rpow, mul_sub]

/-- The value products of a chunk. -/
theorem pvOf_real (h : RealItem I w hw K Q V) {c : ℕ} (hc : c < 9) (d : Fin 144) (q : Fin 256) {M : ℝ}
    (hM : mxOf I w hw (ix2 0 q) = (M : EReal)) :
    pvOf I w c hw hc (mx I w hw c hc) (ix2 d q) =
      ((∑ r : Fin 256, V d ⟨256 * c + r, by omega⟩ *
        Real.exp (Real.log 2 * rscore K Q ⟨256 * c + r, by omega⟩ q - Real.log 2 * M) : ℝ) : EReal) := by
  unfold pvOf
  rw [valueV_apply]
  simp only [emb_rV, h.val, exB_real h hc _ _ hM]
  exact coe_sum_mul _ _ _

/-- A sum over the first keys, chunk by chunk. -/
def chunkSum (f : ℕ → ℝ) : ℕ → ℝ
  | 0 => ∑ r : Fin 256, f (256 * 0 + r)
  | n + 1 => chunkSum f n + ∑ r : Fin 256, f (256 * (n + 1) + r)

theorem chunkSum_eq (f : ℕ → ℝ) (n : ℕ) : chunkSum f n = ∑ k ∈ Finset.range (256 * (n + 1)), f k := by
  induction n with
  | zero =>
    rw [chunkSum, Finset.sum_range]
    exact Finset.sum_congr rfl fun r _ => by simp
  | succ n ih =>
    rw [chunkSum, ih, show 256 * (n + 1 + 1) = 256 * (n + 1) + 256 from by ring, Finset.sum_range_add]
    congr 1

/-- The term of key `k` in row `d`. -/
def term (K : Fin 2304 → Fin 128 → ℝ) (Q : Fin 128 → Fin 256 → ℝ) (y : Fin 2304 → ℝ) (q : Fin 256) (M : ℝ) (k : ℕ) : ℝ :=
  if hk : k < 2304 then y ⟨k, hk⟩ * Real.exp (Real.log 2 * rscore K Q ⟨k, hk⟩ q - Real.log 2 * M) else 0

theorem accOf_real (h : RealItem I w hw K Q V) (d : Fin 144) (q : Fin 256) {M : ℝ}
    (hM : mxOf I w hw (ix2 0 q) = (M : EReal)) :
    (n : ℕ) → (hn : n < 9) → accOf I w hw (mx I w hw) n hn (ix2 d q) = ((chunkSum (term K Q (V d) q M) n : ℝ) : EReal)
  | 0, hn => by
    rw [accOf, pvOf_real h _ _ _ hM, chunkSum]
    refine EReal.coe_eq_coe_iff.2 ?_
    exact Finset.sum_congr rfl fun r _ => by rw [term, dif_pos]
  | n + 1, hn => by
    rw [accOf, chunkSum, EReal.coe_add, ← accOf_real h d q hM n (by omega)]
    refine congrArg (accOf I w hw (mx I w hw) n (by omega) (ix2 d q) + ·) ?_
    show pvOf I w (n + 1) hw hn (mx I w hw (n + 1) hn) (ix2 d q) = _
    rw [pvOf_real h hn _ _ hM]
    refine EReal.coe_eq_coe_iff.2 ?_
    exact Finset.sum_congr rfl fun r _ => by rw [term, dif_pos]

theorem accOf_last (h : RealItem I w hw K Q V) (d : Fin 144) (q : Fin 256) {M : ℝ}
    (hM : mxOf I w hw (ix2 0 q) = (M : EReal)) :
    accOf I w hw (mx I w hw) 8 (by omega) (ix2 d q) =
      ((∑ k, Real.exp (Real.log 2 * rscore K Q k q - Real.log 2 * M) * V d k : ℝ) : EReal) := by
  rw [accOf_real h d q hM, chunkSum_eq, Finset.sum_range]
  refine EReal.coe_eq_coe_iff.2 ?_
  refine Finset.sum_congr rfl fun k _ => ?_
  rw [term, dif_pos k.2, mul_comm]

/-- The values over their denominators: an average of the values under the exponentials of the scores. -/
theorem normV_real (h : RealItem I w hw K Q V) (d : Fin 128) (q : Fin 256) :
    normV (accOf I w hw (mx I w hw) 8 (by omega)) (ix2 d q) =
      ((wavg (fun k => Real.log 2 * rscore K Q k q) (V ⟨d, by omega⟩) : ℝ) : EReal) := by
  obtain ⟨M, hM⟩ := mxOf_real h q
  have hp := sum_exp_pos fun k => Real.log 2 * rscore K Q k q - Real.log 2 * M
  have h1 : accOf I w hw (mx I w hw) 8 (by omega) (ix2 128 q) =
      ((∑ k, Real.exp (Real.log 2 * rscore K Q k q - Real.log 2 * M) : ℝ) : EReal) := by
    rw [accOf_last h _ _ hM]
    simp only [h.one, mul_one]
  rw [normV_apply, h1, accOf_last h _ _ hM, Ideal.div_coe hp.ne', one_mul, ← EReal.coe_mul,
    ← wavg_shift _ _ (Real.log 2 * M), mul_one_div]

end Cert.KernelIdeal.Attn

end
-- ==== Proof.Result.lean ====
/- The result in real numbers: what the attention is, entry by entry. -/
module

public import proofs.«01_k».proof.Proof.Gen.KernelIdeal
public import proofs.«01_k».proof.Proof.Reals
public import Idealize.ShloMosaic.Lib.Pointwise

@[expose] public section

noncomputable section

namespace Cert.Attn

open Cert.KernelIdeal Idealize.ShloMosaic

/-- Queries, keys and values, as real numbers. -/
structure Rs where
  Q1 : S8x2048x4x64.Idx → ℝ
  Q2 : S8x2048x4x64.Idx → ℝ
  K1 : S8x2304x4x64.Idx → ℝ
  K2 : S8x2304x4x64.Idx → ℝ
  W : S8x2304x4x128.Idx → ℝ
  Q : S8x2048x8x64.Idx → ℝ
  K : S8x2304x2x64.Idx → ℝ
  WB : S8x2304x2x64.Idx → ℝ

variable (R : Rs)

/-- One map of a differential head: values averaged under the exponentials of the scores. -/
def mapR (Qi : S8x2048x4x64.Idx → ℝ) (Ki : S8x2304x4x64.Idx → ℝ) (b : Fin 8) (u : Fin 4) (s : Fin 2048) (x : Fin 128) : ℝ :=
  wavg (fun k => dot8 (fun y => Qi (ix4 b s u y)) (fun y => Ki (ix4 b k u y))) (fun k => R.W (ix4 b k u x))

/-- A lane of a differential head: the difference of its maps, normalised. -/
def diffOut (L : ℝ) (g : S128.Idx → EReal) (b : Fin 8) (u : Fin 4) (s : Fin 2048) (e : Fin 128) : EReal :=
  rmsOut (fun x => ((mapR R R.Q1 R.K1 b u s x - L * mapR R R.Q2 R.K2 b u s x : ℝ) : EReal)) (g (ix1 e)) e

/-- A lane of a pair of grouped heads, `g` and `4 + g`, side by side. -/
def groupOut (b : Fin 8) (g : Fin 4) (s : Fin 2048) (e : Fin 128) : EReal :=
  ((wavg (fun k => dot8 (fun y => R.Q (ix4 b s ⟨e.1 / 64 * 4 + g.1, by omega⟩ y)) (fun y => R.K (ix4 b k ⟨e.1 / 64, by omega⟩ y)))
    (fun k => R.WB (ix4 b k ⟨e.1 / 64, by omega⟩ ⟨e.1 % 64, by omega⟩)) : ℝ) : EReal)

/-- The result at an index. -/
def outR (L : ℝ) (g : S128.Idx → EReal) (b u : Fin 8) (s : Fin 2048) (e : Fin 128) : EReal :=
  if h : u.1 < 4 then diffOut R L g b ⟨u, h⟩ s e else groupOut R b ⟨u.1 - 4, by omega⟩ s e

end Cert.Attn

end
-- ==== Proof.KernelOut.lean ====
/- What a point of the grid leaves in its block of the result, entry by entry. -/
module

public import proofs.«01_k».proof.Proof.Blocks
public import proofs.«01_k».proof.Proof.HostValue
public import proofs.«01_k».proof.Proof.Tile
public import proofs.«01_k».proof.Proof.Result

@[expose] public section

noncomputable section

namespace Cert.KernelIdeal.Attn

open Cert.KernelIdeal Cert.KernelIdeal.Gen Idealize.ShloMosaic Idealize.ShloMosaic.TcCoe Idealize.SL.Sem Cert.Attn

/-! ## The finishing steps at an index -/

theorem loV_apply (acc : FVec Ideal S144x256 .f32) (d q : Fin 128) : loV acc (ix2 d q) = normV acc (ix2 d ⟨q.1, by omega⟩) := by
  pointwise [loV]

theorem hiV_apply (acc : FVec Ideal S144x256 .f32) (d q : Fin 128) : hiV acc (ix2 d q) = normV acc (ix2 d ⟨128 + q.1, by omega⟩) := by
  pointwise [hiV]

theorem diffV_apply (l : FVec Ideal S1x1 .f32) (acc : FVec Ideal S144x256 .f32) (d q : Fin 128) :
    diffV l acc (ix2 d q) = loV acc (ix2 d q) - l (ix2 0 0) * hiV acc (ix2 d q) := by
  pointwise [diffV]

theorem finishA_apply (sub : Vec Ideal S1x128 .f32) (d : FVec Ideal S128x128 .f32) (r e : Fin 128) :
    finishA sub d (ix4 0 0 r e) = rmsOut (fun x => d (ix2 x r)) (sub (ix2 0 e)) e := by
  pointwise [finishA, rmsV]
  unfold rmsOut
  simp only [mul_assoc]

theorem lane_lt (e : Fin 128) : IntOp.cmpi .slt (BitVec.ofNat 32 e.1) 64#32 = if e.1 < 64 then 1#1 else 0#1 := by
  revert e
  decide

theorem finishB_apply (acc : FVec Ideal S144x256 .f32) (r e : Fin 128) :
    finishB acc (ix4 0 0 r e) = if e.1 < 64 then loV acc (ix2 e r) else hiV acc (ix2 e r) := by
  have h : finishB acc (ix4 0 0 r e)
      = Scalar.select (IntOp.cmpi .slt (BitVec.ofNat 32 e.1) 64#32) (loV acc (ix2 e r)) (hiV acc (ix2 e r)) := by
    pointwise [finishB, loRows]
  rw [h]
  rw [lane_lt]
  split <;> rfl

theorem lamV_apply (l : Vec Ideal S4x64 .f32) :
    lamV l (ix2 0 0) = lamE (fun x => l (ix2 0 x)) (fun x => l (ix2 1 x)) (fun x => l (ix2 2 x)) (fun x => l (ix2 3 x)) := by
  pointwise [lamV, lamOf, expDot]
  rfl

theorem emb_rL (i : Fin 4) (x : Fin 64) : rL.emb (ix2 i x) = ix2 i x := by
  funext a
  apply Fin.ext
  rw [Rect.emb_apply, Rect.off_unit, Rect.stride_unit]
  fin_cases a <;> simp

theorem emb_rG (i : Fin 1) (x : Fin 128) : rG.emb (ix2 i x) = ix2 i x := by
  funext a
  apply Fin.ext
  rw [Rect.emb_apply, Rect.off_unit, Rect.stride_unit]
  fin_cases a <;> simp

theorem lamT_apply (a b c d : FVec Ideal S64 .f32) (x : Fin 64) :
    lamT a b c d (ix2 0 x) = a (ix1 x) ∧ lamT a b c d (ix2 1 x) = b (ix1 x) ∧ lamT a b c d (ix2 2 x) = c (ix1 x)
      ∧ lamT a b c d (ix2 3 x) = d (ix1 x) := by
  refine ⟨?_, ?_, ?_, ?_⟩ <;> pointwise [lamT, rowsT]

theorem subT_apply (g : FVec Ideal S128 .f32) (e : Fin 128) :
    shapeCast S1x128 g shapeCasts_S128_S1x128 (ix2 0 e) = g (ix1 e) := by
  pointwise

/-! ## An item of a point -/

variable (m : (ℓ : Loc nD τ sig) → Buf (Elt Ideal) ℓ) (c : Dev nD) (R : Rs)

/-- The arguments hold these real numbers. -/
structure HoldsR : Prop where
  h0 : ∀ i, (m ((c.tc : Thread nD τ).loc main_arg0) : FVec Ideal S8x2048x4x64 .f32) i = ((R.Q1 i : ℝ) : EReal)
  h1 : ∀ i, (m ((c.tc : Thread nD τ).loc main_arg1) : FVec Ideal S8x2048x4x64 .f32) i = ((R.Q2 i : ℝ) : EReal)
  h2 : ∀ i, (m ((c.tc : Thread nD τ).loc main_arg2) : FVec Ideal S8x2304x4x64 .f32) i = ((R.K1 i : ℝ) : EReal)
  h3 : ∀ i, (m ((c.tc : Thread nD τ).loc main_arg3) : FVec Ideal S8x2304x4x64 .f32) i = ((R.K2 i : ℝ) : EReal)
  h4 : ∀ i, (m ((c.tc : Thread nD τ).loc main_arg4) : FVec Ideal S8x2304x4x128 .f32) i = ((R.W i : ℝ) : EReal)
  h5 : ∀ i, (m ((c.tc : Thread nD τ).loc main_arg5) : FVec Ideal S8x2048x8x64 .f32) i = ((R.Q i : ℝ) : EReal)
  h6 : ∀ i, (m ((c.tc : Thread nD τ).loc main_arg6) : FVec Ideal S8x2304x2x64 .f32) i = ((R.K i : ℝ) : EReal)
  h7 : ∀ i, (m ((c.tc : Thread nD τ).loc main_arg7) : FVec Ideal S8x2304x2x64 .f32) i = ((R.WB i : ℝ) : EReal)

variable {m c R} (H : HoldsR m c R) (t : Fin cfg0.N)

/-- The tile of queries of item `w` at point `t`. -/
abbrev tileOf (t : Fin cfg0.N) (w : ℕ) (hw : w < 32) : Fin 16 := ⟨4 * (t.1 % 4) + w / 8, by omega⟩

include H in
theorem item_real (w : ℕ) (hw : w < 32) :
    RealItem (insAt m c t) w hw (keyR R.K1 R.K2 R.K ⟨t.1 / 4, pt_lt t⟩ ⟨kv w, kv_lt w⟩)
      (qryR R.Q1 R.Q2 R.Q ⟨t.1 / 4, pt_lt t⟩ ⟨w % 8, by omega⟩ (tileOf t w hw)) (valR R.W R.WB ⟨t.1 / 4, pt_lt t⟩ ⟨kv w, kv_lt w⟩) where
  key k l := by
    rw [k_read, V_ks]
    exact keys_real H.h2 H.h3 H.h6 _ _ _ _
  qry l q := by
    rw [qt_read, V_qt]
    have e : (⟨1024 * (t.1 % 4) + (256 * (w / 8) + q.1), by omega⟩ : Fin 4608) = ⟨256 * (tileOf t w hw).1 + q.1, by simp only [tileOf]; omega⟩ :=
      Fin.ext (by simp only [tileOf]; omega)
    exact (congrArg (fun z => qtT _ (ix4 _ _ l z)) e).trans (queries_real H.h0 H.h1 H.h5 _ _ _ _ _)
  val d k := by
    rw [vt_read, V_vt]
    exact values_real H.h4 H.h7 _ _ _ _
  one k := by
    unfold valR
    rw [dif_neg (by decide)]

include H in
theorem lo_real (w : ℕ) (hw : w < 32) (d q : Fin 128) :
    loV (accOf (insAt m c t) w hw (mx (insAt m c t) w hw) 8 (by omega)) (ix2 d q) =
      ((wavg (fun k => dot8 (loQ R.Q1 R.Q ⟨t.1 / 4, pt_lt t⟩ ⟨w % 8, by omega⟩ ⟨(tileOf t w hw).1 * 128 + q, by simp only [tileOf]; omega⟩)
          (fun y => keyR R.K1 R.K2 R.K ⟨t.1 / 4, pt_lt t⟩ ⟨kv w, kv_lt w⟩ k ⟨y, by omega⟩))
        (valR R.W R.WB ⟨t.1 / 4, pt_lt t⟩ ⟨kv w, kv_lt w⟩ ⟨d, by omega⟩) : ℝ) : EReal) := by
  rw [loV_apply, normV_real (item_real H t w hw)]
  refine EReal.coe_eq_coe_iff.2 (congrArg (fun s => wavg s _) (funext fun k => ?_))
  refine (score_lo _ _ _ _ _ _ _ _ q.2).trans (congrArg (fun z => dot8 (loQ _ _ _ _ z) _) (Fin.ext ?_))
  show _ * 128 + q.1 % 128 = _ * 128 + q.1
  omega

include H in
theorem hi_real (w : ℕ) (hw : w < 32) (d q : Fin 128) :
    hiV (accOf (insAt m c t) w hw (mx (insAt m c t) w hw) 8 (by omega)) (ix2 d q) =
      ((wavg (fun k => dot8 (hiQ R.Q2 R.Q ⟨t.1 / 4, pt_lt t⟩ ⟨w % 8, by omega⟩ ⟨(tileOf t w hw).1 * 128 + q, by simp only [tileOf]; omega⟩)
          (fun y => keyR R.K1 R.K2 R.K ⟨t.1 / 4, pt_lt t⟩ ⟨kv w, kv_lt w⟩ k ⟨64 + y, by omega⟩))
        (valR R.W R.WB ⟨t.1 / 4, pt_lt t⟩ ⟨kv w, kv_lt w⟩ ⟨d, by omega⟩) : ℝ) : EReal) := by
  rw [hiV_apply, normV_real (item_real H t w hw)]
  refine EReal.coe_eq_coe_iff.2 (congrArg (fun s => wavg s _) (funext fun k => ?_))
  refine (score_hi _ _ _ _ _ _ _ _ (by simp)).trans (congrArg (fun z => dot8 (hiQ _ _ _ _ z) _) (Fin.ext ?_))
  show _ * 128 + (128 + q.1) % 128 = _ * 128 + q.1
  omega

theorem kv_lo (w : ℕ) (hu : w % 8 < 4) : kv w = w % 8 := by
  unfold kv
  omega

theorem kv_hi (w : ℕ) (hu : ¬ w % 8 < 4) : kv w = 4 := by
  unfold kv
  omega

variable (R) in
theorem lo_map (w : ℕ) (hw : w < 32) (hu : w % 8 < 4) (b : Fin 8) (s : Fin 2048) (d : Fin 128) :
    wavg (fun k => dot8 (loQ R.Q1 R.Q b ⟨w % 8, by omega⟩ s) (fun y => keyR R.K1 R.K2 R.K b ⟨kv w, kv_lt w⟩ k ⟨y, by omega⟩))
      (valR R.W R.WB b ⟨kv w, kv_lt w⟩ ⟨d, by omega⟩) = mapR R R.Q1 R.K1 b ⟨w % 8, hu⟩ s d := by
  have e : (⟨kv w, kv_lt w⟩ : Fin 5) = ⟨w % 8, by omega⟩ := Fin.ext (kv_lo w hu)
  rw [e]
  unfold mapR loQ keyR valR
  simp only [hu, dif_pos, Fin.is_lt]

variable (R) in
theorem hi_map (w : ℕ) (hw : w < 32) (hu : w % 8 < 4) (b : Fin 8) (s : Fin 2048) (d : Fin 128) :
    wavg (fun k => dot8 (hiQ R.Q2 R.Q b ⟨w % 8, by omega⟩ s) (fun y => keyR R.K1 R.K2 R.K b ⟨kv w, kv_lt w⟩ k ⟨64 + y, by omega⟩))
      (valR R.W R.WB b ⟨kv w, kv_lt w⟩ ⟨d, by omega⟩) = mapR R R.Q2 R.K2 b ⟨w % 8, hu⟩ s d := by
  have e : (⟨kv w, kv_lt w⟩ : Fin 5) = ⟨w % 8, by omega⟩ := Fin.ext (kv_lo w hu)
  have h64 : ∀ y : ℕ, ¬ 64 + y < 64 := fun y => by omega
  rw [e]
  unfold mapR hiQ keyR valR
  simp only [hu, h64, dif_pos, dif_neg, Fin.is_lt, not_false_eq_true, Nat.add_sub_cancel_left, Fin.eta]

variable (R) in
theorem lo_group (w : ℕ) (hw : w < 32) (hu : ¬ w % 8 < 4) (b : Fin 8) (s : Fin 2048) (e : Fin 128) (he : e.1 < 64) :
    ((wavg (fun k => dot8 (loQ R.Q1 R.Q b ⟨w % 8, by omega⟩ s) (fun y => keyR R.K1 R.K2 R.K b ⟨kv w, kv_lt w⟩ k ⟨y, by omega⟩))
      (valR R.W R.WB b ⟨kv w, kv_lt w⟩ ⟨e, by omega⟩) : ℝ) : EReal) = groupOut R b ⟨w % 8 - 4, by omega⟩ s e := by
  have e4 : (⟨kv w, kv_lt w⟩ : Fin 5) = 4 := Fin.ext (kv_hi w hu)
  have h0 : e.1 / 64 = 0 := by omega
  have hy : ∀ y : Fin 64, y.1 / 64 = 0 := fun y => by omega
  have hm : ∀ y : Fin 64, y.1 % 64 = y.1 := fun y => by omega
  have h4 : ¬ ((4 : Fin 5).1 < 4) := by decide
  rw [e4]
  unfold groupOut loQ keyR valR
  simp only [hu, h4, hy, hm, h0, dif_neg, dif_pos, Fin.is_lt, not_false_eq_true, Nat.zero_mul, Nat.zero_add, Fin.eta]

variable (R) in
theorem hi_group (w : ℕ) (hw : w < 32) (hu : ¬ w % 8 < 4) (b : Fin 8) (s : Fin 2048) (e : Fin 128) (he : ¬ e.1 < 64) :
    ((wavg (fun k => dot8 (hiQ R.Q2 R.Q b ⟨w % 8, by omega⟩ s) (fun y => keyR R.K1 R.K2 R.K b ⟨kv w, kv_lt w⟩ k ⟨64 + y, by omega⟩))
      (valR R.W R.WB b ⟨kv w, kv_lt w⟩ ⟨e, by omega⟩) : ℝ) : EReal) = groupOut R b ⟨w % 8 - 4, by omega⟩ s e := by
  have e4 : (⟨kv w, kv_lt w⟩ : Fin 5) = 4 := Fin.ext (kv_hi w hu)
  have h0 : e.1 / 64 = 1 := by omega
  have hy : ∀ y : Fin 64, (64 + y.1) / 64 = 1 := fun y => by omega
  have hm : ∀ y : Fin 64, (64 + y.1) % 64 = y.1 := fun y => by omega
  have h4 : ¬ ((4 : Fin 5).1 < 4) := by decide
  rw [e4]
  unfold groupOut hiQ keyR valR
  simp only [hu, h4, hy, hm, h0, dif_neg, dif_pos, Fin.is_lt, not_false_eq_true, Nat.one_mul, Fin.eta]

include H in
theorem fin_real {L : ℝ} (hL : lamV (F := Ideal) (fun x => (insAt m c t).lam (rL.emb x)) (ix2 0 0) = (L : EReal))
    (w : ℕ) (hw : w < 32) (r e : Fin 128) :
    fin (insAt m c t) (lamV fun x => (insAt m c t).lam (rL.emb x)) w
        (accOf (insAt m c t) w hw (mx (insAt m c t) w hw) 8 (by omega)) (ix4 0 0 r e)
      = outR R L (m ((c.tc : Thread nD τ).loc main_arg12)) ⟨t.1 / 4, pt_lt t⟩ ⟨w % 8, by omega⟩
          ⟨(tileOf t w hw).1 * 128 + r, by simp only [tileOf]; omega⟩ e := by
  unfold fin outR
  by_cases hu : w % 8 < 4
  · rw [dif_pos hu, show (w % 8).blt 4 = true from by simpa [Nat.blt_eq] using hu, cond_true, finishA_apply, emb_rG, sub_read, V_sub, subT_apply]
    unfold diffOut
    refine congrArg (fun d => rmsOut d _ e) (funext fun x => ?_)
    rw [diffV_apply, lo_real H t w hw, hi_real H t w hw, hL, lo_map R w hw hu, hi_map R w hw hu, ← EReal.coe_mul, ← EReal.coe_sub]
  · rw [dif_neg hu, show (w % 8).blt 4 = false from by rw [← Bool.not_eq_true, Nat.blt_eq]; exact hu, cond_false, finishB_apply]
    split
    · next he => rw [lo_real H t w hw, lo_group R w hw hu _ _ _ he]
    · next he => rw [hi_real H t w hw, hi_group R w hw hu _ _ _ he]

theorem lam_real :
    lamV (F := Ideal) (fun x => (insAt m c t).lam (rL.emb x)) (ix2 0 0) =
      lamE (fun x => (m ((c.tc : Thread nD τ).loc main_arg8) : FVec Ideal S64 .f32) (ix1 x))
        (fun x => (m ((c.tc : Thread nD τ).loc main_arg9) : FVec Ideal S64 .f32) (ix1 x))
        (fun x => (m ((c.tc : Thread nD τ).loc main_arg10) : FVec Ideal S64 .f32) (ix1 x))
        (fun x => (m ((c.tc : Thread nD τ).loc main_arg11) : FVec Ideal S64 .f32) (ix1 x)) := by
  rw [lamV_apply]
  simp only [emb_rL, lam_read]
  rw [V_lam]
  have h := lamT_apply (m ((c.tc : Thread nD τ).loc main_arg8)) (m ((c.tc : Thread nD τ).loc main_arg9))
    (m ((c.tc : Thread nD τ).loc main_arg10)) (m ((c.tc : Thread nD τ).loc main_arg11))
  rw [funext fun x => (h x).1, funext fun x => (h x).2.1, funext fun x => (h x).2.2.1, funext fun x => (h x).2.2.2]

include H in
/-- The call's result: the array of `outR`. -/
theorem kernel_out {L : ℝ} (hL : lamE (fun x => (m ((c.tc : Thread nD τ).loc main_arg8) : FVec Ideal S64 .f32) (ix1 x))
        (fun x => (m ((c.tc : Thread nD τ).loc main_arg9) : FVec Ideal S64 .f32) (ix1 x))
        (fun x => (m ((c.tc : Thread nD τ).loc main_arg10) : FVec Ideal S64 .f32) (ix1 x))
        (fun x => (m ((c.tc : Thread nD τ).loc main_arg11) : FVec Ideal S64 .f32) (ix1 x)) = (L : EReal)) :
    (dats m 0 c).arrAt 10 cfg0.N
      = fun i : S8x8x2048x128.Idx => outR R L (m ((c.tc : Thread nD τ).loc main_arg12)) (i 0) (i 1) (i 2) (i 3) := by
  refine outArr m c _ fun t j => ?_
  have h1 : (j 1).val < 8 := (j 1).isLt
  have h2 : (j 2).val < 512 := (j 2).isLt
  unfold outBlk
  refine (fin_real H t ((lam_real t).trans hL) _ (item_lt j) _ _).trans ?_
  have e1 : (⟨(8 * ((j 2).val / 128) + (j 1).val) % 8, by omega⟩ : Fin 8) = j 1 := Fin.ext (by show _ % 8 = _; omega)
  have e2 : (⟨(tileOf t (8 * ((j 2).val / 128) + (j 1).val) (item_lt j)).1 * 128 + (j 2).val % 128, by simp only [tileOf]; omega⟩ : Fin 2048)
      = ⟨512 * (t.1 % 4) + (j 2).val, by omega⟩ := Fin.ext (by simp only [tileOf]; omega)
  exact congrArg₂ (fun a b => outR R L _ _ a b _) e1 e2

end Cert.KernelIdeal.Attn

end
-- ==== Proof.RefTerm.lean ====
/- The reference's result as a term of its arguments, in named parts. -/
module

public import proofs.«01_k».proof.Proof.Gen.ReferenceIdeal
public import proofs.«01_k».proof.Proof.Gen.ReferenceIdeal.Run
public import Idealize.ShloMosaic.PureOps.Ideal

@[expose] public section

noncomputable section

namespace Cert.ReferenceIdeal.Attn

open Cert.ReferenceIdeal Cert.ReferenceIdeal.Gen
open Idealize.ShloMosaic Idealize.ShloMosaic.TcCoe

variable {F : FTy → Type} [FloatOps F]

/-! ## The differential heads -/

/-- Scaled scores of queries and keys, head by head. -/
def scores (q : FVec F S8x2048x4x64 .f32) (k : FVec F S8x2304x4x64 .f32) : FVec F S8x4x2048x2304 .f32 :=
  mulf (Host.dotGeneral dot_S8x2048x4x64_S8x2304x4x64_S8x4x2048x2304_3_3_1_1_02_02 none q k)
    (broadcastInDim S8x4x2048x2304 ![] bcast_S_S8x4x2048x2304 (constant S_ .f32 0x3E000000#32))

/-- The greatest score of a query. -/
def top (s : FVec F S8x4x2048x2304 .f32) : FVec F S8x4x2048 .f32 :=
  maximumf (broadcastInDim S8x4x2048 ![] bcast_S_S8x4x2048 (constant S_ .f32 0xFF800000#32))
    (Host.reduce FloatOps.maximumf s (constant S_ .f32 0xFF800000#32) reducesTo_S8x4x2048x2304_S8x4x2048_d3 h_S_)

/-- The exponentials of the scores less the greatest. -/
def exps (s : FVec F S8x4x2048x2304 .f32) : FVec F S8x4x2048x2304 .f32 :=
  Host.exp (subf s (broadcastInDim S8x4x2048x2304 ![0, 1, 2, 3] bcast_S8x4x2048x1_S8x4x2048x2304_0_1_2_3
    (broadcastInDim S8x4x2048x1 ![0, 1, 2] bcast_S8x4x2048_S8x4x2048x1_0_1_2 (top s))))

/-- Their sum. -/
def total (e : FVec F S8x4x2048x2304 .f32) : FVec F S8x4x2048 .f32 :=
  Host.reduceAdd e (constant S_ .f32 0x00000000#32) reducesTo_S8x4x2048x2304_S8x4x2048_d3 h_S_

/-- The softmax of the scores. -/
def soft (s : FVec F S8x4x2048x2304 .f32) : FVec F S8x4x2048x2304 .f32 :=
  Host.divf (exps s) (broadcastInDim S8x4x2048x2304 ![0, 1, 2, 3] bcast_S8x4x2048x1_S8x4x2048x2304_0_1_2_3
    (broadcastInDim S8x4x2048x1 ![0, 1, 2] bcast_S8x4x2048_S8x4x2048x1_0_1_2 (total (exps s))))

/-- The weight of the second softmax. -/
def lamR (a b c d : FVec F S64 .f32) : FVec F S_ .f32 :=
  addf (subf (Host.exp (Host.reduceAdd (mulf a b) (constant S_ .f32 0x00000000#32) reducesTo_S64_S_d0 h_S_))
    (Host.exp (Host.reduceAdd (mulf c d) (constant S_ .f32 0x00000000#32) reducesTo_S64_S_d0 h_S_)))
    (constant S_ .f32 0x3E4CCCCD#32)

/-- The values under the difference of the two softmaxes. -/
def diffR (v : FVec F S8x2304x4x128 .f32) (s1 s2 : FVec F S8x4x2048x2304 .f32) (lam : FVec F S_ .f32) : FVec F S8x2048x4x128 .f32 :=
  transpose S8x2048x4x128 [0, 3, 1, 2]
    (Host.dotGeneral dot_S8x2304x4x128_S8x4x2048x2304_S8x4x128x2048_1_3_3_2_02_01 none v
      (subf (soft s1) (mulf (broadcastInDim S8x4x2048x2304 ![] bcast_S_S8x4x2048x2304 lam) (soft s2))))
    transposes_S8x4x128x2048_S8x2048x4x128_0_3_1_2

/-- Divided by their root mean square and scaled. -/
def normR (d : FVec F S8x2048x4x128 .f32) (g : FVec F S128 .f32) : FVec F S8x4x2048x128 .f32 :=
  transpose S8x4x2048x128 [0, 2, 1, 3] (mulf (mulf (mulf d (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf d d) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32)))))) (broadcastInDim S8x2048x4x128 ![0, 1, 2, 3] bcast_S1x1x1x128_S8x2048x4x128_0_1_2_3 (broadcastInDim S1x1x1x128 ![3] bcast_S128_S1x1x1x128_3 g))) (broadcastInDim S8x2048x4x128 ![] bcast_S_S8x2048x4x128 (constant S_ .f32 0x3F4CCCCD#32))) transposes_S8x2048x4x128_S8x4x2048x128_0_2_1_3

/-! ## The grouped heads -/

/-- Scaled scores of the grouped heads. -/
def gscores (q : FVec F S8x2048x8x64 .f32) (k : FVec F S8x2304x2x64 .f32) : FVec F S8x2x4x2048x2304 .f32 :=
  mulf (transpose S8x2x4x2048x2304 [0, 1, 4, 3, 2] (Host.dotGeneral dot_S8x2304x2x64_S8x2048x2x4x64_S8x2x2304x2048x4_3_4_1_13_02_02 none k (shapeCast _ q shapeCasts_S8x2048x8x64_S8x2048x2x4x64)) transposes_S8x2x2304x2048x4_S8x2x4x2048x2304_0_1_4_3_2)
    (broadcastInDim S8x2x4x2048x2304 ![] bcast_S_S8x2x4x2048x2304 (constant S_ .f32 0x3E000000#32))

/-- The greatest score of a query. -/
def gtop (s : FVec F S8x2x4x2048x2304 .f32) : FVec F S8x2x4x2048 .f32 :=
  maximumf (broadcastInDim S8x2x4x2048 ![] bcast_S_S8x2x4x2048 (constant S_ .f32 0xFF800000#32))
    (Host.reduce FloatOps.maximumf s (constant S_ .f32 0xFF800000#32) reducesTo_S8x2x4x2048x2304_S8x2x4x2048_d4 h_S_)

/-- The exponentials of the scores less the greatest. -/
def gexps (s : FVec F S8x2x4x2048x2304 .f32) : FVec F S8x2x4x2048x2304 .f32 :=
  Host.exp (subf s (broadcastInDim S8x2x4x2048x2304 ![0, 1, 2, 3, 4] bcast_S8x2x4x2048x1_S8x2x4x2048x2304_0_1_2_3_4
    (broadcastInDim S8x2x4x2048x1 ![0, 1, 2, 3] bcast_S8x2x4x2048_S8x2x4x2048x1_0_1_2_3 (gtop s))))

/-- Their sum. -/
def gtotal (e : FVec F S8x2x4x2048x2304 .f32) : FVec F S8x2x4x2048 .f32 :=
  Host.reduceAdd e (constant S_ .f32 0x00000000#32) reducesTo_S8x2x4x2048x2304_S8x2x4x2048_d4 h_S_

/-- The softmax of the scores. -/
def gsoft (s : FVec F S8x2x4x2048x2304 .f32) : FVec F S8x2x4x2048x2304 .f32 :=
  Host.divf (gexps s) (broadcastInDim S8x2x4x2048x2304 ![0, 1, 2, 3, 4] bcast_S8x2x4x2048x1_S8x2x4x2048x2304_0_1_2_3_4
    (broadcastInDim S8x2x4x2048x1 ![0, 1, 2, 3] bcast_S8x2x4x2048_S8x2x4x2048x1_0_1_2_3 (gtotal (gexps s))))

/-- The values under the softmax. -/
def gvals (v : FVec F S8x2304x2x64 .f32) (p : FVec F S8x2x4x2048x2304 .f32) : FVec F S8x2048x2x4x64 .f32 :=
  transpose S8x2048x2x4x64 [0, 4, 1, 3, 2] (Host.dotGeneral dot_S8x2304x2x64_S8x2x4x2048x2304_S8x2x64x4x2048_1_4_3_23_02_01 none v p) transposes_S8x2x64x4x2048_S8x2048x2x4x64_0_4_1_3_2

/-- Two heads side by side. -/
def sideBySide (x : FVec F S8x2048x2x4x64 .f32) : FVec F S8x4x2048x128 .f32 :=
  shapeCast _ (transpose S8x4x2048x2x64 [0, 3, 1, 2, 4] (shapeCast _ (shapeCast _ x shapeCasts_S8x2048x2x4x64_S8x2048x8x64) shapeCasts_S8x2048x8x64_S8x2048x2x4x64) transposes_S8x2048x2x4x64_S8x4x2048x2x64_0_3_1_2_4) shapeCasts_S8x4x2048x2x64_S8x4x2048x128

/-! ## The result -/

/-- The two halves of the heads. -/
def joined (a b : FVec F S8x4x2048x128 .f32) : FVec F S8x8x2048x128 .bf16 :=
  truncf .bf16 (concatenate S8x8x2048x128 1 [⟨S8x4x2048x128, a⟩, ⟨S8x4x2048x128, b⟩] concatenates_S8x4x2048x128_S8x4x2048x128_S8x8x2048x128_d1) bitsLt_bf16_f32

theorem res_eq (m : (ℓ : Loc nD τ sig) → Buf (Elt F) ℓ) (c : Dev nD) :
    Value.res_main_v80 m c =
      joined (normR (diffR (m ((c.tc : Thread nD τ).loc main_arg4))
          (scores (m ((c.tc : Thread nD τ).loc main_arg0)) (m ((c.tc : Thread nD τ).loc main_arg2)))
          (scores (m ((c.tc : Thread nD τ).loc main_arg1)) (m ((c.tc : Thread nD τ).loc main_arg3)))
          (lamR (m ((c.tc : Thread nD τ).loc main_arg8)) (m ((c.tc : Thread nD τ).loc main_arg9))
            (m ((c.tc : Thread nD τ).loc main_arg10)) (m ((c.tc : Thread nD τ).loc main_arg11))))
          (m ((c.tc : Thread nD τ).loc main_arg12)))
        (sideBySide (gvals (m ((c.tc : Thread nD τ).loc main_arg7))
          (gsoft (gscores (m ((c.tc : Thread nD τ).loc main_arg5)) (m ((c.tc : Thread nD τ).loc main_arg6)))))) := rfl

end Cert.ReferenceIdeal.Attn

end
-- ==== Proof.RefValue.lean ====
/- The parts of the reference read at an index over the extended reals, from real numbers. -/
module

public import proofs.«01_k».proof.Proof.RefTerm
public import proofs.«01_k».proof.Proof.Reals
public import Idealize.ShloMosaic.Lib.Pointwise
public import Idealize.ShloMosaic.Lib.KernelVsHost

@[expose] public section

noncomputable section

namespace Cert.ReferenceIdeal.Attn

open Cert.ReferenceIdeal Cert.ReferenceIdeal.Gen
open Idealize.ShloMosaic Cert.Attn

/-! ## The parts at an index -/

theorem scores_apply (q : FVec Ideal S8x2048x4x64 .f32) (k : FVec Ideal S8x2304x4x64 .f32) (b : Fin 8) (h : Fin 4) (i : Fin 2048)
    (j : Fin 2304) :
    scores q k (ix4 b h i j) = (∑ x, q (ix4 b i h x) * k (ix4 b j h x)) * Ideal.ofBits .f32 1040187392#32 := by
  pointwise [scores]

theorem soft_apply (s : FVec Ideal S8x4x2048x2304 .f32) (b : Fin 8) (h : Fin 4) (i : Fin 2048) (j : Fin 2304) :
    soft s (ix4 b h i j) = Ideal.div (Ideal.exp (s (ix4 b h i j) - top s (ix3 b h i)))
      (∑ x, Ideal.exp (s (ix4 b h i x) - top s (ix3 b h i))) := by
  pointwise [soft, exps, total]

theorem lamR_apply (a b c d : FVec Ideal S64 .f32) :
    lamR a b c d ix0 = Ideal.exp (∑ x, a (ix1 x) * b (ix1 x)) - Ideal.exp (∑ x, c (ix1 x) * d (ix1 x))
      + Ideal.ofBits .f32 1045220557#32 := by
  pointwise [lamR]

theorem diffR_apply (v : FVec Ideal S8x2304x4x128 .f32) (s s2 : FVec Ideal S8x4x2048x2304 .f32) (l : FVec Ideal S_ .f32) (b : Fin 8)
    (h : Fin 4) (i : Fin 2048) (e : Fin 128) :
    diffR v s s2 l (ix4 b i h e) = ∑ x, v (ix4 b x h e) * (soft s (ix4 b h i x) - l ix0 * soft s2 (ix4 b h i x)) := by
  pointwise [diffR]

theorem normR_apply (d : FVec Ideal S8x2048x4x128 .f32) (g : FVec Ideal S128 .f32) (b : Fin 8) (h : Fin 4) (i : Fin 2048) (e : Fin 128) :
    normR d g (ix4 b h i e) = rmsOut (fun x => d (ix4 b i h x)) (g (ix1 e)) e := by
  pointwise [normR]
  rfl

theorem gscores_apply (q : FVec Ideal S8x2048x8x64 .f32) (k : FVec Ideal S8x2304x2x64 .f32) (b : Fin 8) (h : Fin 2) (g : Fin 4)
    (i : Fin 2048) (j : Fin 2304) :
    gscores q k (ix5 b h g i j) =
      (∑ x, k (ix4 b j h x) * q (ix4 b i ⟨h.1 * 4 + g.1, by omega⟩ x)) * Ideal.ofBits .f32 1040187392#32 := by
  pointwise [gscores]

theorem gsoft_apply (s : FVec Ideal S8x2x4x2048x2304 .f32) (b : Fin 8) (h : Fin 2) (g : Fin 4) (i : Fin 2048) (j : Fin 2304) :
    gsoft s (ix5 b h g i j) = Ideal.div (Ideal.exp (s (ix5 b h g i j) - gtop s (ix4 b h g i)))
      (∑ x, Ideal.exp (s (ix5 b h g i x) - gtop s (ix4 b h g i))) := by
  pointwise [gsoft, gexps, gtotal]

theorem gvals_apply (v : FVec Ideal S8x2304x2x64 .f32) (s : FVec Ideal S8x2x4x2048x2304 .f32) (b : Fin 8) (h : Fin 2) (g : Fin 4)
    (i : Fin 2048) (e : Fin 64) :
    gvals v s (ix5 b i h g e) = ∑ x, v (ix4 b x h e) * s (ix5 b h g i x) := by
  pointwise [gvals]

theorem sideBySide_apply (x : FVec Ideal S8x2048x2x4x64 .f32) (b : Fin 8) (g : Fin 4) (i : Fin 2048) (e : Fin 128) :
    sideBySide x (ix4 b g i e) = x (ix5 b i ⟨e.1 / 64, by omega⟩ g ⟨e.1 % 64, by omega⟩) := by
  pointwise [sideBySide]

theorem joined_lo (x y : FVec Ideal S8x4x2048x128 .f32) (b : Fin 8) (g : Fin 4) (i : Fin 2048) (e : Fin 128) :
    joined x y (ix4 b ⟨g.1, by omega⟩ i e) = x (ix4 b g i e) := by
  pointwise [joined]

theorem joined_hi (x y : FVec Ideal S8x4x2048x128 .f32) (b : Fin 8) (g : Fin 4) (i : Fin 2048) (e : Fin 128) :
    joined x y (ix4 b ⟨g.1 + 4, by omega⟩ i e) = y (ix4 b g i e) := by
  pointwise [joined]
  rw [dif_neg (by omega)]
  rfl

/-! ## Real numbers -/

theorem reduce_isReal {s t u : Shape} {a : Fin s.rank} (x : FVec Ideal s .f32) (h : s.ReducesTo [a] t) (hu : 0 < u.numel)
    (h' : s.Reduces [a] t) (hs : 0 < s.size a) (hx : ∀ i, IsReal (x i)) (j : t.Idx) :
    IsReal ((Host.reduce FloatOps.maximumf x (constant (F := Ideal) u .f32 0xFF800000#32) h hu : FVec Ideal t .f32) j) := by
  have e := (congrFun (hostReduce_maximumf_eq_multiReduction x 0xFF800000#32 h hu h' (.inl rfl) rfl) j).trans
    (Ideal.multiReduction_maximumf_single x 0xFF800000#32 h' (.inl rfl) rfl j)
  rw [e, Ideal.ofBits_def, neg_inf_f32]
  haveI : Nonempty (Fin (s.size a)) := ⟨⟨0, hs⟩⟩
  exact isReal_fold _ Finset.univ_nonempty _ fun i => hx _

theorem red4 : S8x4x2048x2304.Reduces [3] S8x4x2048 := by decide
theorem red5 : S8x2x4x2048x2304.Reduces [4] S8x2x4x2048 := by decide

/-- The greatest of real scores, from below every number, is a real number. -/
theorem greatest_isReal {s t u : Shape} {a : Fin s.rank} {dims : Fin u.rank → Fin t.rank} (x : FVec Ideal s .f32)
    (hb : u.BroadcastsInDim t dims) (h : s.ReducesTo [a] t) (hu : 0 < u.numel)
    (h' : s.Reduces [a] t) (hs : 0 < s.size a) (hx : ∀ i, IsReal (x i)) (j : t.Idx) :
    IsReal (maximumf (broadcastInDim t dims hb (constant (F := Ideal) u .f32 0xFF800000#32))
      (Host.reduce FloatOps.maximumf x (constant (F := Ideal) u .f32 0xFF800000#32) h hu) j) := by
  show IsReal (max (Ideal.ofBits .f32 0xFF800000#32) _)
  rw [neg_inf_f32, max_eq_right bot_le]
  exact reduce_isReal x h hu h' hs hx j

theorem top_isReal (s : FVec Ideal S8x4x2048x2304 .f32) (hs : ∀ i, IsReal (s i)) (j : S8x4x2048.Idx) : IsReal (top s j) := by
  unfold top
  exact greatest_isReal s _ _ _ red4 (by decide) hs j

theorem gtop_isReal (s : FVec Ideal S8x2x4x2048x2304 .f32) (hs : ∀ i, IsReal (s i)) (j : S8x2x4x2048.Idx) : IsReal (gtop s j) := by
  unfold gtop
  exact greatest_isReal s _ _ _ red5 (by decide) hs j

/-- A normalised weight, from real scores and a real shift. -/
theorem div_exp {n : ℕ} [NeZero n] (s : Fin n → ℝ) (t : ℝ) (j : Fin n) :
    Ideal.div (Ideal.exp ((s j : EReal) - (t : EReal))) (∑ x, Ideal.exp ((s x : EReal) - (t : EReal))) =
      ((Real.exp (s j - t) / ∑ x, Real.exp (s x - t) : ℝ) : EReal) := by
  simp only [← EReal.coe_sub, Ideal.exp_coe]
  rw [coe_sum, Ideal.div_coe (sum_exp_pos _).ne', ← EReal.coe_mul, mul_one_div]

theorem soft_real (s : FVec Ideal S8x4x2048x2304 .f32) (S : Fin 8 → Fin 4 → Fin 2048 → Fin 2304 → ℝ)
    (hs : ∀ b h i j, s (ix4 b h i j) = (S b h i j : EReal)) (b : Fin 8) (h : Fin 4) (i : Fin 2048) :
    ∃ t : ℝ, ∀ j, soft s (ix4 b h i j) = ((Real.exp (S b h i j - t) / ∑ x, Real.exp (S b h i x - t) : ℝ) : EReal) := by
  have hr : ∀ i, IsReal (s i) := fun i => ⟨S (i 0) (i 1) (i 2) (i 3), (congrArg s (eq_ix4 i)).trans (hs _ _ _ _)⟩
  obtain ⟨t, ht⟩ := top_isReal s hr (ix3 b h i)
  refine ⟨t, fun j => ?_⟩
  rw [soft_apply, ht]
  simp only [hs]
  exact div_exp (S b h i) t j

theorem gsoft_real (s : FVec Ideal S8x2x4x2048x2304 .f32) (S : Fin 8 → Fin 2 → Fin 4 → Fin 2048 → Fin 2304 → ℝ)
    (hs : ∀ b h g i j, s (ix5 b h g i j) = (S b h g i j : EReal)) (b : Fin 8) (h : Fin 2) (g : Fin 4) (i : Fin 2048) :
    ∃ t : ℝ, ∀ j, gsoft s (ix5 b h g i j) = ((Real.exp (S b h g i j - t) / ∑ x, Real.exp (S b h g i x - t) : ℝ) : EReal) := by
  have hr : ∀ i, IsReal (s i) := fun i => ⟨S (i 0) (i 1) (i 2) (i 3) (i 4), (congrArg s (eq_ix5 i)).trans (hs _ _ _ _ _)⟩
  obtain ⟨t, ht⟩ := gtop_isReal s hr (ix4 b h g i)
  refine ⟨t, fun j => ?_⟩
  rw [gsoft_apply, ht]
  simp only [hs]
  exact div_exp (S b h g i) t j

theorem scores_real (q : FVec Ideal S8x2048x4x64 .f32) (k : FVec Ideal S8x2304x4x64 .f32) (Q : S8x2048x4x64.Idx → ℝ)
    (K : S8x2304x4x64.Idx → ℝ) (hq : ∀ i, q i = (Q i : EReal)) (hk : ∀ i, k i = (K i : EReal)) (b : Fin 8) (h : Fin 4) (i : Fin 2048)
    (j : Fin 2304) :
    scores q k (ix4 b h i j) = ((dot8 (fun x => Q (ix4 b i h x)) (fun x => K (ix4 b j h x)) : ℝ) : EReal) := by
  rw [scores_apply, eighth]
  simp only [hq, hk]
  rw [coe_sum_mul, ← EReal.coe_mul]
  rfl

theorem gscores_real (q : FVec Ideal S8x2048x8x64 .f32) (k : FVec Ideal S8x2304x2x64 .f32) (Q : S8x2048x8x64.Idx → ℝ)
    (K : S8x2304x2x64.Idx → ℝ) (hq : ∀ i, q i = (Q i : EReal)) (hk : ∀ i, k i = (K i : EReal)) (b : Fin 8) (h : Fin 2) (g : Fin 4)
    (i : Fin 2048) (j : Fin 2304) :
    gscores q k (ix5 b h g i j) =
      ((dot8 (fun x => Q (ix4 b i ⟨h.1 * 4 + g.1, by omega⟩ x)) (fun x => K (ix4 b j h x)) : ℝ) : EReal) := by
  rw [gscores_apply, eighth]
  simp only [hq, hk]
  rw [coe_sum_mul, ← EReal.coe_mul]
  unfold dot8
  congr 2
  exact Finset.sum_congr rfl fun x _ => mul_comm _ _

/-- The difference of the two averages of the values. -/
theorem diffR_real (v : FVec Ideal S8x2304x4x128 .f32) (s s2 : FVec Ideal S8x4x2048x2304 .f32) (l : FVec Ideal S_ .f32)
    (V : S8x2304x4x128.Idx → ℝ) (S S2 : Fin 8 → Fin 4 → Fin 2048 → Fin 2304 → ℝ) (L : ℝ) (hv : ∀ i, v i = (V i : EReal))
    (hs : ∀ b h i j, s (ix4 b h i j) = (S b h i j : EReal)) (hs2 : ∀ b h i j, s2 (ix4 b h i j) = (S2 b h i j : EReal))
    (hl : l ix0 = (L : EReal)) (b : Fin 8) (h : Fin 4) (i : Fin 2048) (e : Fin 128) :
    diffR v s s2 l (ix4 b i h e) =
      ((wavg (S b h i) (fun k => V (ix4 b k h e)) - L * wavg (S2 b h i) (fun k => V (ix4 b k h e)) : ℝ) : EReal) := by
  obtain ⟨t, ht⟩ := soft_real s S hs b h i
  obtain ⟨t2, ht2⟩ := soft_real s2 S2 hs2 b h i
  rw [diffR_apply]
  simp only [ht, ht2, hv, hl, ← EReal.coe_mul, ← EReal.coe_sub]
  rw [coe_sum]
  refine EReal.coe_eq_coe_iff.2 ?_
  rw [← sum_softmax (S b h i) _ t, ← sum_softmax (S2 b h i) _ t2, Finset.mul_sum, ← Finset.sum_sub_distrib]
  exact Finset.sum_congr rfl fun k _ => by ring

theorem gvals_real (v : FVec Ideal S8x2304x2x64 .f32) (s : FVec Ideal S8x2x4x2048x2304 .f32)
    (V : S8x2304x2x64.Idx → ℝ) (S : Fin 8 → Fin 2 → Fin 4 → Fin 2048 → Fin 2304 → ℝ) (hv : ∀ i, v i = (V i : EReal))
    (hs : ∀ b h g i j, s (ix5 b h g i j) = (S b h g i j : EReal)) (b : Fin 8) (h : Fin 2) (g : Fin 4) (i : Fin 2048) (e : Fin 64) :
    gvals v (gsoft s) (ix5 b i h g e) = ((wavg (S b h g i) (fun k => V (ix4 b k h e)) : ℝ) : EReal) := by
  obtain ⟨t, ht⟩ := gsoft_real s S hs b h g i
  rw [gvals_apply]
  simp only [ht, hv]
  rw [coe_sum_mul, sum_softmax]

end Cert.ReferenceIdeal.Attn

end
-- ==== Proof.RefOut.lean ====
/- The reference's result, entry by entry. -/
module

public import proofs.«01_k».proof.Proof.RefValue
public import proofs.«01_k».proof.Proof.Result

@[expose] public section

noncomputable section

namespace Cert.ReferenceIdeal.Attn

open Cert.ReferenceIdeal Cert.ReferenceIdeal.Gen
open Idealize.ShloMosaic Cert.Attn

theorem ref_out {a0 a1 : FVec Ideal S8x2048x4x64 .f32} {a2 a3 : FVec Ideal S8x2304x4x64 .f32} {a4 : FVec Ideal S8x2304x4x128 .f32}
    {a5 : FVec Ideal S8x2048x8x64 .f32} {a6 a7 : FVec Ideal S8x2304x2x64 .f32} {l : FVec Ideal S_ .f32} (a12 : FVec Ideal S128 .f32)
    {R : Rs} {L : ℝ} (h0 : ∀ i, a0 i = (R.Q1 i : EReal)) (h1 : ∀ i, a1 i = (R.Q2 i : EReal)) (h2 : ∀ i, a2 i = (R.K1 i : EReal))
    (h3 : ∀ i, a3 i = (R.K2 i : EReal)) (h4 : ∀ i, a4 i = (R.W i : EReal)) (h5 : ∀ i, a5 i = (R.Q i : EReal))
    (h6 : ∀ i, a6 i = (R.K i : EReal)) (h7 : ∀ i, a7 i = (R.WB i : EReal)) (hl : l ix0 = (L : EReal)) (b u : Fin 8) (s : Fin 2048)
    (e : Fin 128) :
    joined (normR (diffR a4 (scores a0 a2) (scores a1 a3) l) a12) (sideBySide (gvals a7 (gsoft (gscores a5 a6)))) (ix4 b u s e)
      = outR R L a12 b u s e := by
  unfold outR
  by_cases hu : u.1 < 4
  · rw [dif_pos hu]
    refine (joined_lo _ _ b ⟨u, hu⟩ s e).trans ?_
    rw [normR_apply]
    unfold diffOut
    refine congrArg (fun d => rmsOut d (a12 (ix1 e)) e) (funext fun x => ?_)
    exact diffR_real a4 _ _ l R.W _ _ L h4 (scores_real a0 a2 R.Q1 R.K1 h0 h2) (scores_real a1 a3 R.Q2 R.K2 h1 h3) hl b ⟨u, hu⟩ s x
  · rw [dif_neg hu]
    have e4 : u = ⟨(u.1 - 4) + 4, by omega⟩ := Fin.ext (by show u.1 = u.1 - 4 + 4; omega)
    refine Eq.trans (congrArg (fun z => joined _ _ (ix4 b z s e)) e4) ((joined_hi _ _ b ⟨u.1 - 4, by omega⟩ s e).trans ?_)
    rw [sideBySide_apply]
    exact gvals_real a7 _ R.WB _ h7 (gscores_real a5 a6 R.Q R.K h5 h6) b _ ⟨u.1 - 4, by omega⟩ s _

end Cert.ReferenceIdeal.Attn

end
-- ==== Proof.Finite.lean ====
/- The precondition, read : the arrays hold real numbers. -/
module

public import proofs.«01_k».proof.Pre_finite
public import proofs.«01_k».proof.Proof.Reals
public import Idealize.ShloMosaic.Lib.ReduceAll
public import Idealize.ShloMosaic.Lib.Pointwise

@[expose] public section

noncomputable section

namespace Cert.Pre_finite

open Idealize.ShloMosaic Cert.Attn

variable [Facts]

theorem both {a b : IVec S_ 1} (h : andi a b ix0 = 1#1) : a ix0 = 1#1 ∧ b ix0 = 1#1 := by
  have h' : IntOp.andi (a ix0) (b ix0) = 1#1 := h
  revert h'
  generalize a ix0 = x
  generalize b ix0 = y
  revert x y
  decide

theorem inf_f32 : Ideal.ofBits .f32 0x7F800000#32 = ⊤ := by
  simp [Ideal.ofBits, Ideal.ieee]

/-- A number whose size is below infinity is real. -/
theorem real_of_abs (x : EReal) (h : FloatOps.cmpf (F := Ideal) (φ := .f32) .olt (FloatOps.absf (F := Ideal) (φ := .f32) x) (Ideal.ofBits .f32 0x7F800000#32) = 1#1) :
    IsReal x := by
  rw [inf_f32] at h
  induction x using EReal.rec with
  | bot => exact absurd h (by simp [Ideal.absf_def, Ideal.cmpf_def, Ideal.cmp])
  | top => exact absurd h (by simp [Ideal.absf_def, Ideal.cmpf_def, Ideal.cmp])
  | coe r => exact ⟨r, rfl⟩

theorem all_real {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ix0 = 1#1) (i : s.Idx) : IsReal (x i) := by
  haveI : Subsingleton S_.Idx := ⟨fun a b => funext fun k => k.elim0⟩
  exact real_of_abs _ (Host.reduce_andi_all _ _ hr hu ix0 h i)

theorem fn_real (a0 a1 : FVec Ideal S8x2048x4x64 .f32) (a2 a3 : FVec Ideal S8x2304x4x64 .f32) (a4 : FVec Ideal S8x2304x4x128 .f32)
    (a5 : FVec Ideal S8x2048x8x64 .f32) (a6 a7 : FVec Ideal S8x2304x2x64 .f32) (a8 a9 a10 a11 : FVec Ideal S64 .f32) (a12 a13 a14 a15 a16 a17)
    (h : fn (F := Ideal) a0 a1 a2 a3 a4 a5 a6 a7 a8 a9 a10 a11 a12 a13 a14 a15 a16 a17 = fun _ => 1#1) :
    (∀ i, IsReal (a0 i)) ∧ (∀ i, IsReal (a1 i)) ∧ (∀ i, IsReal (a2 i)) ∧ (∀ i, IsReal (a3 i)) ∧ (∀ i, IsReal (a4 i)) ∧
    (∀ i, IsReal (a5 i)) ∧ (∀ i, IsReal (a6 i)) ∧ (∀ i, IsReal (a7 i)) ∧ (∀ i, IsReal (a8 i)) ∧ (∀ i, IsReal (a9 i)) ∧
    (∀ i, IsReal (a10 i)) ∧ (∀ i, IsReal (a11 i)) := by
  have e := congrFun h ix0
  unfold fn fn_part1 fn_part2 fn_part3 at e
  obtain ⟨e, h11⟩ := both e
  obtain ⟨e, h10⟩ := both e
  obtain ⟨e, h9⟩ := both e
  obtain ⟨e, h8⟩ := both e
  obtain ⟨e, h7⟩ := both e
  obtain ⟨e, h6⟩ := both e
  obtain ⟨e, h5⟩ := both e
  obtain ⟨e, h4⟩ := both e
  obtain ⟨e, h3⟩ := both e
  obtain ⟨e, h2⟩ := both e
  obtain ⟨e, h1⟩ := both e
  obtain ⟨_, h0⟩ := both e
  exact ⟨all_real _ _ _ _ h0, all_real _ _ _ _ h1, all_real _ _ _ _ h2, all_real _ _ _ _ h3, all_real _ _ _ _ h4, all_real _ _ _ _ h5,
    all_real _ _ _ _ h6, all_real _ _ _ _ h7, all_real _ _ _ _ h8, all_real _ _ _ _ h9, all_real _ _ _ _ h10, all_real _ _ _ _ h11⟩

end Cert.Pre_finite

end
-- ==== Proof.Pair.lean ====
/- On finite arguments the kernel and the reference end with the same result, entry by entry. -/
module

public import proofs.«01_k».proof.Defs
public import proofs.«01_k».proof.Proof.KernelOut
public import proofs.«01_k».proof.Proof.RefOut
public import proofs.«01_k».proof.Proof.Finite
public import proofs.«01_k».proof.Proof.Frames
public import proofs.«01_k».proof.Proof.Gen.ReferenceIdeal.Run
public import proofs.«01_k».proof.Proof.Gen.Pre_finite
public import Idealize.ShloMosaic.Lib.Claim

@[expose] public section

noncomputable section

namespace Cert.Proof

open Idealize.ShloMosaic Idealize.ShloMosaic.TcCoe Idealize.SL.Sem Cert.Attn
open Cert.KernelIdeal Cert.KernelIdeal.Attn

/-- The weight of the second map, from the four vectors it is made of, is the same number in the reference. -/
theorem lamR_lamE (a b c d : FVec Ideal S64 .f32) :
    Cert.ReferenceIdeal.Attn.lamR a b c d ix0 =
      lamE (fun x => a (ix1 x)) (fun x => b (ix1 x)) (fun x => c (ix1 x)) (fun x => d (ix1 x)) := by
  rw [Cert.ReferenceIdeal.Attn.lamR_apply]
  rfl

/-- Arguments whose entries are all real numbers hold some family of real arrays, and the weight is real. -/
theorem reals (m : (ℓ : Loc nD τ sig) → Buf (Elt Ideal) ℓ) (h : Cert.Pre_KernelIdeal_finite m) (c : Dev nD) :
    ∃ (R : Rs) (L : ℝ), HoldsR m c R ∧
      lamE (fun x => (m ((c.tc : Thread nD τ).loc main_arg8) : FVec Ideal S64 .f32) (ix1 x))
        (fun x => (m ((c.tc : Thread nD τ).loc main_arg9) : FVec Ideal S64 .f32) (ix1 x))
        (fun x => (m ((c.tc : Thread nD τ).loc main_arg10) : FVec Ideal S64 .f32) (ix1 x))
        (fun x => (m ((c.tc : Thread nD τ).loc main_arg11) : FVec Ideal S64 .f32) (ix1 x)) = (L : EReal) := by
  obtain ⟨h0, h1, h2, h3, h4, h5, h6, h7, h8, h9, h10, h11⟩ := Cert.Pre_finite.fn_real _ _ _ _ _ _ _ _ _ _ _ _ _ _ _ _ _ _ (h c)
  choose r0 e0 using h0
  choose r1 e1 using h1
  choose r2 e2 using h2
  choose r3 e3 using h3
  choose r4 e4 using h4
  choose r5 e5 using h5
  choose r6 e6 using h6
  choose r7 e7 using h7
  obtain ⟨L, hL⟩ := lamE_real _ _ _ _ (fun x => h8 (ix1 x)) (fun x => h9 (ix1 x)) (fun x => h10 (ix1 x)) (fun x => h11 (ix1 x))
  exact ⟨⟨r0, r1, r2, r3, r4, r5, r6, r7⟩, L, ⟨e0, e1, e2, e3, e4, e5, e6, e7⟩, hL⟩

theorem algebraic : Cert.algebraic_KernelIdeal_ReferenceIdeal_pre_finite := by
  intro m g m' g' hpre hagree
  choose R L H hL using reals m hpre
  refine ⟨fun c => (fun i : S8x8x2048x128.Idx => outR (R c) (L c) (m ((c.tc : Thread nD τ).loc main_arg12)) (i 0) (i 1) (i 2) (i 3)), ?_, ?_⟩
  · refine θ_run_mono (θ_run_and (Cert.KernelIdeal.Attn.frame (F := Ideal) m g) (run_main m g)) fun r h c => ⟨?_, h.1.1 c⟩
    exact ((h.2.1 c).1 10).trans (kernel_out (H c) (hL c))
  · refine θ_run_mono (Cert.ReferenceIdeal.Value.run (F := Ideal) m' g') fun r h c => ⟨?_, (h c).2⟩
    refine (h c).1.trans ((Cert.ReferenceIdeal.Attn.res_eq m' c).trans (funext fun i => ?_))
    obtain ⟨a0, a1, a2, a3, a4, a5, a6, a7, a8, a9, a10, a11, a12, _⟩ := hagree c
    rw [a0, a1, a2, a3, a4, a5, a6, a7, a8, a9, a10, a11, a12]
    refine (congrArg _ (eq_ix4 i)).trans ?_
    exact Cert.ReferenceIdeal.Attn.ref_out _ (H c).h0 (H c).h1 (H c).h2 (H c).h3 (H c).h4 (H c).h5 (H c).h6 (H c).h7
      ((lamR_lamE _ _ _ _).trans (hL c)) (i 0) (i 1) (i 2) (i 3)

end Cert.Proof

end
-- ==== Proof.Ffn2Mix.lean ====
/- The gated sum that the last call stores into its scratch a few rows at a time, and the slabs that it reads back. -/
module

public import proofs.«01_k».proof.Proof.Gen.Kernel2Ideal.Frame
public import Idealize.ShloMosaic.Lib.Pipeline.StridedRows
public import Idealize.ShloMosaic.Lib.WholeRead
public import Idealize.ShloMosaic.Lib.Pointwise

@[expose] public section

noncomputable section

namespace Cert.Kernel2Ideal.Ffn

open Cert.Kernel2Ideal Cert.Kernel2Ideal.Gen Cert.Kernel2Ideal.Facts Idealize.ShloMosaic Idealize.SL.Sem

theorem cols (u : Fin 8) : S1x1024.Slices ![0, 128 * u.1] S1x128 := by
  revert u; decide

theorem part_inb (u : Fin 8) (r : Fin 4) : ∀ a, (![0, r.1, 0, 128 * u.1] : Fin 4 → Nat) a + S1x1x256x128.size a ≤ S1x4x256x1024.size a := by
  revert u r; decide

section
variable {F : FTy → Type} [FloatOps F]

/-- Every fourth token, 128 columns of it: the tokens plus the gate times the mixing's output. -/
def mixCols (u : Fin 8) (g : FVec F S1x1024 .f32) (x : Vec F S1x1x256x128 .f32) (y : Vec F S1x1x256x128 .bf16) : FVec F S1x256x128 .f32 :=
  shapeCast S1x256x128 (addf (shapeCast S256x128 x shapeCasts_S1x1x256x128_S256x128)
    (mulf (broadcastTo S256x128 (extractStridedSlice S1x128 ![0, 128 * u.1] g (cols u)) broadcasts_S1x128_S256x128)
      (extf .f32 (shapeCast S256x128 y shapeCasts_S1x1x256x128_S256x128) bitsLt_bf16_f32))) shapeCasts_S256x128_S1x256x128

/-- Part `r` of the tokens, 128 columns of it. -/
def partRect (u : Fin 8) (r : Fin 4) : Rect S1x4x256x1024 :=
  Rect.unit ![0, r.1, 0, 128 * u.1] S1x1x256x128.size (part_inb u r)

variable (arg2 : Memref sig .tc .vmem S1x4x256x1024 .f32) (harg2 : arg2.IsWhole) (arg3 : Memref sig .tc .vmem S1x4x256x1024 .bf16)
  (harg3 : arg3.IsWhole) (arg4 : Memref sig .tc .vmem S1x6x1024 .f32) (harg4 : arg4.IsWhole)
  (arg10 : Memref sig .tc .vmem S8x1024x128 .f32) (x0 : Vec F S1x4x256x1024 .f32) (x1 : Vec F S1x4x256x1024 .bf16)
  (x2 : Vec F S1x6x1024 .f32)

def gateRow : FVec F S1x1024 .f32 :=
  k0_pay2 (View.readAt (Elt F) arg4.view (Rect.unit ![0, 2, 0] S1x1x1024.size inb_S1x6x1024_S1x1x1024_0_2_0 : Rect S1x6x1024).toLoadRect (harg4.unread x2))

/-- One store. -/
def store (u : Fin 8) (r : Fin 4) : View.Piece (Elt F) (StridedRows.Plane 8 256 4 128) .f32 :=
  ⟨StridedRows.rowRect (C := 8) (N := 256) (L := 128) (le_refl 4) u r, mixCols u (gateRow arg4 harg4 x2)
    (View.readAt (Elt F) arg2.view (partRect u r).toLoadRect (harg2.unread x0))
    (View.readAt (Elt F) arg3.view (partRect u r).toLoadRect (harg3.unread x1))⟩

/-- The first `n` stores, the latest first. -/
def stores : (n : Nat) → n ≤ 32 → List (View.Piece (Elt F) (StridedRows.Plane 8 256 4 128) .f32)
  | 0, _ => []
  | n + 1, h => store arg2 harg2 arg3 harg3 arg4 harg4 x0 x1 x2 ⟨n / 4, by omega⟩ ⟨n % 4, by omega⟩ :: stores n (by omega)

theorem stored_eq (c : Dev nD) : kernelRun0_A.sl.HS0_32 c arg2 harg2 arg3 harg3 arg4 harg4 x0 x1 x2
    = stores arg2 harg2 arg3 harg3 arg4 harg4 x0 x1 x2 32 (le_refl 32) := rfl

theorem mem_stores (n : Nat) (h : n ≤ 32) (k : Nat) (hk : k < n) :
    store arg2 harg2 arg3 harg3 arg4 harg4 x0 x1 x2 ⟨k / 4, by omega⟩ ⟨k % 4, by omega⟩ ∈ stores arg2 harg2 arg3 harg3 arg4 harg4 x0 x1 x2 n h := by
  induction n with
  | zero => omega
  | succ n ih =>
    rcases Nat.lt_succ_iff_lt_or_eq.1 hk with hk | rfl
    · exact List.mem_cons_of_mem _ (ih (by omega) hk)
    · exact List.mem_cons_self

theorem of_mem_stores (n : Nat) (h : n ≤ 32) (p) (hp : p ∈ stores arg2 harg2 arg3 harg3 arg4 harg4 x0 x1 x2 n h) :
    ∃ u r, p = store arg2 harg2 arg3 harg3 arg4 harg4 x0 x1 x2 u r := by
  induction n with
  | zero => simp [stores] at hp
  | succ n ih =>
    rcases List.mem_cons.1 hp with rfl | hp
    · exact ⟨_, _, rfl⟩
    · exact ih _ hp

end

/-! ## What the slabs hold, over the extended reals -/

variable (arg2 : Memref sig .tc .vmem S1x4x256x1024 .f32) (harg2 : arg2.IsWhole) (arg3 : Memref sig .tc .vmem S1x4x256x1024 .bf16)
  (harg3 : arg3.IsWhole) (arg4 : Memref sig .tc .vmem S1x6x1024 .f32) (harg4 : arg4.IsWhole)
  (arg10 : Memref sig .tc .vmem S8x1024x128 .f32) (x0 : Vec Ideal S1x4x256x1024 .f32) (x1 : Vec Ideal S1x4x256x1024 .bf16)
  (x2 : Vec Ideal S1x6x1024 .f32)

/-- Part `r`, row `n`, column `e` of the gated sum. -/
def mixAt (r : Fin 4) (n : Fin 256) (e : Fin 1024) : EReal :=
  x0 (ix4 0 r n e) + x2 (ix3 0 2 e) * x1 (ix4 0 r n e)

def lane (u : Fin 8) (l : Fin 128) : Fin 1024 := ⟨128 * u + l, by omega⟩

theorem part_idx (u : Fin 8) (r : Fin 4) (n : Fin 256) (l : Fin 128) :
    (partRect u r).toLoadRect.idx (ix4 0 0 n l) = ix4 0 r n (lane u l) := by
  funext a
  apply Fin.ext
  fin_cases a <;> simp [partRect, Rect.unit, LoadRect.idx, lane]

theorem gate_apply (e : Fin 1024) : gateRow arg4 harg4 x2 (ix2 0 e) = x2 (ix3 0 2 e) := by
  pointwise [gateRow, k0_pay2]
  rw [harg4.readAt_unread]
  congr 1
  funext a
  apply Fin.ext
  fin_cases a <;> simp [Rect.unit, LoadRect.idx]

theorem mixCols_apply (u : Fin 8) (g : FVec Ideal S1x1024 .f32) (x : Vec Ideal S1x1x256x128 .f32) (y : Vec Ideal S1x1x256x128 .bf16)
    (n : Fin 256) (l : Fin 128) : mixCols u g x y (ix3 0 n l) = x (ix4 0 0 n l) + g (ix2 0 (lane u l)) * y (ix4 0 0 n l) := by
  pointwise [mixCols]
  rfl

theorem store_apply (u : Fin 8) (r : Fin 4) (x : (StridedRows.Row 256 128).Idx) :
    (store arg2 harg2 arg3 harg3 arg4 harg4 x0 x1 x2 u r).2 x = mixAt x0 x1 x2 r (x 1) (lane u (x 2)) := by
  have hx : x = ix3 0 (x 1) (x 2) := by
    funext a
    fin_cases a
    · exact Subsingleton.elim (α := Fin 1) _ _
    · rfl
    · rfl
  rw [hx]
  refine (mixCols_apply u _ _ _ (x 1) (x 2)).trans ?_
  have e0 := (harg2.readAt_unread x0 (partRect u r).toLoadRect (ix4 0 0 (x 1) (x 2))).trans (congrArg x0 (part_idx u r (x 1) (x 2)))
  have e1 := (harg3.readAt_unread x1 (partRect u r).toLoadRect (ix4 0 0 (x 1) (x 2))).trans (congrArg x1 (part_idx u r (x 1) (x 2)))
  exact congrArg₂ (fun a b : EReal => a + b) e0 (congrArg₂ (fun a b : EReal => a * b) (gate_apply arg4 harg4 x2 _) e1)

theorem mem_store (u : Fin 8) (r : Fin 4) (n : Fin 256) (y : (StridedRows.Plane 8 256 4 128).Idx)
    (h0 : (y 0).1 = u.1) (h1 : (y 1).1 = r.1 + 4 * n.1) :
    y ∈ (store arg2 harg2 arg3 harg3 arg4 harg4 x0 x1 x2 u r).1.set := by
  rw [LoadRect.mem_set]
  intro a
  match a with
  | ⟨0, _⟩ => exact ⟨0, Nat.one_pos, show (y 0).1 = u.1 + 1 * 0 by omega⟩
  | ⟨1, _⟩ => exact ⟨n.1, n.2, show (y 1).1 = r.1 + 4 * n.1 from h1⟩
  | ⟨2, _⟩ => exact ⟨(y 2).1, (y 2).2, show (y 2).1 = 0 + 1 * (y 2).1 by omega⟩

def plane (u : Fin 8) (r : Fin 4) (n : Fin 256) (l : Fin 128) : Elt Ideal .f32 := mixAt x0 x1 x2 r n (lane u l)

/-- The scratch once every store is made. -/
theorem scratch (u : Fin 8) (k : Fin 1024) (l : Fin 128) :
    View.canon (stores arg2 harg2 arg3 harg3 arg4 harg4 x0 x1 x2 32 (le_refl 32)) (ix3 u k l)
      = mixAt x0 x1 x2 ⟨k.1 % 4, by omega⟩ ⟨k.1 / 4, by omega⟩ (lane u l) := by
  rw [View.canon_apply_of_pieces (StridedRows.planeValue (Val := Elt Ideal) (e := .f32) (plane x0 x1 x2))
    (stores arg2 harg2 arg3 harg3 arg4 harg4 x0 x1 x2 32 (le_refl 32)) (fun p hp y => by
      obtain ⟨u', r, rfl⟩ := of_mem_stores _ _ _ _ _ _ _ _ _ _ _ p hp
      exact StridedRows.rowRect_payload_eq_planeValue (Val := Elt Ideal) (e := .f32) (plane x0 x1 x2) (le_refl 4) u' r _
        (store_apply arg2 harg2 arg3 harg3 arg4 harg4 x0 x1 x2 u' r) y)]
  · unfold StridedRows.planeValue
    exact dif_pos (show k.1 % 4 < 4 ∧ k.1 / 4 < 256 by omega)
  · refine ⟨_, mem_stores arg2 harg2 arg3 harg3 arg4 harg4 x0 x1 x2 32 (le_refl 32) (4 * u.1 + k.1 % 4) (by omega), ?_⟩
    refine mem_store _ _ _ _ _ _ _ _ _ _ _ ⟨k.1 / 4, by omega⟩ _ ?_ ?_
    · show u.1 = (4 * u.1 + k.1 % 4) / 4
      omega
    · show k.1 = (4 * u.1 + k.1 % 4) % 4 + 4 * (k.1 / 4)
      omega

/-- A slab, read back. -/
theorem slab (u : Fin 8) (inb : ∀ a, (![u.1, 0, 0] : Fin 3 → Nat) a + S1x1024x128.size a ≤ S8x1024x128.size a) (k : Fin 1024) (l : Fin 128) :
    arg10.view.readCov (stores arg2 harg2 arg3 harg3 arg4 harg4 x0 x1 x2 32 (le_refl 32))
      (Rect.unit ![u.1, 0, 0] S1x1024x128.size inb : Rect S8x1024x128).toLoadRect (ix3 0 k l)
    = mixAt x0 x1 x2 ⟨k.1 % 4, by omega⟩ ⟨k.1 / 4, by omega⟩ (lane u l) := by
  rw [View.readCov_eq_canon']
  refine Eq.trans ?_ (scratch arg2 harg2 arg3 harg3 arg4 harg4 x0 x1 x2 u k l)
  refine congrArg _ ?_
  funext a
  apply Fin.ext
  fin_cases a <;> simp [Rect.unit, LoadRect.idx]

end Cert.Kernel2Ideal.Ffn

end
-- ==== Proof.FfnRow.lean ====
/- The gated feed-forward layer on one row, over the extended reals: the row over its root mean square, modulated, the two
   products with the gate between them, and the residual. -/
module

public import Idealize.ShloMosaic.PureOps.Ideal

@[expose] public section

noncomputable section

namespace Cert.Ffn

open Idealize.ShloMosaic

/-- A row over its root mean square. -/
def rowNorm (x : Fin 1024 → EReal) (e : Fin 1024) : EReal :=
  x e * Ideal.rsqrt (Ideal.div (∑ k, x k * x k) (Ideal.ofBits .f32 0x44800000#32) + Ideal.ofBits .f32 0x358637BD#32)

/-- The gate: the first half of the row through `t / (1 + exp (-t))`, times the second half. -/
def gated (f : Fin 5632 → EReal) (n : Fin 2816) : EReal :=
  f ⟨n, by omega⟩ * Ideal.logistic (f ⟨n, by omega⟩) * f ⟨2816 + n, by omega⟩

/-- The layer on a row `x`, with the modulated gain `w` of the norm, the shift `h`, the gate `t` of the residual, and
    the two weights. -/
def row (h w t : Fin 1024 → EReal) (U : Fin 1024 → Fin 5632 → EReal) (D : Fin 2816 → Fin 1024 → EReal) (x : Fin 1024 → EReal)
    (e : Fin 1024) : EReal :=
  x e + t e * ∑ n, gated (fun k => ∑ l, (rowNorm x l * w l + h l) * U l k) n * D n e

end Cert.Ffn

end
-- ==== Proof.FfnBlock.lean ====
/- The feed-forward layer on 256 tokens, as the last two calls compute it, read at an index over the extended reals. -/
module

public import proofs.«01_k».proof.Proof.Gen.Kernel2Ideal.Skeleton
public import proofs.«01_k».proof.Proof.FfnRow
public import Idealize.ShloMosaic.Lib.Pointwise

@[expose] public section

noncomputable section

namespace Cert.Ffn

open Cert.Kernel2Ideal Cert.Kernel2Ideal.Gen Cert.Kernel2Ideal.Facts Idealize.ShloMosaic

section
variable {F : FTy → Type} [FloatOps F]

/-- The rows over their root mean square, with the modulated gain and the shift. -/
def blockNorm (h w : FVec F S1x1024 .f32) (x : FVec F S256x1024 .f32) : FVec F S256x1024 .f32 :=
  addf (mulf (mulf x (broadcastTo S256x1024 (rsqrt (addf (divf (shapeCast S256x1
      (multiReduction .add [1] S256 (mulf x x) 0x00000000#32 reduces_S256x1024_S256 (.inl rfl) rfl) shapeCasts_S256_S256x1)
      (broadcast S256x1 (Scalar.ofBits .f32 0x44800000#32))) (broadcast S256x1 (Scalar.ofBits .f32 0x358637BD#32))))
    broadcasts_S256x1_S256x1024)) (broadcastTo S256x1024 w broadcasts_S1x1024_S256x1024)) (broadcastTo S256x1024 h broadcasts_S1x1024_S256x1024)

def blockUp (x : FVec F S256x1024 .f32) (U : Vec F S1024x5632 .bf16) : FVec F S256x5632 .f32 :=
  matmul dot_S256x1024_S1024x5632_S256x5632_1_0_0_1_n_n none (truncf .bf16 x bitsLt_bf16_f32)
    (shapeCast S1024x5632 U shapeCasts_S1024x5632_S1024x5632) (constant S256x5632 .f32 0x00000000#32)

def blockAct (f : FVec F S256x5632 .f32) : FVec F S256x2816 .f32 :=
  mulf (mulf (extractStridedSlice S256x2816 ![0, 0] f slices_S256x5632_o0_0_S256x2816)
    (logistic (extractStridedSlice S256x2816 ![0, 0] f slices_S256x5632_o0_0_S256x2816)))
    (extractStridedSlice S256x2816 ![0, 2816] f slices_S256x5632_o0_2816_S256x2816)

def blockDown (a : FVec F S256x2816 .f32) (D : Vec F S2816x1024 .bf16) : FVec F S256x1024 .f32 :=
  matmul dot_S256x2816_S2816x1024_S256x1024_1_0_0_1_n_n none (truncf .bf16 a bitsLt_bf16_f32)
    (shapeCast S2816x1024 D shapeCasts_S2816x1024_S2816x1024) (constant S256x1024 .f32 0x00000000#32)

/-- The layer on 256 tokens. -/
def block (h w t : FVec F S1x1024 .f32) (U : Vec F S1024x5632 .bf16) (D : Vec F S2816x1024 .bf16) (x : FVec F S256x1024 .f32) :
    FVec F S256x1024 .f32 :=
  addf x (mulf (broadcastTo S256x1024 t broadcasts_S1x1024_S256x1024) (blockDown (blockAct (blockUp (blockNorm h w x) U)) D))

theorem block_eq (h w t : FVec F S1x1024 .f32) (x : FVec F S256x1024 .f32) (U : Vec F S1024x5632 .bf16) (D : Vec F S2816x1024 .bf16) :
    k0_pay47 h w t x U D = block h w t U D x := rfl

/-- A norm of 1024 rows with its weight. -/
def blockOut (x : FVec F S1024x1024 .f32) (g : Vec F S1x1024 .f32) : FVec F S1024x1024 .f32 :=
  mulf (mulf x (broadcastTo S1024x1024 (rsqrt (addf (divf (shapeCast S1024x1
      (multiReduction .add [1] S1024 (mulf x x) 0x00000000#32 reduces_S1024x1024_S1024 (.inl rfl) rfl) shapeCasts_S1024_S1024x1)
      (broadcast S1024x1 (Scalar.ofBits .f32 0x44800000#32))) (broadcast S1024x1 (Scalar.ofBits .f32 0x358637BD#32))))
    broadcasts_S1024x1_S1024x1024)) (broadcastTo S1024x1024 (shapeCast S1x1024 g shapeCasts_S1x1024_S1x1024) broadcasts_S1x1024_S1024x1024)

/-- The layer on 1024 tokens, 256 at a time. -/
def blocks (h w t : FVec F S1x1024 .f32) (U : Vec F S1024x5632 .bf16) (D : Vec F S2816x1024 .bf16) (x : FVec F S1024x1024 .f32) :
    FVec F S1024x1024 .f32 :=
  concatenate S1024x1024 0
    [⟨S256x1024, block h w t U D (extractStridedSlice S256x1024 ![0, 0] x slices_S1024x1024_o0_0_S256x1024)⟩,
     ⟨S256x1024, block h w t U D (extractStridedSlice S256x1024 ![256, 0] x slices_S1024x1024_o256_0_S256x1024)⟩,
     ⟨S256x1024, block h w t U D (extractStridedSlice S256x1024 ![512, 0] x slices_S1024x1024_o512_0_S256x1024)⟩,
     ⟨S256x1024, block h w t U D (extractStridedSlice S256x1024 ![768, 0] x slices_S1024x1024_o768_0_S256x1024)⟩]
    concatenates_S256x1024_S256x1024_S256x1024_S256x1024_S1024x1024_d0

end

/-! ## At an index -/

variable (h w t : FVec Ideal S1x1024 .f32) (U : Vec Ideal S1024x5632 .bf16) (D : Vec Ideal S2816x1024 .bf16)

theorem blockNorm_apply (x : FVec Ideal S256x1024 .f32) (s : Fin 256) (e : Fin 1024) :
    blockNorm h w x (ix2 s e) = rowNorm (fun k => x (ix2 s k)) e * w (ix2 0 e) + h (ix2 0 e) := by
  pointwise [blockNorm]
  rfl

theorem blockUp_apply (x : FVec Ideal S256x1024 .f32) (s : Fin 256) (n : Fin 5632) :
    blockUp x U (ix2 s n) = ∑ l, x (ix2 s l) * U (ix2 l n) := by
  pointwise [blockUp]

theorem blockAct_apply (f : FVec Ideal S256x5632 .f32) (s : Fin 256) (n : Fin 2816) :
    blockAct f (ix2 s n) = gated (fun k => f (ix2 s k)) n := by
  pointwise [blockAct]
  rfl

theorem blockDown_apply (a : FVec Ideal S256x2816 .f32) (s : Fin 256) (e : Fin 1024) :
    blockDown a D (ix2 s e) = ∑ n, a (ix2 s n) * D (ix2 n e) := by
  pointwise [blockDown]

theorem block_apply (x : FVec Ideal S256x1024 .f32) (s : Fin 256) (e : Fin 1024) : block h w t U D x (ix2 s e)
    = row (fun l => h (ix2 0 l)) (fun l => w (ix2 0 l)) (fun l => t (ix2 0 l)) (fun l n => U (ix2 l n)) (fun n l => D (ix2 n l))
      (fun k => x (ix2 s k)) e := by
  have h1 : block h w t U D x (ix2 s e) = x (ix2 s e) + t (ix2 0 e) * blockDown (blockAct (blockUp (blockNorm h w x) U)) D (ix2 s e) := by
    pointwise [block]
  rw [h1, blockDown_apply]
  simp only [blockAct_apply, blockUp_apply, blockNorm_apply]
  rfl

theorem blockOut_apply (x : FVec Ideal S1024x1024 .f32) (g : Vec Ideal S1x1024 .f32) (s e : Fin 1024) :
    blockOut x g (ix2 s e) = rowNorm (fun k => x (ix2 s k)) e * g (ix2 0 e) := by
  pointwise [blockOut]
  rfl

theorem blocks_apply (x : FVec Ideal S1024x1024 .f32) (s e : Fin 1024) : blocks h w t U D x (ix2 s e)
    = row (fun l => h (ix2 0 l)) (fun l => w (ix2 0 l)) (fun l => t (ix2 0 l)) (fun l n => U (ix2 l n)) (fun n l => D (ix2 n l))
      (fun k => x (ix2 s k)) e := by
  have key : ∀ (o : Nat) (ho : S1024x1024.Slices ![o, 0] S256x1024) (s' : Fin 256) (hs : s.1 = o + s'.1),
      block h w t U D (extractStridedSlice S256x1024 ![o, 0] x ho) (ix2 s' e)
      = row (fun l => h (ix2 0 l)) (fun l => w (ix2 0 l)) (fun l => t (ix2 0 l)) (fun l n => U (ix2 l n)) (fun n l => D (ix2 n l))
      (fun k => x (ix2 s k)) e := by
    intro o ho s' hs
    rw [block_apply]
    congr 1
    funext k
    refine congrArg x ?_
    funext a
    apply Fin.ext
    fin_cases a
    · show o + s'.1 = s.1
      omega
    · show 0 + k.1 = k.1
      omega
  pointwise [blocks]
  split
  · next h1 => exact key 0 _ ⟨s.1, h1⟩ (by show s.1 = 0 + s.1; omega)
  split
  · next h2 => exact key 256 _ ⟨s.1 - 256, h2⟩ (by show s.1 = 256 + (s.1 - 256); omega)
  split
  · next h3 => exact key 512 _ ⟨s.1 - 256 - 256, h3⟩ (by show s.1 = 512 + (s.1 - 256 - 256); omega)
  · exact key 768 _ ⟨s.1 - 256 - 256 - 256, by omega⟩ (by show s.1 = 768 + (s.1 - 256 - 256 - 256); omega)

end Cert.Ffn

end
-- ==== Proof.Ffn2Body.lean ====
/- What the last call leaves in the block of its result. -/
module

public import proofs.«01_k».proof.Proof.Ffn2Mix
public import proofs.«01_k».proof.Proof.FfnBlock
public import Idealize.ShloMosaic.Lib.Pipeline.ValueKit

@[expose] public section

noncomputable section

namespace Cert.Kernel2Ideal.Ffn

open Cert.Kernel2Ideal Cert.Kernel2Ideal.Gen Cert.Kernel2Ideal.Facts Idealize.ShloMosaic Idealize.SL.Sem Cert.Ffn

/-- The slabs side by side. -/
theorem wide_apply (s0 s1 s2 s3 s4 s5 s6 s7 : Vec Ideal S1x1024x128 .f32) (f : Fin 1024 → Fin 1024 → EReal)
    (h0 : ∀ k l, s0 (ix3 0 k l) = f k (lane 0 l)) (h1 : ∀ k l, s1 (ix3 0 k l) = f k (lane 1 l))
    (h2 : ∀ k l, s2 (ix3 0 k l) = f k (lane 2 l)) (h3 : ∀ k l, s3 (ix3 0 k l) = f k (lane 3 l))
    (h4 : ∀ k l, s4 (ix3 0 k l) = f k (lane 4 l)) (h5 : ∀ k l, s5 (ix3 0 k l) = f k (lane 5 l))
    (h6 : ∀ k l, s6 (ix3 0 k l) = f k (lane 6 l)) (h7 : ∀ k l, s7 (ix3 0 k l) = f k (lane 7 l)) (k e : Fin 1024) :
    k0_pay42 (k0_pay41 s0) s1 s2 s3 s4 s5 s6 s7 (ix2 k e) = f k e := by
  pointwise [k0_pay42, k0_pay41]
  simp only [h0, h1, h2, h3, h4, h5, h6, h7]
  split_ifs <;> exact congrArg (f k) (Fin.ext (by simp [lane]; try omega))

variable (c : Dev nD) (i : grid0.Coords)
  (arg2 : Memref sig .tc .vmem S1x4x256x1024 .f32) (harg2 : arg2.IsWhole) (arg3 : Memref sig .tc .vmem S1x4x256x1024
  .bf16) (harg3 : arg3.IsWhole) (arg4 : Memref sig .tc .vmem S1x6x1024 .f32) (harg4 : arg4.IsWhole) (arg5 : Memref sig .tc
  .vmem S1x1024 .f32) (harg5 : arg5.IsWhole) (arg6 : Memref sig .tc .vmem S1024x5632 .bf16) (harg6 : arg6.IsWhole) (arg7 :
  Memref sig .tc .vmem S2816x1024 .bf16) (harg7 : arg7.IsWhole) (arg8 : Memref sig .tc .vmem S1x1024 .f32) (harg8 :
  arg8.IsWhole) (arg9 : Memref sig .tc .vmem S1x1024x1024 .f32) (harg9 : arg9.IsWhole) (arg10 : Memref sig .tc .vmem
  S8x1024x128 .f32) (harg10 : arg10.IsWhole)

section
variable {F : FTy → Type} [FloatOps F]
variable (x0 : Vec F S1x4x256x1024 .f32) (x1 : Vec F S1x4x256x1024 .bf16) (x2 : Vec F S1x6x1024 .f32) (x3 : Vec F S1x1024 .f32)
  (x4 : Vec F S1024x5632 .bf16) (x5 : Vec F S2816x1024 .bf16) (x6 : Vec F S1x1024 .f32)

/-- A row of the modulation. -/
def modRow (o : Fin 6) : Vec F S1x1x1024 .f32 := fun j => x2 (ix3 0 o (j 2))

theorem mod_read (o : Fin 6) (inb : ∀ a, (![0, o.1, 0] : Fin 3 → Nat) a + S1x1x1024.size a ≤ S1x6x1024.size a) :
    View.readAt (Elt F) arg4.view (Rect.unit ![0, o.1, 0] S1x1x1024.size inb : Rect S1x6x1024).toLoadRect (harg4.unread x2) = modRow x2 o := by
  funext j
  refine (harg4.readAt_unread x2 _ j).trans (congrArg x2 ?_)
  funext a
  have h0 : (j 0).1 < 1 := (j 0).isLt
  have h1 : (j 1).1 < 1 := (j 1).isLt
  apply Fin.ext
  match a with
  | ⟨0, _⟩ => show 0 + 1 * (j 0).1 = 0; omega
  | ⟨1, _⟩ => show o.1 + 1 * (j 1).1 = o.1; omega
  | ⟨2, _⟩ => show 0 + 1 * (j 2).1 = (j 2).1; omega

theorem whole_read {s : Shape} {e : EltTy} (a : Memref sig .tc .vmem s e) (h : a.IsWhole) (x : Vec F s e) (off : Fin s.rank → Nat)
    (ho : ∀ d, off d = 0) (inb : ∀ d, off d + s.size d ≤ s.size d) :
    View.readAt (Elt F) a.view (Rect.unit off s.size inb).toLoadRect (h.unread x) = x := by
  rw [View.readAt_eq_ld, h.read_unread]
  exact View.ld_unit_lit inb x ho

/-- A slab of the scratch. -/
def slabV (u : Fin 8) (inb : ∀ a, (![u.1, 0, 0] : Fin 3 → Nat) a + S1x1024x128.size a ≤ S8x1024x128.size a) : Vec F S1x1024x128 .f32 :=
  arg10.view.readCov (stores arg2 harg2 arg3 harg3 arg4 harg4 x0 x1 x2 32 (le_refl 32))
      (Rect.unit ![u.1, 0, 0] S1x1024x128.size inb : Rect S8x1024x128).toLoadRect

def wide : FVec F S1024x1024 .f32 :=
  k0_pay42 (k0_pay41 (slabV arg2 harg2 arg3 harg3 arg4 harg4 arg10 x0 x1 x2 0 inb_S8x1024x128_S1x1024x128_0_0_0))
    (slabV arg2 harg2 arg3 harg3 arg4 harg4 arg10 x0 x1 x2 1 inb_S8x1024x128_S1x1024x128_1_0_0)
    (slabV arg2 harg2 arg3 harg3 arg4 harg4 arg10 x0 x1 x2 2 inb_S8x1024x128_S1x1024x128_2_0_0)
    (slabV arg2 harg2 arg3 harg3 arg4 harg4 arg10 x0 x1 x2 3 inb_S8x1024x128_S1x1024x128_3_0_0)
    (slabV arg2 harg2 arg3 harg3 arg4 harg4 arg10 x0 x1 x2 4 inb_S8x1024x128_S1x1024x128_4_0_0)
    (slabV arg2 harg2 arg3 harg3 arg4 harg4 arg10 x0 x1 x2 5 inb_S8x1024x128_S1x1024x128_5_0_0)
    (slabV arg2 harg2 arg3 harg3 arg4 harg4 arg10 x0 x1 x2 6 inb_S8x1024x128_S1x1024x128_6_0_0)
    (slabV arg2 harg2 arg3 harg3 arg4 harg4 arg10 x0 x1 x2 7 inb_S8x1024x128_S1x1024x128_7_0_0)

/-- The block of the result, with the loads as they are made. -/
theorem out_loads : out0_A_7 c i arg2 harg2 arg3 harg3 arg4 harg4 arg5 harg5 arg6 harg6 arg7 harg7 arg8 harg8 arg9 harg9 arg10 harg10 x0 x1 x2 x3 x4 x5 x6 = k0_pay1 (blockOut (blocks
    (k0_pay43 (View.readAt (Elt F) arg4.view (Rect.unit ![0, (3 : Fin 6).1, 0] S1x1x1024.size inb_S1x6x1024_S1x1x1024_0_3_0 : Rect S1x6x1024).toLoadRect (harg4.unread x2)))
    (k0_pay44 (View.readAt (Elt F) arg5.view (Rect.unit ![0, 0] S1x1024.size inb_S1x1024_S1x1024_0_0 : Rect S1x1024).toLoadRect (harg5.unread x3))
      (View.readAt (Elt F) arg4.view (Rect.unit ![0, (4 : Fin 6).1, 0] S1x1x1024.size inb_S1x6x1024_S1x1x1024_0_4_0 : Rect S1x6x1024).toLoadRect (harg4.unread x2)))
    (k0_pay45 (View.readAt (Elt F) arg4.view (Rect.unit ![0, (5 : Fin 6).1, 0] S1x1x1024.size inb_S1x6x1024_S1x1x1024_0_5_0 : Rect S1x6x1024).toLoadRect (harg4.unread x2)))
    (View.readAt (Elt F) arg6.view (Rect.unit ![0, 0] S1024x5632.size inb_S1024x5632_S1024x5632_0_0 : Rect S1024x5632).toLoadRect (harg6.unread x4))
    (View.readAt (Elt F) arg7.view (Rect.unit ![0, 0] S2816x1024.size inb_S2816x1024_S2816x1024_0_0 : Rect S2816x1024).toLoadRect (harg7.unread x5))
    (wide arg2 harg2 arg3 harg3 arg4 harg4 arg10 x0 x1 x2))
    (View.readAt (Elt F) arg8.view (Rect.unit ![0, 0] S1x1024.size inb_S1x1024_S1x1024_0_0 : Rect S1x1024).toLoadRect (harg8.unread x6))) := by
  unfold out0_A_7
  rw [View.read_writes_junk_eq_canon]
  exact View.canon_cons_unit_lit inb_S1x1024x1024_S1x1024x1024_0_0_0 _ [] (by decide)

theorem out_eq : out0_A_7 c i arg2 harg2 arg3 harg3 arg4 harg4 arg5 harg5 arg6 harg6 arg7 harg7 arg8 harg8 arg9 harg9 arg10 harg10 x0 x1 x2 x3 x4 x5 x6 = k0_pay1 (blockOut (blocks (k0_pay43 (modRow x2 3)) (k0_pay44 x3 (modRow x2 4)) (k0_pay45 (modRow x2 5))
    x4 x5 (wide arg2 harg2 arg3 harg3 arg4 harg4 arg10 x0 x1 x2)) x6) := by
  rw [out_loads, mod_read, mod_read, mod_read, whole_read _ harg5 x3 _ (by decide), whole_read _ harg6 x4 _ (by decide),
    whole_read _ harg7 x5 _ (by decide), whole_read _ harg8 x6 _ (by decide)]

end

/-! ## Over the extended reals -/

variable (x0 : Vec Ideal S1x4x256x1024 .f32) (x1 : Vec Ideal S1x4x256x1024 .bf16) (x2 : Vec Ideal S1x6x1024 .f32) (x3 : Vec Ideal S1x1024 .f32)
  (x4 : Vec Ideal S1024x5632 .bf16) (x5 : Vec Ideal S2816x1024 .bf16) (x6 : Vec Ideal S1x1024 .f32)

theorem out_apply (k e : Fin 1024) : out0_A_7 c i arg2 harg2 arg3 harg3 arg4 harg4 arg5 harg5 arg6 harg6 arg7 harg7 arg8 harg8 arg9 harg9 arg10 harg10 x0 x1 x2 x3 x4 x5 x6 (ix3 0 k e)
    = rowNorm (row (fun l => x2 (ix3 0 3 l)) (fun l => x3 (ix2 0 l) * (Ideal.ofBits .f32 0x3F800000#32 + x2 (ix3 0 4 l)))
        (fun l => x2 (ix3 0 5 l)) (fun l n => x4 (ix2 l n)) (fun n l => x5 (ix2 n l))
        (mixAt x0 x1 x2 ⟨k.1 % 4, by omega⟩ ⟨k.1 / 4, by omega⟩)) e * x6 (ix2 0 e) := by
  have hw : ∀ k e, wide arg2 harg2 arg3 harg3 arg4 harg4 arg10 x0 x1 x2 (ix2 k e) = mixAt x0 x1 x2 ⟨k.1 % 4, by omega⟩ ⟨k.1 / 4, by omega⟩ e :=
    wide_apply _ _ _ _ _ _ _ _ (fun k e => mixAt x0 x1 x2 ⟨k.1 % 4, by omega⟩ ⟨k.1 / 4, by omega⟩ e)
      (slab arg2 harg2 arg3 harg3 arg4 harg4 arg10 x0 x1 x2 0 _) (slab arg2 harg2 arg3 harg3 arg4 harg4 arg10 x0 x1 x2 1 _)
      (slab arg2 harg2 arg3 harg3 arg4 harg4 arg10 x0 x1 x2 2 _) (slab arg2 harg2 arg3 harg3 arg4 harg4 arg10 x0 x1 x2 3 _)
      (slab arg2 harg2 arg3 harg3 arg4 harg4 arg10 x0 x1 x2 4 _) (slab arg2 harg2 arg3 harg3 arg4 harg4 arg10 x0 x1 x2 5 _)
      (slab arg2 harg2 arg3 harg3 arg4 harg4 arg10 x0 x1 x2 6 _) (slab arg2 harg2 arg3 harg3 arg4 harg4 arg10 x0 x1 x2 7 _)
  rw [out_eq]
  have h3 : ∀ l, k0_pay43 (modRow x2 3) (ix2 0 l) = x2 (ix3 0 3 l) := fun l => by pointwise [k0_pay43, modRow]
  have h4 : ∀ l, k0_pay44 x3 (modRow x2 4) (ix2 0 l) = x3 (ix2 0 l) * (Ideal.ofBits .f32 0x3F800000#32 + x2 (ix3 0 4 l)) := fun l => by
    pointwise [k0_pay44, modRow]
  have h5 : ∀ l, k0_pay45 (modRow x2 5) (ix2 0 l) = x2 (ix3 0 5 l) := fun l => by pointwise [k0_pay45, modRow]
  have h1 : ∀ v : FVec Ideal S1024x1024 .f32, k0_pay1 v (ix3 0 k e) = v (ix2 k e) := fun v => by pointwise [k0_pay1]
  rw [h1, blockOut_apply]
  simp only [blocks_apply, hw, h3, h4, h5]

end Cert.Kernel2Ideal.Ffn

end
-- ==== Proof.Ffn2Out.lean ====
/- The last call: its operands, its blocks, and the array they make up. -/
module

public import proofs.«01_k».proof.Proof.Ffn2Body
public import proofs.«01_k».proof.Proof.Gen.Kernel2Ideal.Value
public import Idealize.ShloMosaic.Lib.Pointwise
public import Idealize.ShloMosaic.Lib.Pipeline.ValueKit

@[expose] public section

noncomputable section

namespace Cert.Kernel2Ideal.Ffn

open Cert.Kernel2Ideal Cert.Kernel2Ideal.Gen Idealize.ShloMosaic Idealize.ShloMosaic.TcCoe Idealize.SL.Sem Cert.Ffn

theorem pt_lt (t : Fin cfg0.N) : t.1 / 2 < 8 := by
  have := t.2
  change t.1 < 16 at this
  omega

variable (m : (ℓ : Loc nD τ sig) → Buf (Elt Ideal) ℓ) (c : Dev nD) (t : Fin cfg0.N)

theorem idx0 : ∀ t : Fin cfg0.N, (cfg0.win 0).index t = ![t.1 / 2, 0, t.1 % 2, 0] := by decide +kernel
theorem idx1 : ∀ t : Fin cfg0.N, (cfg0.win 1).index t = ![t.1 / 2, 0, t.1 % 2, 0] := by decide +kernel
theorem idx2 : ∀ t : Fin cfg0.N, (cfg0.win 2).index t = ![t.1 / 2, 0, 0] := by decide +kernel
theorem idx3 : ∀ t : Fin cfg0.N, (cfg0.win 3).index t = ![0, 0] := by decide +kernel
theorem idx4 : ∀ t : Fin cfg0.N, (cfg0.win 4).index t = ![0, 0] := by decide +kernel
theorem idx5 : ∀ t : Fin cfg0.N, (cfg0.win 5).index t = ![0, 0] := by decide +kernel
theorem idx6 : ∀ t : Fin cfg0.N, (cfg0.win 6).index t = ![0, 0] := by decide +kernel
theorem idx7 : ∀ t : Fin cfg0.N, (cfg0.win 7).index t = ![t.1 / 2, t.1 % 2, 0] := by decide +kernel

/-- The arguments: the tokens, the mixing's output, the modulation, the norm's weight, the two weights, the last norm's weight. -/
abbrev aX : FVec Ideal S8x2048x1024 .f32 := m ((c.tc : Thread nD τ).loc main_arg0)
abbrev aY : FVec Ideal S8x2048x1024 .f32 := m ((c.tc : Thread nD τ).loc main_arg1)
abbrev aM : FVec Ideal S8x6144 .f32 := m ((c.tc : Thread nD τ).loc main_arg2)
abbrev aG : FVec Ideal S1024 .f32 := m ((c.tc : Thread nD τ).loc main_arg3)
abbrev aU : FVec Ideal S1024x5632 .f32 := m ((c.tc : Thread nD τ).loc main_arg4)
abbrev aD : FVec Ideal S2816x1024 .f32 := m ((c.tc : Thread nD τ).loc main_arg5)
abbrev aL : FVec Ideal S1024 .f32 := m ((c.tc : Thread nD τ).loc main_arg6)

/-- Four interleaved parts of the tokens. -/
def parts {F : FTy → Type} [FloatOps F] (x : FVec F S8x2048x1024 .f32) : FVec F S8x4x512x1024 .f32 :=
  transpose S8x4x512x1024 [0, 2, 1, 3] (shapeCast S8x512x4x1024 x shapeCasts_S8x2048x1024_S8x512x4x1024)
    transposes_S8x512x4x1024_S8x4x512x1024_0_2_1_3

theorem parts_apply (x : FVec Ideal S8x2048x1024 .f32) (b : Fin 8) (r : Fin 4) (q : Fin 512) (e : Fin 1024) :
    parts x (ix4 b r q e) = x (ix3 b ⟨4 * q + r, by omega⟩ e) := by
  pointwise [parts]
  simp only [Nat.mul_comm]

theorem V_x : V m c main_v1 = parts (aX m c) := by entry_read; rfl
theorem V_y : V m c main_v4 = truncf .bf16 (parts (aY m c)) bitsLt_bf16_f32 := by entry_read; rfl
theorem V_m : V m c main_v5 = shapeCast S8x6x1024 (aM m c) shapeCasts_S8x6144_S8x6x1024 := by entry_read; rfl
theorem V_g : V m c main_v6 = shapeCast S1x1024 (aG m c) shapeCasts_S1024_S1x1024 := by entry_read; rfl
theorem V_U : V m c main_v7 = truncf .bf16 (aU m c) bitsLt_bf16_f32 := by entry_read; rfl
theorem V_D : V m c main_v8 = truncf .bf16 (aD m c) bitsLt_bf16_f32 := by entry_read; rfl
theorem V_l : V m c main_v9 = shapeCast S1x1024 (aL m c) shapeCasts_S1024_S1x1024 := by entry_read; rfl

theorem x_read (r : Fin 4) (n : Fin 256) (e : Fin 1024) : iblk m c 0 t (ix4 0 r n e)
    = aX m c (ix3 ⟨t.1 / 2, pt_lt t⟩ ⟨1024 * (t.1 % 2) + (4 * n + r), by omega⟩ e) := by
  have h : iblk m c 0 t (ix4 0 r n e) = V m c main_v1 (ix4 ⟨t.1 / 2, pt_lt t⟩ r ⟨256 * (t.1 % 2) + n, by omega⟩ e) := by
    blk_simp [iblk]
    blk_point [iblk, idx0 t]
  rw [h, V_x, parts_apply]
  exact congrArg (fun k => aX m c (ix3 _ k e)) (Fin.ext (by show 4 * (256 * (t.1 % 2) + n.1) + r.1 = 1024 * (t.1 % 2) + (4 * n.1 + r.1); omega))

theorem y_read (r : Fin 4) (n : Fin 256) (e : Fin 1024) : iblk m c 1 t (ix4 0 r n e)
    = aY m c (ix3 ⟨t.1 / 2, pt_lt t⟩ ⟨1024 * (t.1 % 2) + (4 * n + r), by omega⟩ e) := by
  have h : iblk m c 1 t (ix4 0 r n e) = V m c main_v4 (ix4 ⟨t.1 / 2, pt_lt t⟩ r ⟨256 * (t.1 % 2) + n, by omega⟩ e) := by
    blk_simp [iblk]
    blk_point [iblk, idx1 t]
  rw [h, V_y]
  refine (parts_apply (aY m c) _ _ _ _).trans ?_
  exact congrArg (fun k => aY m c (ix3 _ k e)) (Fin.ext (by show 4 * (256 * (t.1 % 2) + n.1) + r.1 = 1024 * (t.1 % 2) + (4 * n.1 + r.1); omega))

theorem m_read (o : Fin 6) (e : Fin 1024) : iblk m c 2 t (ix3 0 o e) = aM m c (ix2 ⟨t.1 / 2, pt_lt t⟩ ⟨1024 * o + e, by omega⟩) := by
  have h : iblk m c 2 t (ix3 0 o e) = V m c main_v5 (ix3 ⟨t.1 / 2, pt_lt t⟩ o e) := by
    blk_simp [iblk]
    blk_point [iblk, idx2 t]
  rw [h, V_m]
  pointwise
  simp only [Nat.mul_comm]

theorem g_read (e : Fin 1024) : iblk m c 3 t (ix2 0 e) = aG m c (ix1 e) := by
  have h : iblk m c 3 t (ix2 0 e) = V m c main_v6 (ix2 0 e) := by
    blk_simp [iblk]
    blk_point [iblk, idx3 t]
  rw [h, V_g]
  pointwise

theorem U_read (l : Fin 1024) (n : Fin 5632) : iblk m c 4 t (ix2 l n) = aU m c (ix2 l n) := by
  have h : iblk m c 4 t (ix2 l n) = V m c main_v7 (ix2 l n) := by
    blk_simp [iblk]
    blk_point [iblk, idx4 t]
  rw [h, V_U]
  rfl

theorem D_read (n : Fin 2816) (l : Fin 1024) : iblk m c 5 t (ix2 n l) = aD m c (ix2 n l) := by
  have h : iblk m c 5 t (ix2 n l) = V m c main_v8 (ix2 n l) := by
    blk_simp [iblk]
    blk_point [iblk, idx5 t]
  rw [h, V_D]
  rfl

theorem l_read (e : Fin 1024) : iblk m c 6 t (ix2 0 e) = aL m c (ix1 e) := by
  have h : iblk m c 6 t (ix2 0 e) = V m c main_v9 (ix2 0 e) := by
    blk_simp [iblk]
    blk_point [iblk, idx6 t]
  rw [h, V_l]
  pointwise

/-- The layer's result on token `s`, normed. -/
def outR (x y : FVec Ideal S8x2048x1024 .f32) (md : FVec Ideal S8x6144 .f32) (g : FVec Ideal S1024 .f32) (U : FVec Ideal S1024x5632 .f32)
    (D : FVec Ideal S2816x1024 .f32) (gl : FVec Ideal S1024 .f32) (b : Fin 8) (s : Fin 2048) (e : Fin 1024) : EReal :=
  rowNorm (row (fun l => md (ix2 b ⟨3072 + l, by omega⟩))
    (fun l => g (ix1 l) * (Ideal.ofBits .f32 0x3F800000#32 + md (ix2 b ⟨4096 + l, by omega⟩)))
    (fun l => md (ix2 b ⟨5120 + l, by omega⟩)) (fun l n => U (ix2 l n)) (fun n l => D (ix2 n l))
    (fun k => x (ix3 b s k) + md (ix2 b ⟨2048 + k, by omega⟩) * y (ix3 b s k))) e * gl (ix1 e)

theorem block_out (i : grid0.Coords)
  (arg2 : Memref sig .tc .vmem S1x4x256x1024 .f32) (harg2 : arg2.IsWhole) (arg3 : Memref sig .tc .vmem S1x4x256x1024
  .bf16) (harg3 : arg3.IsWhole) (arg4 : Memref sig .tc .vmem S1x6x1024 .f32) (harg4 : arg4.IsWhole) (arg5 : Memref sig .tc
  .vmem S1x1024 .f32) (harg5 : arg5.IsWhole) (arg6 : Memref sig .tc .vmem S1024x5632 .bf16) (harg6 : arg6.IsWhole) (arg7 :
  Memref sig .tc .vmem S2816x1024 .bf16) (harg7 : arg7.IsWhole) (arg8 : Memref sig .tc .vmem S1x1024 .f32) (harg8 :
  arg8.IsWhole) (arg9 : Memref sig .tc .vmem S1x1024x1024 .f32) (harg9 : arg9.IsWhole) (arg10 : Memref sig .tc .vmem
  S8x1024x128 .f32) (harg10 : arg10.IsWhole) (k e : Fin 1024) :
    out0_A_7 c i arg2 harg2 arg3 harg3 arg4 harg4 arg5 harg5 arg6 harg6 arg7 harg7 arg8 harg8 arg9 harg9 arg10 harg10 (iblk m c 0 t) (iblk m c 1 t) (iblk m c 2 t) (iblk m c 3 t) (iblk m c 4 t) (iblk m c 5 t) (iblk m c 6 t) (ix3 0 k e)
      = outR (aX m c) (aY m c) (aM m c) (aG m c) (aU m c) (aD m c) (aL m c) ⟨t.1 / 2, pt_lt t⟩ ⟨1024 * (t.1 % 2) + k, by omega⟩ e := by
  rw [out_apply]
  have hx : ∀ l, mixAt (iblk m c 0 t) (iblk m c 1 t) (iblk m c 2 t) ⟨k.1 % 4, by omega⟩ ⟨k.1 / 4, by omega⟩ l
      = aX m c (ix3 ⟨t.1 / 2, pt_lt t⟩ ⟨1024 * (t.1 % 2) + k, by omega⟩ l) + aM m c (ix2 ⟨t.1 / 2, pt_lt t⟩ ⟨2048 + l, by omega⟩)
        * aY m c (ix3 ⟨t.1 / 2, pt_lt t⟩ ⟨1024 * (t.1 % 2) + k, by omega⟩ l) := by
    intro l
    have e : (⟨1024 * (t.1 % 2) + (4 * (k.1 / 4) + k.1 % 4), by omega⟩ : Fin 2048) = ⟨1024 * (t.1 % 2) + k, by omega⟩ := Fin.ext (by
      show 1024 * (t.1 % 2) + (4 * (k.1 / 4) + k.1 % 4) = 1024 * (t.1 % 2) + k.1
      omega)
    unfold mixAt
    rw [x_read, y_read, m_read]
    exact congrArg (fun s => aX m c (ix3 ⟨t.1 / 2, pt_lt t⟩ s l) + aM m c (ix2 ⟨t.1 / 2, pt_lt t⟩ ⟨2048 + l, by omega⟩)
        * aY m c (ix3 ⟨t.1 / 2, pt_lt t⟩ s l)) e
  unfold outR
  simp only [funext hx, m_read, g_read, U_read, D_read, l_read]
  rfl

theorem covers7 : (cfg0.win 7).Covers := by decide +kernel

/-- The array that holds `G`, if every block does. -/
theorem outArr (G : S8x2048x1024.Idx → Elt Ideal .f32)
   (h : ∀ (t : Fin cfg0.N) (j : S1x1024x1024.Idx), outsAt0 m c t j
      = G (ix3 ⟨t.1 / 2, pt_lt t⟩ ⟨1024 * (t.1 % 2) + (j 1).1, by have := (j 1).2; change (j 1).1 < 1024 at this; omega⟩ (j 2))) :
   (dats m 0 c).arrAt 7 cfg0.N = G := by
  refine Pipeline.Dat.arrAt_eq_of_covers (dats m 0 c) 7 G covers7 ?_
  intro t _ y
  have e := h t
  rw [← after0_7 m c t] at e
  generalize (dats m 0 c).after 7 t = f at e ⊢
  blk_simp
  refine (e y).trans ?_
  blk_point [idx7 t]

/-- The array that the blocks make up. -/
theorem kernel_out : (dats m 0 c).arrAt 7 cfg0.N
    = fun i : S8x2048x1024.Idx => outR (aX m c) (aY m c) (aM m c) (aG m c) (aU m c) (aD m c) (aL m c) (i 0) (i 1) (i 2) := by
  refine outArr m c _ fun t j => ?_
  have hj : j = ix3 0 (j 1) (j 2) := by
    funext a
    fin_cases a
    · exact Subsingleton.elim (α := Fin 1) _ _
    · rfl
    · rfl
  rw [hj]
  exact block_out m c t _ _ _ _ _ _ _ _ _ _ _ _ _ _ _ _ _ _ _ (j 1) (j 2)

end Cert.Kernel2Ideal.Ffn

end
-- ==== Proof.FfnRef.lean ====
/- The feed-forward layer as the references write it, read at an index over the extended reals. -/
module

public import proofs.«01_k».proof.Proof.Gen.Reference2Ideal
public import proofs.«01_k».proof.Proof.FfnRow
public import Idealize.ShloMosaic.Lib.Pointwise
public import Idealize.ShloMosaic.Lib.KernelVsHost

@[expose] public section

noncomputable section

namespace Cert.Ffn

open Cert.Reference2Ideal Cert.Reference2Ideal.Gen Cert.Reference2Ideal.Facts
open Idealize.ShloMosaic

variable {F : FTy → Type} [FloatOps F]

/-- A vector per batch element, on every token. -/
def onTokens (v : FVec F S8x1x1024 .f32) : FVec F S8x2048x1024 .f32 :=
  broadcastInDim S8x2048x1024 ![0, 1, 2] bcast_S8x1x1024_S8x2048x1024_0_1_2 v

/-- The gate of the mixing's residual, the shift, the scale and the gate of the feed-forward layer. -/
def mixGate (m : FVec F S8x6144 .f32) : FVec F S8x1x1024 .f32 :=
  broadcastInDim S8x1x1024 ![0, 2] bcast_S8x1024_S8x1x1024_0_2 (extractStridedSlice S8x1024 ![0, 2048] m slices_S8x6144_S8x1024_0_2048)

def shift (m : FVec F S8x6144 .f32) : FVec F S8x1x1024 .f32 :=
  broadcastInDim S8x1x1024 ![0, 2] bcast_S8x1024_S8x1x1024_0_2 (extractStridedSlice S8x1024 ![0, 3072] m slices_S8x6144_S8x1024_0_3072)

def scale (m : FVec F S8x6144 .f32) : FVec F S8x1x1024 .f32 :=
  broadcastInDim S8x1x1024 ![0, 2] bcast_S8x1024_S8x1x1024_0_2 (extractStridedSlice S8x1024 ![0, 4096] m slices_S8x6144_S8x1024_0_4096)

def ffnGate (m : FVec F S8x6144 .f32) : FVec F S8x1x1024 .f32 :=
  broadcastInDim S8x1x1024 ![0, 2] bcast_S8x1024_S8x1x1024_0_2 (extractStridedSlice S8x1024 ![0, 5120] m slices_S8x6144_S8x1024_0_5120)

/-- The mixing's result, gated, added to the tokens. -/
def mixed (x : FVec F S8x2048x1024 .f32) (m : FVec F S8x6144 .f32) (y : FVec F S8x2048x1024 .f32) : FVec F S8x2048x1024 .f32 :=
  addf x (mulf (onTokens (mixGate m)) y)

/-- A norm with its weight. -/
def normed (x : FVec F S8x2048x1024 .f32) (g : FVec F S1024 .f32) : FVec F S8x2048x1024 .f32 :=
  mulf (mulf x (broadcastInDim S8x2048x1024 ![0, 1, 2] bcast_S8x2048x1_S8x2048x1024_0_1_2 (Host.rsqrt (addf (Host.divf
    (broadcastInDim S8x2048x1 ![0, 1] bcast_S8x2048_S8x2048x1_0_1
      (Host.reduceAdd (mulf x x) (constant S_ .f32 0x00000000#32) reducesTo_S8x2048x1024_S8x2048_d2 h_S_))
    (broadcastInDim S8x2048x1 ![] bcast_S_S8x2048x1 (constant S_ .f32 0x44800000#32)))
    (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g))

def modulated (h : FVec F S8x2048x1024 .f32) (m : FVec F S8x6144 .f32) : FVec F S8x2048x1024 .f32 :=
  addf (mulf h (onTokens (addf (broadcastInDim S8x1x1024 ![] bcast_S_S8x1x1024 (constant S_ .f32 0x3F800000#32)) (scale m))))
    (onTokens (shift m))

def both (h : FVec F S8x2048x1024 .f32) (U : FVec F S1024x5632 .f32) : FVec F S8x2048x5632 .f32 :=
  Host.dotGeneral dot_S8x2048x1024_S1024x5632_S8x2048x5632_2_0_01_1_n_n none h U

def act (f : FVec F S8x2048x5632 .f32) : FVec F S8x2048x2816 .f32 :=
  mulf (mulf (extractStridedSlice S8x2048x2816 ![0, 0, 0] f slices_S8x2048x5632_S8x2048x2816_0_0_0)
    (Host.divf (broadcastInDim S8x2048x2816 ![] bcast_S_S8x2048x2816 (constant S_ .f32 0x3F800000#32))
      (addf (broadcastInDim S8x2048x2816 ![] bcast_S_S8x2048x2816 (constant S_ .f32 0x3F800000#32))
        (Host.exp (Host.negf (extractStridedSlice S8x2048x2816 ![0, 0, 0] f slices_S8x2048x5632_S8x2048x2816_0_0_0))))))
    (extractStridedSlice S8x2048x2816 ![0, 0, 2816] f slices_S8x2048x5632_S8x2048x2816_0_0_2816)

def down (a : FVec F S8x2048x2816 .f32) (D : FVec F S2816x1024 .f32) : FVec F S8x2048x1024 .f32 :=
  Host.dotGeneral dot_S8x2048x2816_S2816x1024_S8x2048x1024_2_0_01_1_n_n none a D

/-- The feed-forward layer. -/
def layer (x : FVec F S8x2048x1024 .f32) (m : FVec F S8x6144 .f32) (g : FVec F S1024 .f32) (U : FVec F S1024x5632 .f32)
    (D : FVec F S2816x1024 .f32) : FVec F S8x2048x1024 .f32 :=
  addf x (mulf (onTokens (ffnGate m)) (down (act (both (modulated (normed x g) m) U)) D))

/-! ## At an index -/

variable (x y : FVec Ideal S8x2048x1024 .f32) (m : FVec Ideal S8x6144 .f32) (g : FVec Ideal S1024 .f32) (U : FVec Ideal S1024x5632 .f32)
  (D : FVec Ideal S2816x1024 .f32) (b : Fin 8) (s : Fin 2048)

theorem mixed_apply (e : Fin 1024) : mixed x m y (ix3 b s e) = x (ix3 b s e) + m (ix2 b ⟨2048 + e, by omega⟩) * y (ix3 b s e) := by
  pointwise [mixed, onTokens, mixGate]

theorem normed_apply (e : Fin 1024) : normed x g (ix3 b s e) = rowNorm (fun k => x (ix3 b s k)) e * g (ix1 e) := by
  pointwise [normed]
  rfl

theorem modulated_apply (e : Fin 1024) : modulated x m (ix3 b s e)
    = x (ix3 b s e) * (Ideal.ofBits .f32 0x3F800000#32 + m (ix2 b ⟨4096 + e, by omega⟩)) + m (ix2 b ⟨3072 + e, by omega⟩) := by
  pointwise [modulated, onTokens, scale, shift]

theorem both_apply (n : Fin 5632) : both x U (ix3 b s n) = ∑ l, x (ix3 b s l) * U (ix2 l n) := by
  pointwise [both]

theorem act_apply (f : FVec Ideal S8x2048x5632 .f32) (n : Fin 2816) : act f (ix3 b s n) = gated (fun k => f (ix3 b s k)) n := by
  pointwise [act]
  rfl

theorem down_apply (a : FVec Ideal S8x2048x2816 .f32) (e : Fin 1024) : down a D (ix3 b s e) = ∑ n, a (ix3 b s n) * D (ix2 n e) := by
  pointwise [down]

/-- The modulated gain of the layer's norm. -/
def gain (m : FVec Ideal S8x6144 .f32) (g : FVec Ideal S1024 .f32) (b : Fin 8) (e : Fin 1024) : EReal :=
  g (ix1 e) * (Ideal.ofBits .f32 0x3F800000#32 + m (ix2 b ⟨4096 + e, by omega⟩))

theorem layer_apply (e : Fin 1024) : layer x m g U D (ix3 b s e) =
    row (fun l => m (ix2 b ⟨3072 + l, by omega⟩)) (gain m g b) (fun l => m (ix2 b ⟨5120 + l, by omega⟩)) (fun l n => U (ix2 l n))
      (fun n l => D (ix2 n l)) (fun k => x (ix3 b s k)) e := by
  have h1 : layer x m g U D (ix3 b s e) = x (ix3 b s e) + m (ix2 b ⟨5120 + e, by omega⟩)
      * down (act (both (modulated (normed x g) m) U)) D (ix3 b s e) := by
    pointwise [layer, onTokens, ffnGate]
  rw [h1, down_apply]
  unfold row
  simp only [act_apply, both_apply, modulated_apply, normed_apply, gain, mul_assoc]

end Cert.Ffn

end
-- ==== Proof.Ffn2Pair.lean ====
/- The last call: its program and the reference end with the same result, entry by entry. -/
module

public import proofs.«01_k».proof.Defs
public import proofs.«01_k».proof.Proof.Ffn2Out
public import proofs.«01_k».proof.Proof.FfnRef
public import proofs.«01_k».proof.Proof.Gen.Reference2Ideal.Run
public import Idealize.ShloMosaic.Lib.Claim

@[expose] public section

noncomputable section

namespace Cert.Reference2Ideal.Ffn

open Cert.Reference2Ideal Idealize.ShloMosaic Idealize.ShloMosaic.TcCoe Idealize.SL.Sem Cert.Ffn

/-- The reference's result is the layer on the gated sum, normed. -/
theorem res_eq {F : FTy → Type} [FloatOps F] (m : (ℓ : Loc nD τ sig) → Buf (Elt F) ℓ) (c : Dev nD) : Value.res_main_v55 m c
    = normed (layer (mixed (m ((c.tc : Thread nD τ).loc main_arg0)) (m ((c.tc : Thread nD τ).loc main_arg2)) (m ((c.tc : Thread nD τ).loc main_arg1)))
        (m ((c.tc : Thread nD τ).loc main_arg2)) (m ((c.tc : Thread nD τ).loc main_arg3)) (m ((c.tc : Thread nD τ).loc main_arg4))
        (m ((c.tc : Thread nD τ).loc main_arg5))) (m ((c.tc : Thread nD τ).loc main_arg6)) := by
  unfold Value.res_main_v55
  rfl

end Cert.Reference2Ideal.Ffn

namespace Cert.Proof

open Idealize.ShloMosaic Idealize.ShloMosaic.TcCoe Idealize.SL.Sem Cert.Ffn
open Cert.Kernel2Ideal

/-- The reference's result at an index. -/
theorem ref2_apply (x y : FVec Ideal S8x2048x1024 .f32) (md : FVec Ideal S8x6144 .f32) (g : FVec Ideal S1024 .f32)
    (U : FVec Ideal S1024x5632 .f32) (D : FVec Ideal S2816x1024 .f32) (gl : FVec Ideal S1024 .f32) (b : Fin 8) (s : Fin 2048) (e : Fin 1024) :
    normed (layer (mixed x md y) md g U D) gl (ix3 b s e) = Cert.Kernel2Ideal.Ffn.outR x y md g U D gl b s e := by
  rw [normed_apply]
  simp only [layer_apply, mixed_apply]
  rfl

theorem algebraic2 : Cert.algebraic_Kernel2Ideal_Reference2Ideal := by
  intro m g m' g' _ hagree
  refine ⟨fun c => (fun i : S8x2048x1024.Idx => Cert.Kernel2Ideal.Ffn.outR (Cert.Kernel2Ideal.Ffn.aX m c) (Cert.Kernel2Ideal.Ffn.aY m c)
    (Cert.Kernel2Ideal.Ffn.aM m c) (Cert.Kernel2Ideal.Ffn.aG m c) (Cert.Kernel2Ideal.Ffn.aU m c) (Cert.Kernel2Ideal.Ffn.aD m c)
    (Cert.Kernel2Ideal.Ffn.aL m c) (i 0) (i 1) (i 2)), ?_, ?_⟩
  · refine θ_run_mono (Cert.Kernel2Ideal.Value.run_blocks (F := Ideal) m g) fun r h c => ⟨?_, (h c).2⟩
    exact (h c).1.trans (Cert.Kernel2Ideal.Ffn.kernel_out m c)
  · refine θ_run_mono (Cert.Reference2Ideal.Value.run (F := Ideal) m' g') fun r h c => ⟨?_, (h c).2⟩
    refine (h c).1.trans ((Cert.Reference2Ideal.Ffn.res_eq m' c).trans (funext fun i => ?_))
    obtain ⟨a0, a1, a2, a3, a4, a5, a6⟩ := hagree c
    rw [a0, a1, a2, a3, a4, a5, a6]
    refine (congrArg _ (eq_ix3 i)).trans ?_
    exact ref2_apply _ _ _ _ _ _ _ (i 0) (i 1) (i 2)

theorem frame2_ideal : Cert.quiescent_Kernel2Ideal := fun m ρ _ => Cert.Kernel2Ideal.Gen.frame (F := Ideal) m ρ

theorem frame2_reference : Cert.quiescent_Reference2Ideal := fun m ρ _ =>
  θ_run_mono (Cert.Reference2Ideal.Value.run (F := Ideal) m ρ) fun r h =>
    ⟨fun c => (h c).2, sem_eq_zero_of_no_sems (by decide) r.2⟩

end Cert.Proof

end
-- ==== Proof.Ffn3Mix.lean ====
/- The call after the attention: its rows go through a scratch, a slab at a time, and out again every fourth one. -/
module

public import proofs.«01_k».proof.Proof.Gen.Kernel3Ideal.Frame
public import Idealize.ShloMosaic.Lib.WholeRead
public import Idealize.ShloMosaic.Lib.Pointwise

@[expose] public section

noncomputable section

namespace Cert.Kernel3Ideal.Ffn

open Cert.Kernel3Ideal Cert.Kernel3Ideal.Gen Cert.Kernel3Ideal.Facts Idealize.ShloMosaic Idealize.SL.Sem

theorem cols (u : Fin 8) : S1024x1024.Slices ![0, 128 * u.1] S1024x128 := by
  revert u; decide

theorem slab_inb (u : Fin 8) : ∀ a, (![u.1, 0, 0] : Fin 3 → Nat) a + S1x1024x128.size a ≤ S8x1024x128.size a := by
  revert u; decide

theorem rows_inb (u : Fin 8) (r : Fin 4) : ∀ a, S1x256x128.size a = 0
    ∨ (![u.1, r.1, 0] : Fin 3 → Nat) a + (![1, 4, 1] : Fin 3 → Nat) a * (S1x256x128.size a - 1) < S8x1024x128.size a := by
  revert u r; decide

theorem part_inb (u : Fin 8) (r : Fin 4) : ∀ a, (![0, r.1, 0, 128 * u.1] : Fin 4 → Nat) a + S1x1x256x128.size a ≤ S1x4x256x1024.size a := by
  revert u r; decide

section
variable {F : FTy → Type} [FloatOps F]

/-- 128 columns. -/
def slabOf (v : FVec F S1024x1024 .f32) (u : Fin 8) : FVec F S1x1024x128 .f32 :=
  shapeCast S1x1024x128 (extractStridedSlice S1024x128 ![0, 128 * u.1] v (cols u)) shapeCasts_S1024x128_S1x1024x128

/-- The first `n` slabs, the latest first. -/
def slabs (v : FVec F S1024x1024 .f32) : (n : Nat) → n ≤ 8 → List (View.Piece (Elt F) S8x1024x128 .f32)
  | 0, _ => []
  | n + 1, h => ⟨Rect.unit ![n, 0, 0] S1x1024x128.size (slab_inb ⟨n, by omega⟩), slabOf v ⟨n, by omega⟩⟩ :: slabs v n (by omega)

variable (arg10 : Memref sig .tc .vmem S8x1024x128 .f32)

/-- Every fourth row of a slab. -/
def rowsRect (u : Fin 8) (r : Fin 4) : LoadRect S8x1024x128 :=
  { off := ![u.1, r.1, 0], size := S1x256x128.size, stride := ![1, 4, 1], inb := rows_inb u r }

def readRows (v : FVec F S1024x1024 .f32) (u : Fin 8) (r : Fin 4) : Vec F S1x256x128 .f32 :=
  arg10.view.readCov (slabs v (u.1 + 1) (by omega)) (rowsRect u r)

/-- One store into the result. -/
def leaf (v : FVec F S1024x1024 .f32) (u : Fin 8) (r : Fin 4) : View.Piece (Elt F) S1x4x256x1024 .f32 :=
  ⟨Rect.unit ![0, r.1, 0, 128 * u.1] S1x1x256x128.size (part_inb u r),
   k0_pay1 (readRows arg10 v u r)⟩

/-- The first `n` stores, the latest first. -/
def leaves (v : FVec F S1024x1024 .f32) : (n : Nat) → n ≤ 32 → List (View.Piece (Elt F) S1x4x256x1024 .f32)
  | 0, _ => []
  | n + 1, h => leaf arg10 v ⟨n / 4, by omega⟩ ⟨n % 4, by omega⟩ :: leaves v n (by omega)

theorem mem_leaves (v : FVec F S1024x1024 .f32) (n : Nat) (h : n ≤ 32) (k : Nat) (hk : k < n) :
    leaf arg10 v ⟨k / 4, by omega⟩ ⟨k % 4, by omega⟩ ∈ leaves arg10 v n h := by
  induction n with
  | zero => omega
  | succ n ih =>
    rcases Nat.lt_succ_iff_lt_or_eq.1 hk with hk | rfl
    · exact List.mem_cons_of_mem _ (ih (by omega) hk)
    · exact List.mem_cons_self

theorem of_mem_leaves (v : FVec F S1024x1024 .f32) (n : Nat) (h : n ≤ 32) (p) (hp : p ∈ leaves arg10 v n h) :
    ∃ u r, p = leaf arg10 v u r := by
  induction n with
  | zero => simp [leaves] at hp
  | succ n ih =>
    rcases List.mem_cons.1 hp with rfl | hp
    · exact ⟨_, _, rfl⟩
    · exact ih _ hp

theorem mem_slabs (v : FVec F S1024x1024 .f32) (n : Nat) (h : n ≤ 8) (k : Nat) (hk : k < n) :
    (⟨Rect.unit ![k, 0, 0] S1x1024x128.size (slab_inb ⟨k, by omega⟩), slabOf v ⟨k, by omega⟩⟩ : View.Piece (Elt F) S8x1024x128 .f32)
      ∈ slabs v n h := by
  induction n with
  | zero => omega
  | succ n ih =>
    rcases Nat.lt_succ_iff_lt_or_eq.1 hk with hk | rfl
    · exact List.mem_cons_of_mem _ (ih (by omega) hk)
    · exact List.mem_cons_self

theorem of_mem_slabs (v : FVec F S1024x1024 .f32) (n : Nat) (h : n ≤ 8) (p) (hp : p ∈ slabs v n h) :
    ∃ u : Fin 8, p = ⟨Rect.unit ![u.1, 0, 0] S1x1024x128.size (slab_inb u), slabOf v u⟩ := by
  induction n with
  | zero => simp [slabs] at hp
  | succ n ih =>
    rcases List.mem_cons.1 hp with rfl | hp
    · exact ⟨⟨n, by omega⟩, rfl⟩
    · exact ih _ hp

theorem leaves_eq (c : Dev nD) (i : grid0.Coords)
  (arg2 : Memref sig .tc .vmem S1x8x1024x128 .bf16) (harg2 : arg2.IsWhole) (arg3 : Memref sig .tc .vmem S1x1024x1024 .f32)
  (harg3 : arg3.IsWhole) (arg4 : Memref sig .tc .vmem S1x6x1024 .f32) (harg4 : arg4.IsWhole) (arg5 : Memref sig .tc .vmem
  S1024x1024 .bf16) (harg5 : arg5.IsWhole) (arg6 : Memref sig .tc .vmem S1x1024 .f32) (harg6 : arg6.IsWhole) (arg7 : Memref
  sig .tc .vmem S1024x5632 .bf16) (harg7 : arg7.IsWhole) (arg8 : Memref sig .tc .vmem S2816x1024 .bf16) (harg8 :
  arg8.IsWhole) (arg9 : Memref sig .tc .vmem S1x4x256x1024 .f32) (harg9 : arg9.IsWhole) (harg10 : arg10.IsWhole)
  (x0 : Vec F S1x8x1024x128 .bf16) (x1 : Vec F S1x1024x1024 .f32) (x2 : Vec F S1x6x1024 .f32) (x3 : Vec F S1024x1024 .bf16)
  (x4 : Vec F S1x1024 .f32) (x5 : Vec F S1024x5632 .bf16) (x6 : Vec F S2816x1024 .bf16) :
  (kernelRun0_A c i arg2 harg2 arg3 harg3 arg4 harg4 arg5 harg5 arg6 harg6 arg7 harg7 arg8 harg8 arg9 harg9 arg10 harg10 x0 x1 x2 x3 x4 x5 x6).fst
    = leaves arg10 (kernelRun0_A.sl.r_16 c arg2 harg2 arg3 harg3 arg4 harg4 arg5 harg5 arg6 harg6 arg7 harg7 arg8 harg8 x0 x1 x2 x3 x4 x5 x6)
      32 (le_refl 32) := rfl

end

/-! ## What they hold, over the extended reals -/

variable (arg10 : Memref sig .tc .vmem S8x1024x128 .f32) (v : FVec Ideal S1024x1024 .f32)

def lane (u : Fin 8) (l : Fin 128) : Fin 1024 := ⟨128 * u + l, by omega⟩

theorem slabOf_apply (u : Fin 8) (k : Fin 1024) (l : Fin 128) : slabOf v u (ix3 0 k l) = v (ix2 k (lane u l)) := by
  pointwise [slabOf]
  rfl

/-- The scratch holds the columns, 128 to a slab. -/
theorem scratch (n : Nat) (h : n ≤ 8) (u : Fin 8) (hu : u.1 < n) (k : Fin 1024) (l : Fin 128) :
    View.canon (slabs v n h) (ix3 u k l) = v (ix2 k (lane u l)) := by
  refine (View.canon_apply_of_pieces (Val := Elt Ideal) (e := .f32) (fun y : S8x1024x128.Idx => v (ix2 (y 1) (lane (y 0) (y 2))))
    (slabs v n h) (fun p hp x => ?_) (ix3 u k l) ⟨_, mem_slabs v n h u.1 hu, ?_⟩).trans rfl
  · obtain ⟨u', rfl⟩ := of_mem_slabs v n h p hp
    have hx : x = ix3 0 (x 1) (x 2) := by
      funext a
      fin_cases a
      · exact Subsingleton.elim (α := Fin 1) _ _
      · rfl
      · rfl
    rw [hx]
    refine (slabOf_apply v u' (x 1) (x 2)).trans ?_
    refine congrArg v (congrArg₂ ix2 (Fin.ext ?_) (Fin.ext ?_))
    · show (x 1).1 = 0 + 1 * (x 1).1
      omega
    · show 128 * u'.1 + (x 2).1 = 128 * (u'.1 + 1 * 0) + (0 + 1 * (x 2).1)
      omega
  · rw [LoadRect.mem_set]
    intro a
    match a with
    | ⟨0, _⟩ => exact ⟨0, Nat.one_pos, show u.1 = u.1 + 1 * 0 by omega⟩
    | ⟨1, _⟩ => exact ⟨k.1, k.2, show k.1 = 0 + 1 * k.1 by omega⟩
    | ⟨2, _⟩ => exact ⟨l.1, l.2, show l.1 = 0 + 1 * l.1 by omega⟩

theorem pay_apply (f : Vec Ideal S1x256x128 .f32) (n : Fin 256) (l : Fin 128) : k0_pay1 f (ix4 0 0 n l) = f (ix3 0 n l) := by
  pointwise [k0_pay1]

theorem leaf_apply (u : Fin 8) (r : Fin 4) (n : Fin 256) (l : Fin 128) :
    (leaf arg10 v u r).2 (ix4 0 0 n l) = v (ix2 ⟨4 * n + r, by omega⟩ (lane u l)) := by
  refine (pay_apply (readRows arg10 v u r) n l).trans ?_
  unfold readRows
  rw [View.readCov_eq_canon']
  refine Eq.trans (congrArg _ ?_) (scratch v (u.1 + 1) (by omega) u (by omega) ⟨4 * n + r, by omega⟩ l)
  funext a
  apply Fin.ext
  match a with
  | ⟨0, _⟩ => show u.1 + 1 * 0 = u.1; omega
  | ⟨1, _⟩ => show r.1 + 4 * n.1 = 4 * n.1 + r.1; omega
  | ⟨2, _⟩ => show 0 + 1 * l.1 = l.1; omega

/-- The block that the stores make up: its rows four apart. -/
theorem result (r : Fin 4) (n : Fin 256) (e : Fin 1024) :
    View.canon (leaves arg10 v 32 (le_refl 32)) (ix4 0 r n e) = v (ix2 ⟨4 * n + r, by omega⟩ e) := by
  refine (View.canon_apply_of_pieces (Val := Elt Ideal) (e := .f32)
    (fun y : S1x4x256x1024.Idx => v (ix2 ⟨4 * (y 2).1 + (y 1).1, by
      have h1 := (y 1).2; have h2 := (y 2).2; change (y 1).1 < 4 at h1; change (y 2).1 < 256 at h2; omega⟩ (y 3)))
    (leaves arg10 v 32 (le_refl 32)) (fun p hp x => ?_) (ix4 0 r n e) ⟨_, mem_leaves arg10 v 32 (le_refl 32) (4 * (e.1 / 128) + r.1) (by omega), ?_⟩).trans rfl
  · obtain ⟨u', r', rfl⟩ := of_mem_leaves arg10 v 32 (le_refl 32) p hp
    have hx : x = ix4 0 0 (x 2) (x 3) := by
      funext a
      fin_cases a
      · exact Subsingleton.elim (α := Fin 1) _ _
      · exact Subsingleton.elim (α := Fin 1) _ _
      · rfl
      · rfl
    rw [hx]
    refine (leaf_apply arg10 v u' r' (x 2) (x 3)).trans ?_
    refine congrArg v (congrArg₂ ix2 (Fin.ext ?_) (Fin.ext ?_))
    · show 4 * (x 2).1 + r'.1 = 4 * (0 + 1 * (x 2).1) + (r'.1 + 1 * 0)
      omega
    · show 128 * u'.1 + (x 3).1 = 128 * u'.1 + 1 * (x 3).1
      omega
  · rw [LoadRect.mem_set]
    intro a
    match a with
    | ⟨0, _⟩ => exact ⟨0, Nat.one_pos, show 0 = 0 + 1 * 0 by omega⟩
    | ⟨1, _⟩ => exact ⟨0, Nat.one_pos, show r.1 = (4 * (e.1 / 128) + r.1) % 4 + 1 * 0 by omega⟩
    | ⟨2, _⟩ => exact ⟨n.1, n.2, show n.1 = 0 + 1 * n.1 by omega⟩
    | ⟨3, _⟩ => exact ⟨e.1 % 128, Nat.mod_lt _ (by decide), show e.1 = 128 * ((4 * (e.1 / 128) + r.1) / 4) + 1 * (e.1 % 128) by omega⟩

end Cert.Kernel3Ideal.Ffn

end
-- ==== Proof.Ffn3Body.lean ====
/- What the call after the attention leaves in the block of its result. -/
module

public import proofs.«01_k».proof.Proof.Ffn3Mix
public import proofs.«01_k».proof.Proof.FfnBlock
public import Idealize.ShloMosaic.Lib.Pipeline.ValueKit

@[expose] public section

noncomputable section

namespace Cert.Kernel3Ideal.Ffn

open Cert.Kernel3Ideal Cert.Kernel3Ideal.Gen Cert.Kernel3Ideal.Facts Idealize.ShloMosaic Idealize.SL.Sem Cert.Ffn

section
variable {F : FTy → Type} [FloatOps F]

/-- A row of the modulation. -/
def modRow (x2 : Vec F S1x6x1024 .f32) (o : Fin 6) : Vec F S1x1x1024 .f32 := fun j => x2 (ix3 0 o (j 2))

/-- A head slab. -/
def head (x0 : Vec F S1x8x1024x128 .bf16) (u : Fin 8) : Vec F S1x1x1024x128 .bf16 := fun j => x0 (ix4 0 u (j 2) (j 3))

def headAt (arg2 : Memref sig .tc .vmem S1x8x1024x128 .bf16) (harg2 : arg2.IsWhole) (x0 : Vec F S1x8x1024x128 .bf16) (u : Fin 8)
    (inb : ∀ a, (![0, u.1, 0, 0] : Fin 4 → Nat) a + S1x1x1024x128.size a ≤ S1x8x1024x128.size a) : Vec F S1x1x1024x128 .bf16 :=
  View.readAt (Elt F) arg2.view (Rect.unit ![0, u.1, 0, 0] S1x1x1024x128.size inb : Rect S1x8x1024x128).toLoadRect (harg2.unread x0)

def modAt (arg4 : Memref sig .tc .vmem S1x6x1024 .f32) (harg4 : arg4.IsWhole) (x2 : Vec F S1x6x1024 .f32) (o : Fin 6)
    (inb : ∀ a, (![0, o.1, 0] : Fin 3 → Nat) a + S1x1x1024.size a ≤ S1x6x1024.size a) : Vec F S1x1x1024 .f32 :=
  View.readAt (Elt F) arg4.view (Rect.unit ![0, o.1, 0] S1x1x1024.size inb : Rect S1x6x1024).toLoadRect (harg4.unread x2)

theorem mod_read (arg4 : Memref sig .tc .vmem S1x6x1024 .f32) (harg4 : arg4.IsWhole) (x2 : Vec F S1x6x1024 .f32) (o : Fin 6)
    (inb : ∀ a, (![0, o.1, 0] : Fin 3 → Nat) a + S1x1x1024.size a ≤ S1x6x1024.size a) :
    modAt arg4 harg4 x2 o inb = modRow x2 o := by
  funext j
  refine (harg4.readAt_unread x2 (Rect.unit ![0, o.1, 0] S1x1x1024.size inb : Rect S1x6x1024).toLoadRect j).trans (congrArg x2 ?_)
  funext a
  have h0 : (j 0).1 < 1 := (j 0).isLt
  have h1 : (j 1).1 < 1 := (j 1).isLt
  apply Fin.ext
  match a with
  | ⟨0, _⟩ => show 0 + 1 * (j 0).1 = 0; omega
  | ⟨1, _⟩ => show o.1 + 1 * (j 1).1 = o.1; omega
  | ⟨2, _⟩ => show 0 + 1 * (j 2).1 = (j 2).1; omega

theorem head_read (arg2 : Memref sig .tc .vmem S1x8x1024x128 .bf16) (harg2 : arg2.IsWhole) (x0 : Vec F S1x8x1024x128 .bf16) (u : Fin 8)
    (inb : ∀ a, (![0, u.1, 0, 0] : Fin 4 → Nat) a + S1x1x1024x128.size a ≤ S1x8x1024x128.size a) :
    headAt arg2 harg2 x0 u inb = head x0 u := by
  funext j
  refine (harg2.readAt_unread x0 (Rect.unit ![0, u.1, 0, 0] S1x1x1024x128.size inb : Rect S1x8x1024x128).toLoadRect j).trans (congrArg x0 ?_)
  funext a
  have h0 : (j 0).1 < 1 := (j 0).isLt
  have h1 : (j 1).1 < 1 := (j 1).isLt
  apply Fin.ext
  match a with
  | ⟨0, _⟩ => show 0 + 1 * (j 0).1 = 0; omega
  | ⟨1, _⟩ => show u.1 + 1 * (j 1).1 = u.1; omega
  | ⟨2, _⟩ => show 0 + 1 * (j 2).1 = (j 2).1; omega
  | ⟨3, _⟩ => show 0 + 1 * (j 3).1 = (j 3).1; omega

theorem whole_read {s : Shape} {e : EltTy} (a : Memref sig .tc .vmem s e) (h : a.IsWhole) (x : Vec F s e) (off : Fin s.rank → Nat)
    (ho : ∀ d, off d = 0) (inb : ∀ d, off d + s.size d ≤ s.size d) :
    View.readAt (Elt F) a.view (Rect.unit off s.size inb).toLoadRect (h.unread x) = x := by
  rw [View.readAt_eq_ld, h.read_unread]
  exact View.ld_unit_lit inb x ho

variable (c : Dev nD) (i : grid0.Coords)
  (arg2 : Memref sig .tc .vmem S1x8x1024x128 .bf16) (harg2 : arg2.IsWhole) (arg3 : Memref sig .tc .vmem S1x1024x1024 .f32)
  (harg3 : arg3.IsWhole) (arg4 : Memref sig .tc .vmem S1x6x1024 .f32) (harg4 : arg4.IsWhole) (arg5 : Memref sig .tc .vmem
  S1024x1024 .bf16) (harg5 : arg5.IsWhole) (arg6 : Memref sig .tc .vmem S1x1024 .f32) (harg6 : arg6.IsWhole) (arg7 : Memref
  sig .tc .vmem S1024x5632 .bf16) (harg7 : arg7.IsWhole) (arg8 : Memref sig .tc .vmem S2816x1024 .bf16) (harg8 :
  arg8.IsWhole) (arg9 : Memref sig .tc .vmem S1x4x256x1024 .f32) (harg9 : arg9.IsWhole) (arg10 : Memref sig .tc .vmem
  S8x1024x128 .f32) (harg10 : arg10.IsWhole)
  (x0 : Vec F S1x8x1024x128 .bf16) (x1 : Vec F S1x1024x1024 .f32) (x2 : Vec F S1x6x1024 .f32) (x3 : Vec F S1024x1024 .bf16)
  (x4 : Vec F S1x1024 .f32) (x5 : Vec F S1024x5632 .bf16) (x6 : Vec F S2816x1024 .bf16)

/-- The call's rows, from its operands' blocks. -/
def rows : FVec F S1024x1024 .f32 :=
  blocks (k0_pay4 (modRow x2 3)) (k0_pay5 x4 (modRow x2 4)) (k0_pay6 (modRow x2 5)) x5 x6
    (k0_pay3 (k0_pay2 (head x0 0) (head x0 1) (head x0 2) (head x0 3) (head x0 4) (head x0 5) (head x0 6) (head x0 7) x3) x1 (modRow x2 2))

theorem rows_loads : kernelRun0_A.sl.r_16 c arg2 harg2 arg3 harg3 arg4 harg4 arg5 harg5 arg6 harg6 arg7 harg7 arg8 harg8 x0 x1 x2 x3 x4 x5 x6
    = blocks (k0_pay4 (modAt arg4 harg4 x2 3 inb_S1x6x1024_S1x1x1024_0_3_0))
    (k0_pay5 (View.readAt (Elt F) arg6.view (Rect.unit ![0, 0] S1x1024.size inb_S1x1024_S1x1024_0_0 : Rect S1x1024).toLoadRect (harg6.unread x4))
      (modAt arg4 harg4 x2 4 inb_S1x6x1024_S1x1x1024_0_4_0))
    (k0_pay6 (modAt arg4 harg4 x2 5 inb_S1x6x1024_S1x1x1024_0_5_0))
    (View.readAt (Elt F) arg7.view (Rect.unit ![0, 0] S1024x5632.size inb_S1024x5632_S1024x5632_0_0 : Rect S1024x5632).toLoadRect (harg7.unread x5))
    (View.readAt (Elt F) arg8.view (Rect.unit ![0, 0] S2816x1024.size inb_S2816x1024_S2816x1024_0_0 : Rect S2816x1024).toLoadRect (harg8.unread x6))
    (k0_pay3 (k0_pay2
      (headAt arg2 harg2 x0 0 inb_S1x8x1024x128_S1x1x1024x128_0_0_0_0) (headAt arg2 harg2 x0 1 inb_S1x8x1024x128_S1x1x1024x128_0_1_0_0)
      (headAt arg2 harg2 x0 2 inb_S1x8x1024x128_S1x1x1024x128_0_2_0_0) (headAt arg2 harg2 x0 3 inb_S1x8x1024x128_S1x1x1024x128_0_3_0_0)
      (headAt arg2 harg2 x0 4 inb_S1x8x1024x128_S1x1x1024x128_0_4_0_0) (headAt arg2 harg2 x0 5 inb_S1x8x1024x128_S1x1x1024x128_0_5_0_0)
      (headAt arg2 harg2 x0 6 inb_S1x8x1024x128_S1x1x1024x128_0_6_0_0) (headAt arg2 harg2 x0 7 inb_S1x8x1024x128_S1x1x1024x128_0_7_0_0)
      (View.readAt (Elt F) arg5.view (Rect.unit ![0, 0] S1024x1024.size inb_S1024x1024_S1024x1024_0_0 : Rect S1024x1024).toLoadRect (harg5.unread x3)))
      (View.readAt (Elt F) arg3.view (Rect.unit ![0, 0, 0] S1x1024x1024.size inb_S1x1024x1024_S1x1024x1024_0_0_0 : Rect S1x1024x1024).toLoadRect (harg3.unread x1))
      (modAt arg4 harg4 x2 2 inb_S1x6x1024_S1x1x1024_0_2_0)) := rfl

theorem rows_eq : kernelRun0_A.sl.r_16 c arg2 harg2 arg3 harg3 arg4 harg4 arg5 harg5 arg6 harg6 arg7 harg7 arg8 harg8 x0 x1 x2 x3 x4 x5 x6
    = rows x0 x1 x2 x3 x4 x5 x6 := by
  rw [rows_loads]
  rw [mod_read, mod_read, mod_read, mod_read, head_read, head_read, head_read, head_read, head_read, head_read, head_read, head_read,
    whole_read _ harg6 x4 _ (by decide), whole_read _ harg7 x5 _ (by decide), whole_read _ harg8 x6 _ (by decide),
    whole_read _ harg5 x3 _ (by decide), whole_read _ harg3 x1 _ (by decide)]
  rfl

theorem out_eq : out0_A_7 c i arg2 harg2 arg3 harg3 arg4 harg4 arg5 harg5 arg6 harg6 arg7 harg7 arg8 harg8 arg9 harg9 arg10 harg10 x0 x1 x2 x3 x4 x5 x6
    = View.canon (leaves arg10 (rows x0 x1 x2 x3 x4 x5 x6) 32 (le_refl 32)) := by
  unfold out0_A_7
  rw [View.read_writes_junk_eq_canon, leaves_eq, rows_eq]

end

/-! ## Over the extended reals -/

variable (x0 : Vec Ideal S1x8x1024x128 .bf16) (x1 : Vec Ideal S1x1024x1024 .f32) (x2 : Vec Ideal S1x6x1024 .f32) (x3 : Vec Ideal S1024x1024 .bf16)
  (x4 : Vec Ideal S1x1024 .f32) (x5 : Vec Ideal S1024x5632 .bf16) (x6 : Vec Ideal S2816x1024 .bf16)

/-- The head slabs side by side, projected. -/
def proj (s e : Fin 1024) : EReal :=
  ∑ l : Fin 1024, x0 (ix4 0 ⟨l / 128, by omega⟩ s ⟨l % 128, by omega⟩) * x3 (ix2 l e)

theorem proj_apply (s e : Fin 1024) : k0_pay2 (head x0 0) (head x0 1) (head x0 2) (head x0 3) (head x0 4) (head x0 5) (head x0 6) (head x0 7) x3 (ix2 s e)
    = proj x0 x3 s e := by
  pointwise [k0_pay2]
  unfold proj
  refine Finset.sum_congr rfl fun l _ => ?_
  congr 1
  unfold head
  split_ifs <;> exact congrArg x0 (by
    funext a
    apply Fin.ext
    fin_cases a <;> simp <;> omega)

theorem rows_apply (s e : Fin 1024) : rows x0 x1 x2 x3 x4 x5 x6 (ix2 s e)
    = row (fun l => x2 (ix3 0 3 l)) (fun l => x4 (ix2 0 l) * (Ideal.ofBits .f32 0x3F800000#32 + x2 (ix3 0 4 l)))
        (fun l => x2 (ix3 0 5 l)) (fun l n => x5 (ix2 l n)) (fun n l => x6 (ix2 n l))
        (fun k => x1 (ix3 0 s k) + x2 (ix3 0 2 k) * proj x0 x3 s k) e := by
  have h3 : ∀ l, k0_pay4 (modRow x2 3) (ix2 0 l) = x2 (ix3 0 3 l) := fun l => by pointwise [k0_pay4, modRow]
  have h4 : ∀ l, k0_pay5 x4 (modRow x2 4) (ix2 0 l) = x4 (ix2 0 l) * (Ideal.ofBits .f32 0x3F800000#32 + x2 (ix3 0 4 l)) := fun l => by
    pointwise [k0_pay5, modRow]
  have h5 : ∀ l, k0_pay6 (modRow x2 5) (ix2 0 l) = x2 (ix3 0 5 l) := fun l => by pointwise [k0_pay6, modRow]
  have h1 : ∀ (y : FVec Ideal S1024x1024 .f32) (k : Fin 1024), k0_pay3 y x1 (modRow x2 2) (ix2 s k)
      = x1 (ix3 0 s k) + x2 (ix3 0 2 k) * y (ix2 s k) := fun y k => by pointwise [k0_pay3, modRow]
  unfold rows
  refine (blocks_apply _ _ _ _ _ _ s e).trans ?_
  simp only [h1, h3, h4, h5, proj_apply]

end Cert.Kernel3Ideal.Ffn

end
-- ==== Proof.Ffn3Heads.lean ====
/- The attention's head slabs and the projection's rows in the slabs' order: their product is the plain one. -/
module

public import proofs.«01_k».proof.Proof.Gen.Kernel3Ideal
public import Idealize.ShloMosaic.Lib.Pointwise

@[expose] public section

noncomputable section

namespace Cert.Kernel3Ideal.Ffn

open Cert.Kernel3Ideal Cert.Kernel3Ideal.Gen Cert.Kernel3Ideal.Facts Idealize.ShloMosaic

section
variable {F : FTy → Type} [FloatOps F]

def headsA (a : FVec F S8x2048x512 .f32) : FVec F S8x4x2048x128 .f32 :=
  transpose S8x4x2048x128 [0, 2, 1, 3] (shapeCast S8x2048x4x128 a shapeCasts_S8x2048x512_S8x2048x4x128) transposes_S8x2048x4x128_S8x4x2048x128_0_2_1_3

def headsB (b : FVec F S8x2048x512 .f32) : FVec F S8x4x2048x128 .f32 :=
  shapeCast S8x4x2048x128 (transpose S8x4x2048x2x64 [0, 3, 1, 2, 4] (shapeCast S8x2048x2x4x64 b shapeCasts_S8x2048x512_S8x2048x2x4x64)
    transposes_S8x2048x2x4x64_S8x4x2048x2x64_0_3_1_2_4) shapeCasts_S8x4x2048x2x64_S8x4x2048x128

/-- The head slabs: the differential heads, then two grouped-query heads to a slab. -/
def heads (a b : FVec F S8x2048x512 .f32) : FVec F S8x8x2048x128 .f32 :=
  concatenate S8x8x2048x128 1 [⟨S8x4x2048x128, headsA a⟩, ⟨S8x4x2048x128, headsB b⟩] concatenates_S8x4x2048x128_S8x4x2048x128_S8x8x2048x128_d1

def weightsB (w : FVec F S1024x1024 .f32) : FVec F S512x1024 .f32 :=
  shapeCast S512x1024 (transpose S4x2x64x1024 [1, 0, 2, 3] (shapeCast S2x4x64x1024
    (extractStridedSlice S512x1024 ![512, 0] w slices_S1024x1024_S512x1024_512_0) shapeCasts_S512x1024_S2x4x64x1024)
    transposes_S2x4x64x1024_S4x2x64x1024_1_0_2_3) shapeCasts_S4x2x64x1024_S512x1024

/-- The projection's rows, in the slabs' order. -/
def weights (w : FVec F S1024x1024 .f32) : FVec F S1024x1024 .f32 :=
  concatenate S1024x1024 0 [⟨S512x1024, extractStridedSlice S512x1024 ![0, 0] w slices_S1024x1024_S512x1024_0_0⟩, ⟨S512x1024, weightsB w⟩]
    concatenates_S512x1024_S512x1024_S1024x1024_d0

end

/-- Lane `i` of the grouped-query slabs: slab `i / 128`, key head `i / 64 % 2`. In the plain order the key head comes first. -/
def swap (i : Nat) : Nat := i / 64 % 2 * 256 + i / 128 * 64 + i % 64

def swapBack (i : Nat) : Nat := i / 64 % 4 * 128 + i / 256 * 64 + i % 64

theorem swap_lt (i : Nat) (h : i < 512) : swap i < 512 := by unfold swap; omega
theorem swapBack_lt (i : Nat) (h : i < 512) : swapBack i < 512 := by unfold swapBack; omega

theorem swapBack_swap (i : Nat) (h : i < 512) : swapBack (swap i) = i := by
  have key : ∀ p q d : Nat, p < 4 → q < 2 → d < 64 → swapBack (q * 256 + p * 64 + d) = p * 128 + q * 64 + d := by
    intro p q d hp hq hd
    unfold swapBack
    have h1 : (q * 256 + p * 64 + d) / 64 = q * 4 + p := by omega
    have h2 : (q * 256 + p * 64 + d) / 256 = q := by omega
    have h3 : (q * 256 + p * 64 + d) % 64 = d := by omega
    rw [h1, h2, h3]
    omega
  unfold swap
  rw [key _ _ _ (by omega) (by omega) (by omega)]
  omega

theorem swap_swapBack (i : Nat) (h : i < 512) : swap (swapBack i) = i := by
  have key : ∀ p q d : Nat, p < 4 → q < 2 → d < 64 → swap (p * 128 + q * 64 + d) = q * 256 + p * 64 + d := by
    intro p q d hp hq hd
    unfold swap
    have h1 : (p * 128 + q * 64 + d) / 64 = p * 2 + q := by omega
    have h2 : (p * 128 + q * 64 + d) / 128 = p := by omega
    have h3 : (p * 128 + q * 64 + d) % 64 = d := by omega
    rw [h1, h2, h3]
    omega
  unfold swapBack
  rw [key _ _ _ (by omega) (by omega) (by omega)]
  omega

theorem low (l : Fin 1024) : l.1 - 512 < 512 := by omega

/-- Where lane `l` of the slabs lies in the plain order. -/
def lies : Fin 1024 ≃ Fin 1024 where
  toFun l := if l.1 < 512 then l else ⟨512 + swap (l.1 - 512), by have := swap_lt (l.1 - 512) (low l); omega⟩
  invFun l := if l.1 < 512 then l else ⟨512 + swapBack (l.1 - 512), by have := swapBack_lt (l.1 - 512) (low l); omega⟩
  left_inv l := by
    by_cases h : l.1 < 512
    · simp [h]
    · apply Fin.ext
      simp [h, swapBack_swap _ (low l)]
      omega
  right_inv l := by
    by_cases h : l.1 < 512
    · simp [h]
    · apply Fin.ext
      simp [h, swap_swapBack _ (low l)]
      omega

theorem lies_of_lt (l : Fin 1024) (h : l.1 < 512) : lies l = l := if_pos h

theorem lies_of_not_lt (l : Fin 1024) (h : ¬l.1 < 512) : (lies l).1 = 512 + swap (l.1 - 512) := congrArg Fin.val (if_neg h)

/-- The two attentions' outputs side by side. -/
def joined (a b : FVec Ideal S8x2048x512 .f32) (n : Fin 8) (s : Fin 2048) (l : Fin 1024) : EReal :=
  if h : l.1 < 512 then a (ix3 n s ⟨l.1, h⟩) else b (ix3 n s ⟨l.1 - 512, by omega⟩)

theorem headsA_apply (a : FVec Ideal S8x2048x512 .f32) (n : Fin 8) (u : Fin 4) (s : Fin 2048) (l : Fin 128) :
    headsA a (ix4 n u s l) = a (ix3 n s ⟨u * 128 + l, by omega⟩) := by
  pointwise [headsA]

theorem headsB_apply (b : FVec Ideal S8x2048x512 .f32) (n : Fin 8) (u : Fin 4) (s : Fin 2048) (l : Fin 128) :
    headsB b (ix4 n u s l) = b (ix3 n s ⟨l / 64 * 256 + u * 64 + l % 64, by omega⟩) := by
  pointwise [headsB]

theorem weightsB_apply (w : FVec Ideal S1024x1024 .f32) (l : Fin 512) (e : Fin 1024) :
    weightsB w (ix2 l e) = w (ix2 ⟨512 + swap l, by have := swap_lt l.1 l.2; omega⟩ e) := by
  pointwise [weightsB]
  rfl

theorem heads_apply (a b : FVec Ideal S8x2048x512 .f32) (n : Fin 8) (s : Fin 2048) (l : Fin 1024) :
    heads a b (ix4 n ⟨l / 128, by omega⟩ s ⟨l % 128, by omega⟩) = joined a b n s (lies l) := by
  pointwise [heads]
  by_cases h : l.1 < 512
  · rw [dif_pos (show l.1 / 128 < 4 by omega), headsA_apply, lies_of_lt l h]
    unfold joined
    rw [dif_pos h]
    exact congrArg (fun k => a (ix3 n s k)) (Fin.ext (show l.1 / 128 * 128 + l.1 % 128 = l.1 by omega))
  · have hl := lies_of_not_lt l h
    rw [dif_neg (show ¬l.1 / 128 < 4 by omega), headsB_apply]
    unfold joined
    rw [dif_neg (show ¬(lies l).1 < 512 by omega)]
    refine congrArg (fun k => b (ix3 n s k)) (Fin.ext ?_)
    show l.1 % 128 / 64 * 256 + (l.1 / 128 - 4) * 64 + l.1 % 128 % 64 = (lies l).1 - 512
    rw [hl]
    unfold swap
    omega

theorem weights_apply (w : FVec Ideal S1024x1024 .f32) (l e : Fin 1024) : weights w (ix2 l e) = w (ix2 (lies l) e) := by
  pointwise [weights]
  by_cases h : l.1 < 512
  · rw [dif_pos h, lies_of_lt l h]
  · rw [dif_neg h, weightsB_apply]
    exact congrArg (fun k => w (ix2 k e)) (Fin.ext (lies_of_not_lt l h).symm)

/-- The slabs against the rows in their order, or the outputs side by side against the plain rows. -/
theorem headed_sum (a b : FVec Ideal S8x2048x512 .f32) (w : FVec Ideal S1024x1024 .f32) (n : Fin 8) (s : Fin 2048) (k : Fin 1024) :
    ∑ l : Fin 1024, heads a b (ix4 n ⟨l / 128, by omega⟩ s ⟨l % 128, by omega⟩) * weights w (ix2 l k)
      = ∑ l : Fin 1024, joined a b n s l * w (ix2 l k) := by
  refine (Finset.sum_congr rfl fun l _ => ?_).trans (Equiv.sum_comp lies fun l => joined a b n s l * w (ix2 l k))
  rw [heads_apply, weights_apply]

end Cert.Kernel3Ideal.Ffn

end
-- ==== Proof.Ffn3Out.lean ====
/- The call after the attention: its operands, its blocks, and the array they make up. -/
module

public import proofs.«01_k».proof.Proof.Ffn3Body
public import proofs.«01_k».proof.Proof.Ffn3Heads
public import proofs.«01_k».proof.Proof.Gen.Kernel3Ideal.Value
public import Idealize.ShloMosaic.Lib.Pointwise
public import Idealize.ShloMosaic.Lib.Pipeline.ValueKit

@[expose] public section

noncomputable section

namespace Cert.Kernel3Ideal.Ffn

open Cert.Kernel3Ideal Cert.Kernel3Ideal.Gen Idealize.ShloMosaic Idealize.ShloMosaic.TcCoe Idealize.SL.Sem Cert.Ffn

theorem pt_lt (t : Fin cfg0.N) : t.1 / 2 < 8 := by
  have := t.2
  change t.1 < 16 at this
  omega

variable (m : (ℓ : Loc nD τ sig) → Buf (Elt Ideal) ℓ) (c : Dev nD) (t : Fin cfg0.N)

theorem idx0 : ∀ t : Fin cfg0.N, (cfg0.win 0).index t = ![t.1 / 2, 0, t.1 % 2, 0] := by decide +kernel
theorem idx1 : ∀ t : Fin cfg0.N, (cfg0.win 1).index t = ![t.1 / 2, t.1 % 2, 0] := by decide +kernel
theorem idx2 : ∀ t : Fin cfg0.N, (cfg0.win 2).index t = ![t.1 / 2, 0, 0] := by decide +kernel
theorem idx3 : ∀ t : Fin cfg0.N, (cfg0.win 3).index t = ![0, 0] := by decide +kernel
theorem idx4 : ∀ t : Fin cfg0.N, (cfg0.win 4).index t = ![0, 0] := by decide +kernel
theorem idx5 : ∀ t : Fin cfg0.N, (cfg0.win 5).index t = ![0, 0] := by decide +kernel
theorem idx6 : ∀ t : Fin cfg0.N, (cfg0.win 6).index t = ![0, 0] := by decide +kernel
theorem idx7 : ∀ t : Fin cfg0.N, (cfg0.win 7).index t = ![t.1 / 2, 0, t.1 % 2, 0] := by decide +kernel

/-- The arguments: the two attentions' outputs, the tokens, the modulation, the projection, the norm's weight, the two weights. -/
abbrev aA : FVec Ideal S8x2048x512 .f32 := m ((c.tc : Thread nD τ).loc main_arg0)
abbrev aB : FVec Ideal S8x2048x512 .f32 := m ((c.tc : Thread nD τ).loc main_arg1)
abbrev aX : FVec Ideal S8x2048x1024 .f32 := m ((c.tc : Thread nD τ).loc main_arg2)
abbrev aM : FVec Ideal S8x6144 .f32 := m ((c.tc : Thread nD τ).loc main_arg3)
abbrev aW : FVec Ideal S1024x1024 .f32 := m ((c.tc : Thread nD τ).loc main_arg4)
abbrev aG : FVec Ideal S1024 .f32 := m ((c.tc : Thread nD τ).loc main_arg5)
abbrev aU : FVec Ideal S1024x5632 .f32 := m ((c.tc : Thread nD τ).loc main_arg6)
abbrev aD : FVec Ideal S2816x1024 .f32 := m ((c.tc : Thread nD τ).loc main_arg7)

theorem V_o : V m c main_v6 = truncf .bf16 (heads (aA m c) (aB m c)) bitsLt_bf16_f32 := by entry_read; rfl
theorem V_x : V m c main_arg2 = aX m c := by entry_read; rfl
theorem V_m : V m c main_v7 = shapeCast S8x6x1024 (aM m c) shapeCasts_S8x6144_S8x6x1024 := by entry_read; rfl
theorem V_w : V m c main_v14 = truncf .bf16 (weights (aW m c)) bitsLt_bf16_f32 := by entry_read; rfl
theorem V_g : V m c main_v15 = shapeCast S1x1024 (aG m c) shapeCasts_S1024_S1x1024 := by entry_read; rfl
theorem V_U : V m c main_v16 = truncf .bf16 (aU m c) bitsLt_bf16_f32 := by entry_read; rfl
theorem V_D : V m c main_v17 = truncf .bf16 (aD m c) bitsLt_bf16_f32 := by entry_read; rfl

theorem o_read (u : Fin 8) (s : Fin 1024) (l : Fin 128) : iblk m c 0 t (ix4 0 u s l)
    = heads (aA m c) (aB m c) (ix4 ⟨t.1 / 2, pt_lt t⟩ u ⟨1024 * (t.1 % 2) + s, by omega⟩ l) := by
  have h : iblk m c 0 t (ix4 0 u s l) = V m c main_v6 (ix4 ⟨t.1 / 2, pt_lt t⟩ u ⟨1024 * (t.1 % 2) + s, by omega⟩ l) := by
    blk_simp [iblk]
    blk_point [iblk, idx0 t]
  rw [h, V_o]
  rfl

theorem x_read (s e : Fin 1024) : iblk m c 1 t (ix3 0 s e) = aX m c (ix3 ⟨t.1 / 2, pt_lt t⟩ ⟨1024 * (t.1 % 2) + s, by omega⟩ e) := by
  have h : iblk m c 1 t (ix3 0 s e) = V m c main_arg2 (ix3 ⟨t.1 / 2, pt_lt t⟩ ⟨1024 * (t.1 % 2) + s, by omega⟩ e) := by
    blk_simp [iblk]
    blk_point [iblk, idx1 t]
  rw [h, V_x]

theorem m_read (o : Fin 6) (e : Fin 1024) : iblk m c 2 t (ix3 0 o e) = aM m c (ix2 ⟨t.1 / 2, pt_lt t⟩ ⟨1024 * o + e, by omega⟩) := by
  have h : iblk m c 2 t (ix3 0 o e) = V m c main_v7 (ix3 ⟨t.1 / 2, pt_lt t⟩ o e) := by
    blk_simp [iblk]
    blk_point [iblk, idx2 t]
  rw [h, V_m]
  pointwise
  simp only [Nat.mul_comm]

theorem w_read (l e : Fin 1024) : iblk m c 3 t (ix2 l e) = weights (aW m c) (ix2 l e) := by
  have h : iblk m c 3 t (ix2 l e) = V m c main_v14 (ix2 l e) := by
    blk_simp [iblk]
    blk_point [iblk, idx3 t]
  rw [h, V_w]
  rfl

theorem g_read (e : Fin 1024) : iblk m c 4 t (ix2 0 e) = aG m c (ix1 e) := by
  have h : iblk m c 4 t (ix2 0 e) = V m c main_v15 (ix2 0 e) := by
    blk_simp [iblk]
    blk_point [iblk, idx4 t]
  rw [h, V_g]
  pointwise

theorem U_read (l : Fin 1024) (n : Fin 5632) : iblk m c 5 t (ix2 l n) = aU m c (ix2 l n) := by
  have h : iblk m c 5 t (ix2 l n) = V m c main_v16 (ix2 l n) := by
    blk_simp [iblk]
    blk_point [iblk, idx5 t]
  rw [h, V_U]
  rfl

theorem D_read (n : Fin 2816) (l : Fin 1024) : iblk m c 6 t (ix2 n l) = aD m c (ix2 n l) := by
  have h : iblk m c 6 t (ix2 n l) = V m c main_v17 (ix2 n l) := by
    blk_simp [iblk]
    blk_point [iblk, idx6 t]
  rw [h, V_D]
  rfl

/-- The layer's result on token `s`. -/
def outR (oa ob : FVec Ideal S8x2048x512 .f32) (x : FVec Ideal S8x2048x1024 .f32) (md : FVec Ideal S8x6144 .f32)
    (w : FVec Ideal S1024x1024 .f32) (g : FVec Ideal S1024 .f32) (U : FVec Ideal S1024x5632 .f32)
    (D : FVec Ideal S2816x1024 .f32) (b : Fin 8) (s : Fin 2048) (e : Fin 1024) : EReal :=
  row (fun l => md (ix2 b ⟨3072 + l, by omega⟩))
    (fun l => g (ix1 l) * (Ideal.ofBits .f32 0x3F800000#32 + md (ix2 b ⟨4096 + l, by omega⟩)))
    (fun l => md (ix2 b ⟨5120 + l, by omega⟩)) (fun l n => U (ix2 l n)) (fun n l => D (ix2 n l))
    (fun k => x (ix3 b s k) + md (ix2 b ⟨2048 + k, by omega⟩) * ∑ l : Fin 1024, joined oa ob b s l * w (ix2 l k)) e

theorem rows_out (s e : Fin 1024) :
    rows (iblk m c 0 t) (iblk m c 1 t) (iblk m c 2 t) (iblk m c 3 t) (iblk m c 4 t) (iblk m c 5 t) (iblk m c 6 t) (ix2 s e)
      = outR (aA m c) (aB m c) (aX m c) (aM m c) (aW m c) (aG m c) (aU m c) (aD m c) ⟨t.1 / 2, pt_lt t⟩ ⟨1024 * (t.1 % 2) + s, by omega⟩ e := by
  have hp : ∀ k, proj (iblk m c 0 t) (iblk m c 3 t) s k
      = ∑ l : Fin 1024, joined (aA m c) (aB m c) ⟨t.1 / 2, pt_lt t⟩ ⟨1024 * (t.1 % 2) + s, by omega⟩ l * aW m c (ix2 l k) := by
    intro k
    rw [← headed_sum]
    unfold proj
    simp only [o_read, w_read]
  rw [rows_apply]
  unfold outR
  simp only [hp, x_read, m_read, g_read, U_read, D_read]
  rfl

theorem block_out (i : grid0.Coords)
  (arg2 : Memref sig .tc .vmem S1x8x1024x128 .bf16) (harg2 : arg2.IsWhole) (arg3 : Memref sig .tc .vmem S1x1024x1024 .f32)
  (harg3 : arg3.IsWhole) (arg4 : Memref sig .tc .vmem S1x6x1024 .f32) (harg4 : arg4.IsWhole) (arg5 : Memref sig .tc .vmem
  S1024x1024 .bf16) (harg5 : arg5.IsWhole) (arg6 : Memref sig .tc .vmem S1x1024 .f32) (harg6 : arg6.IsWhole) (arg7 : Memref
  sig .tc .vmem S1024x5632 .bf16) (harg7 : arg7.IsWhole) (arg8 : Memref sig .tc .vmem S2816x1024 .bf16) (harg8 :
  arg8.IsWhole) (arg9 : Memref sig .tc .vmem S1x4x256x1024 .f32) (harg9 : arg9.IsWhole) (arg10 : Memref sig .tc .vmem
  S8x1024x128 .f32) (harg10 : arg10.IsWhole) (r : Fin 4) (n : Fin 256) (e : Fin 1024) :
    out0_A_7 c i arg2 harg2 arg3 harg3 arg4 harg4 arg5 harg5 arg6 harg6 arg7 harg7 arg8 harg8 arg9 harg9 arg10 harg10 (iblk m c 0 t) (iblk m c 1 t) (iblk m c 2 t) (iblk m c 3 t) (iblk m c 4 t) (iblk m c 5 t) (iblk m c 6 t) (ix4 0 r n e)
      = outR (aA m c) (aB m c) (aX m c) (aM m c) (aW m c) (aG m c) (aU m c) (aD m c) ⟨t.1 / 2, pt_lt t⟩
        ⟨4 * (256 * (t.1 % 2) + n) + r, by omega⟩ e := by
  rw [out_eq, result, rows_out]
  refine congrArg (fun s => outR (aA m c) (aB m c) (aX m c) (aM m c) (aW m c) (aG m c) (aU m c) (aD m c) ⟨t.1 / 2, pt_lt t⟩ s e) (Fin.ext ?_)
  show 1024 * (t.1 % 2) + (4 * n.1 + r.1) = 4 * (256 * (t.1 % 2) + n.1) + r.1
  omega

theorem covers7 : (cfg0.win 7).Covers := by decide +kernel

/-- The array that holds `G`, if every block does. -/
theorem outArr (G : S8x4x512x1024.Idx → Elt Ideal .f32)
   (h : ∀ (t : Fin cfg0.N) (j : S1x4x256x1024.Idx), outsAt0 m c t j
      = G (ix4 ⟨t.1 / 2, pt_lt t⟩ (j 1) ⟨256 * (t.1 % 2) + (j 2).1, by have := (j 2).2; change (j 2).1 < 256 at this; omega⟩ (j 3))) :
   (dats m 0 c).arrAt 7 cfg0.N = G := by
  refine Pipeline.Dat.arrAt_eq_of_covers (dats m 0 c) 7 G covers7 ?_
  intro t _ y
  have e := h t
  rw [← after0_7 m c t] at e
  generalize (dats m 0 c).after 7 t = f at e ⊢
  blk_simp
  refine (e y).trans ?_
  blk_point [idx7 t]

/-- The array that the blocks make up: the tokens four apart. -/
theorem kernel_out : (dats m 0 c).arrAt 7 cfg0.N
    = fun i : S8x4x512x1024.Idx => outR (aA m c) (aB m c) (aX m c) (aM m c) (aW m c) (aG m c) (aU m c) (aD m c) (i 0)
      ⟨4 * (i 2).1 + (i 1).1, by
        have h1 := (i 1).2; have h2 := (i 2).2; change (i 1).1 < 4 at h1; change (i 2).1 < 512 at h2; omega⟩ (i 3) := by
  refine outArr m c _ fun t j => ?_
  have hj : j = ix4 0 (j 1) (j 2) (j 3) := by
    funext a
    fin_cases a
    · exact Subsingleton.elim (α := Fin 1) _ _
    · rfl
    · rfl
    · rfl
  rw [hj]
  exact block_out m c t _ _ _ _ _ _ _ _ _ _ _ _ _ _ _ _ _ _ _ (j 1) (j 2) (j 3)

end Cert.Kernel3Ideal.Ffn

end
-- ==== Proof.Ffn3Pair.lean ====
/- The call after the attention: its program and the reference end with the same result, entry by entry. -/
module

public import proofs.«01_k».proof.Defs
public import proofs.«01_k».proof.Proof.Ffn3Out
public import proofs.«01_k».proof.Proof.FfnRef
public import proofs.«01_k».proof.Proof.Gen.Reference3Ideal.Run
public import Idealize.ShloMosaic.Lib.Claim

@[expose] public section

noncomputable section

namespace Cert.Reference3Ideal.Ffn

open Cert.Reference3Ideal Cert.Reference3Ideal.Gen Cert.Reference3Ideal.Facts
open Idealize.ShloMosaic Idealize.ShloMosaic.TcCoe Idealize.SL.Sem Cert.Ffn

section
variable {F : FTy → Type} [FloatOps F]

/-- The two attentions' outputs side by side, projected. -/
def projected (a b : FVec F S8x2048x512 .f32) (w : FVec F S1024x1024 .f32) : FVec F S8x2048x1024 .f32 :=
  Host.dotGeneral dot_S8x2048x1024_S1024x1024_S8x2048x1024_2_0_01_1_n_n none
    (concatenate S8x2048x1024 2 [⟨S8x2048x512, a⟩, ⟨S8x2048x512, b⟩] concatenates_S8x2048x512_S8x2048x512_S8x2048x1024_d2) w

/-- The tokens taken four apart. -/
def apart (x : FVec F S8x2048x1024 .f32) : FVec F S8x4x512x1024 .f32 :=
  transpose S8x4x512x1024 [0, 2, 1, 3] (shapeCast S8x512x4x1024 x shapeCasts_S8x2048x1024_S8x512x4x1024)
    transposes_S8x512x4x1024_S8x4x512x1024_0_2_1_3

/-- The reference's result is the layer on the gated sum, its tokens taken four apart. -/
theorem res_eq (m : (ℓ : Loc nD τ sig) → Buf (Elt F) ℓ) (c : Dev nD) : Value.res_main_v46 m c
    = apart (layer (mixed (m ((c.tc : Thread nD τ).loc main_arg2)) (m ((c.tc : Thread nD τ).loc main_arg3))
        (projected (m ((c.tc : Thread nD τ).loc main_arg0)) (m ((c.tc : Thread nD τ).loc main_arg1)) (m ((c.tc : Thread nD τ).loc main_arg4))))
        (m ((c.tc : Thread nD τ).loc main_arg3)) (m ((c.tc : Thread nD τ).loc main_arg5)) (m ((c.tc : Thread nD τ).loc main_arg6))
        (m ((c.tc : Thread nD τ).loc main_arg7))) := by
  unfold Value.res_main_v46
  rfl

end

theorem projected_apply (a b : FVec Ideal S8x2048x512 .f32) (w : FVec Ideal S1024x1024 .f32) (n : Fin 8) (s : Fin 2048) (e : Fin 1024) :
    projected a b w (ix3 n s e) = ∑ l : Fin 1024, Cert.Kernel3Ideal.Ffn.joined a b n s l * w (ix2 l e) := by
  pointwise [projected]
  refine Eq.trans (congrArg₂ (fun x y : EReal => x + y) (Finset.sum_congr rfl fun l _ => ?_) (Finset.sum_congr rfl fun l _ => ?_))
    (Fin.sum_univ_add (a := 512) (b := 512) fun l : Fin 1024 => Cert.Kernel3Ideal.Ffn.joined a b n s l * w (ix2 l e)).symm
  · refine congrArg₂ (fun x y : EReal => x * y) ?_ rfl
    unfold Cert.Kernel3Ideal.Ffn.joined
    rw [dif_pos (show (Fin.castAdd 512 l : Fin 1024).1 < 512 from l.2)]
    rfl
  · refine congrArg₂ (fun x y : EReal => x * y) ?_ rfl
    unfold Cert.Kernel3Ideal.Ffn.joined
    rw [dif_neg (show ¬(Fin.natAdd 512 l : Fin 1024).1 < 512 from by show ¬512 + l.1 < 512; omega)]
    exact congrArg (fun k => b (ix3 n s k)) (Fin.ext (show l.1 = 512 + l.1 - 512 by omega))

theorem apart_apply (x : FVec Ideal S8x2048x1024 .f32) (n : Fin 8) (r : Fin 4) (q : Fin 512) (e : Fin 1024) :
    apart x (ix4 n r q e) = x (ix3 n ⟨4 * q + r, by omega⟩ e) := by
  pointwise [apart]
  simp only [Nat.mul_comm]

end Cert.Reference3Ideal.Ffn

namespace Cert.Proof

open Idealize.ShloMosaic Idealize.ShloMosaic.TcCoe Idealize.SL.Sem Cert.Ffn Cert.Reference3Ideal.Ffn
open Cert.Kernel3Ideal

/-- The reference's result at an index. -/
theorem ref3_apply (a b : FVec Ideal S8x2048x512 .f32) (x : FVec Ideal S8x2048x1024 .f32) (md : FVec Ideal S8x6144 .f32)
    (w : FVec Ideal S1024x1024 .f32) (g : FVec Ideal S1024 .f32) (U : FVec Ideal S1024x5632 .f32) (D : FVec Ideal S2816x1024 .f32)
    (n : Fin 8) (r : Fin 4) (q : Fin 512) (e : Fin 1024) :
    apart (layer (mixed x md (projected a b w)) md g U D) (ix4 n r q e)
      = Cert.Kernel3Ideal.Ffn.outR a b x md w g U D n ⟨4 * q + r, by omega⟩ e := by
  rw [apart_apply, layer_apply]
  simp only [mixed_apply, projected_apply]
  rfl

theorem algebraic3 : Cert.algebraic_Kernel3Ideal_Reference3Ideal := by
  intro m g m' g' _ hagree
  refine ⟨fun c => (fun i : S8x4x512x1024.Idx => Cert.Kernel3Ideal.Ffn.outR (Cert.Kernel3Ideal.Ffn.aA m c) (Cert.Kernel3Ideal.Ffn.aB m c)
    (Cert.Kernel3Ideal.Ffn.aX m c) (Cert.Kernel3Ideal.Ffn.aM m c) (Cert.Kernel3Ideal.Ffn.aW m c) (Cert.Kernel3Ideal.Ffn.aG m c)
    (Cert.Kernel3Ideal.Ffn.aU m c) (Cert.Kernel3Ideal.Ffn.aD m c) (i 0)
      ⟨4 * (i 2).1 + (i 1).1, by
        have h1 := (i 1).2; have h2 := (i 2).2; change (i 1).1 < 4 at h1; change (i 2).1 < 512 at h2; omega⟩ (i 3)), ?_, ?_⟩
  · refine θ_run_mono (Cert.Kernel3Ideal.Value.run_blocks (F := Ideal) m g) fun r h c => ⟨?_, (h c).2⟩
    exact (h c).1.trans (Cert.Kernel3Ideal.Ffn.kernel_out m c)
  · refine θ_run_mono (Cert.Reference3Ideal.Value.run (F := Ideal) m' g') fun r h c => ⟨?_, (h c).2⟩
    refine (h c).1.trans ((Cert.Reference3Ideal.Ffn.res_eq m' c).trans (funext fun i => ?_))
    obtain ⟨a0, a1, a2, a3, a4, a5, a6, a7⟩ := hagree c
    rw [a0, a1, a2, a3, a4, a5, a6, a7]
    refine (congrArg _ (eq_ix4 i)).trans ?_
    exact ref3_apply _ _ _ _ _ _ _ _ (i 0) (i 1) (i 2) (i 3)

theorem frame3_ideal : Cert.quiescent_Kernel3Ideal := fun m ρ _ => Cert.Kernel3Ideal.Gen.frame (F := Ideal) m ρ

theorem frame3_reference : Cert.quiescent_Reference3Ideal := fun m ρ _ =>
  θ_run_mono (Cert.Reference3Ideal.Value.run (F := Ideal) m ρ) fun r h =>
    ⟨fun c => (h c).2, sem_eq_zero_of_no_sems (by decide) r.2⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Gen.Kernel3Ideal.Value
public import proofs.«01_k».proof.Proof.Gen.Reference3Ideal.Run
public import proofs.«01_k».proof.Proof.Gen.Pre_finite
public import proofs.«01_k».proof.Proof.KernelFrame
public import proofs.«01_k».proof.Proof.Pair
public import proofs.«01_k».proof.Proof.Ffn2Pair
public import proofs.«01_k».proof.Proof.Ffn3Pair
public import Idealize.ShloMosaic.Lib.Claim

@[expose] public section

noncomputable section

namespace Cert.Proof

open Idealize.ShloMosaic Idealize.SL.Sem

theorem frame_ideal : Cert.quiescent_KernelIdeal := fun m ρ _ =>
  Cert.KernelIdeal.Attn.frame (F := Ideal) m ρ

theorem frame_reference : Cert.quiescent_ReferenceIdeal := fun m ρ _ =>
  θ_run_mono (Cert.ReferenceIdeal.Value.run (F := Ideal) m ρ) fun r h =>
    ⟨fun c => (h c).2, sem_eq_zero_of_no_sems (by decide) r.2⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Pre_finite.Gen.facts,
  Cert.Kernel.Attn.frame_kernel, frame_ideal, fun m ρ _ => frame_ideal m ρ trivial, frame_reference, fun m ρ _ => frame_reference m ρ trivial,
  fun m ρ _ => Cert.Kernel2.Gen.frame (F := Bits) m ρ, frame2_ideal, frame2_reference,
  fun m ρ _ => Cert.Kernel3.Gen.frame (F := Bits) m ρ, frame3_ideal, frame3_reference,
  trivial, algebraic, trivial, algebraic2, trivial, algebraic3⟩

end Cert.Proof

end
